-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![520, 153600]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v28_0) i = v0 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v28_1) i = v1 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v28_2) i = v2 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v28_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![520, 153600]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v88) i = v0 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v90) i = v1 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v92) i = v2 c i)
          ∧ (∀ i : (⟨2, ![1200, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v94) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel1_Kernel1Ideal : Prop :=
  True

def algebraic_Kernel1Ideal_Reference1Ideal_on_written1 [hKernel1Ideal : Cert.Kernel1Ideal.Facts] [hReference1Ideal : Cert.Reference1Ideal.Facts] [hOn_written1 : Cert.On_written1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v28_0)) (v1 : (c : Dev Cert.Kernel1Ideal.nD) → Buf (Elt Ideal) ((c.tc : Thread Cert.Kernel1Ideal.nD Cert.Kernel1Ideal.τ).loc Cert.Kernel1Ideal.main_v28_1)) (v2 : (c : Dev Cert.Kernel1Ideal.nD) → Buf (Elt Ideal) ((c.tc : Thread Cert.Kernel1Ideal.nD Cert.Kernel1Ideal.τ).loc Cert.Kernel1Ideal.main_v28_2)) (v3 : (c : Dev Cert.Kernel1Ideal.nD) → Buf (Elt Ideal) ((c.tc : Thread Cert.Kernel1Ideal.nD Cert.Kernel1Ideal.τ).loc Cert.Kernel1Ideal.main_v28_3)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          (∀ i : (⟨2, ![520, 153600]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).1 i = 1#1 → r.2.mem ((c.tc : Thread Cert.Kernel1Ideal.nD Cert.Kernel1Ideal.τ).loc Cert.Kernel1Ideal.main_v28_0) i = v0 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.1 i = 1#1 → r.2.mem ((c.tc : Thread Cert.Kernel1Ideal.nD Cert.Kernel1Ideal.τ).loc Cert.Kernel1Ideal.main_v28_1) i = v1 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.2.1 i = 1#1 → r.2.mem ((c.tc : Thread Cert.Kernel1Ideal.nD Cert.Kernel1Ideal.τ).loc Cert.Kernel1Ideal.main_v28_2) i = v2 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.2.2 i = 1#1 → r.2.mem ((c.tc : Thread Cert.Kernel1Ideal.nD Cert.Kernel1Ideal.τ).loc Cert.Kernel1Ideal.main_v28_3) i = v3 c i)
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          (∀ i : (⟨2, ![520, 153600]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).1 i = 1#1 → r.2.mem ((c.tc : Thread Cert.Reference1Ideal.nD Cert.Reference1Ideal.τ).loc Cert.Reference1Ideal.main_v88) i = v0 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.1 i = 1#1 → r.2.mem ((c.tc : Thread Cert.Reference1Ideal.nD Cert.Reference1Ideal.τ).loc Cert.Reference1Ideal.main_v90) i = v1 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.2.1 i = 1#1 → r.2.mem ((c.tc : Thread Cert.Reference1Ideal.nD Cert.Reference1Ideal.τ).loc Cert.Reference1Ideal.main_v92) i = v2 c i)
          ∧ (∀ i : (⟨2, ![1200, 128]⟩ : Shape).Idx, (Cert.On_written1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9))).2.2.2 i = 1#1 → r.2.mem ((c.tc : Thread Cert.Reference1Ideal.nD Cert.Reference1Ideal.τ).loc Cert.Reference1Ideal.main_v94) i = v3 c i)
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel2_Kernel2Ideal : Prop :=
  True

def algebraic_Kernel2Ideal_Reference2Ideal_on_written2 [hKernel2Ideal : Cert.Kernel2Ideal.Facts] [hReference2Ideal : Cert.Reference2Ideal.Facts] [hOn_written2 : Cert.On_written2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![520, 153600]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 i = 1#1 → r.2.mem ((c.tc : Thread Cert.Kernel2Ideal.nD Cert.Kernel2Ideal.τ).loc Cert.Kernel2Ideal.main_v28_0) i = v0 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 i = 1#1 → r.2.mem ((c.tc : Thread Cert.Kernel2Ideal.nD Cert.Kernel2Ideal.τ).loc Cert.Kernel2Ideal.main_v28_1) i = v1 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 i = 1#1 → r.2.mem ((c.tc : Thread Cert.Kernel2Ideal.nD Cert.Kernel2Ideal.τ).loc Cert.Kernel2Ideal.main_v28_2) i = v2 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2 i = 1#1 → r.2.mem ((c.tc : Thread Cert.Kernel2Ideal.nD Cert.Kernel2Ideal.τ).loc Cert.Kernel2Ideal.main_v28_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![520, 153600]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 i = 1#1 → r.2.mem ((c.tc : Thread Cert.Reference2Ideal.nD Cert.Reference2Ideal.τ).loc Cert.Reference2Ideal.main_v88) i = v0 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 i = 1#1 → r.2.mem ((c.tc : Thread Cert.Reference2Ideal.nD Cert.Reference2Ideal.τ).loc Cert.Reference2Ideal.main_v90) i = v1 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 i = 1#1 → r.2.mem ((c.tc : Thread Cert.Reference2Ideal.nD Cert.Reference2Ideal.τ).loc Cert.Reference2Ideal.main_v92) i = v2 c i)
          ∧ (∀ i : (⟨2, ![1200, 128]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2 i = 1#1 → r.2.mem ((c.tc : Thread Cert.Reference2Ideal.nD Cert.Reference2Ideal.τ).loc Cert.Reference2Ideal.main_v94) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_on_written3 [hKernel3Ideal : Cert.Kernel3Ideal.Facts] [hReference3Ideal : Cert.Reference3Ideal.Facts] [hOn_written3 : Cert.On_written3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![520, 153600]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 i = 1#1 → r.2.mem ((c.tc : Thread Cert.Kernel3Ideal.nD Cert.Kernel3Ideal.τ).loc Cert.Kernel3Ideal.main_v28_0) i = v0 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 i = 1#1 → r.2.mem ((c.tc : Thread Cert.Kernel3Ideal.nD Cert.Kernel3Ideal.τ).loc Cert.Kernel3Ideal.main_v28_1) i = v1 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 i = 1#1 → r.2.mem ((c.tc : Thread Cert.Kernel3Ideal.nD Cert.Kernel3Ideal.τ).loc Cert.Kernel3Ideal.main_v28_2) i = v2 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2 i = 1#1 → r.2.mem ((c.tc : Thread Cert.Kernel3Ideal.nD Cert.Kernel3Ideal.τ).loc Cert.Kernel3Ideal.main_v28_3) i = v3 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![520, 153600]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 i = 1#1 → r.2.mem ((c.tc : Thread Cert.Reference3Ideal.nD Cert.Reference3Ideal.τ).loc Cert.Reference3Ideal.main_v88) i = v0 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 i = 1#1 → r.2.mem ((c.tc : Thread Cert.Reference3Ideal.nD Cert.Reference3Ideal.τ).loc Cert.Reference3Ideal.main_v90) i = v1 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 i = 1#1 → r.2.mem ((c.tc : Thread Cert.Reference3Ideal.nD Cert.Reference3Ideal.τ).loc Cert.Reference3Ideal.main_v92) i = v2 c i)
          ∧ (∀ i : (⟨2, ![1200, 128]⟩ : Shape).Idx, (Cert.On_written3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2 i = 1#1 → r.2.mem ((c.tc : Thread Cert.Reference3Ideal.nD Cert.Reference3Ideal.τ).loc Cert.Reference3Ideal.main_v94) i = v3 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hOn_written : Cert.On_written.Facts) (hOn_written1 : Cert.On_written1.Facts) (hOn_written2 : Cert.On_written2.Facts) (hOn_written3 : Cert.On_written3.Facts),
    quiescent_Kernel (hKernel := hKernel)
    ∧ quiescent_KernelIdeal (hKernelIdeal := hKernelIdeal)
    ∧ quiescent_ReferenceIdeal (hReferenceIdeal := hReferenceIdeal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel1_Kernel1Ideal
    ∧ algebraic_Kernel1Ideal_Reference1Ideal_on_written1 (hKernel1Ideal := hKernel1Ideal) (hReference1Ideal := hReference1Ideal) (hOn_written1 := hOn_written1)
    ∧ preserves_Kernel2_Kernel2Ideal
    ∧ algebraic_Kernel2Ideal_Reference2Ideal_on_written2 (hKernel2Ideal := hKernel2Ideal) (hReference2Ideal := hReference2Ideal) (hOn_written2 := hOn_written2)
    ∧ preserves_Kernel3_Kernel3Ideal
    ∧ algebraic_Kernel3Ideal_Reference3Ideal_on_written3 (hKernel3Ideal := hKernel3Ideal) (hReference3Ideal := hReference3Ideal) (hOn_written3 := hOn_written3)
-- ==== On_written.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S_ : Shape := ⟨0, ![]⟩

class Facts : Prop where
  bcast_S_S1200x128 : S_.BroadcastsInDim S1200x128 (![] : Fin 0 → Fin S1200x128.rank)
  bcast_S_S520x153600 : S_.BroadcastsInDim S520x153600 (![] : Fin 0 → Fin S520x153600.rank)

variable [Facts]

def fn {F : FTy → Type} [FloatOps F] (main_arg0 : FVec F S5120x4x8x128 .f32) (main_arg1 : IVec S153600x512 32) (main_arg2 : IVec S153728x128 32) (main_arg3 : FVec F S154624 .f32) (main_arg4 : FVec F S154624 .f32) (main_arg5 : FVec F S153600 .f32) : IVec S520x153600 1 × IVec S1200x128 1 × IVec S1200x128 1 × IVec S1200x128 1 :=
  let main_v0 : IVec S520x153600 32 := iotaInDim S520x153600 32 0
  let main_v1 : IVec S520x153600 32 := iotaInDim S520x153600 32 1
  let main_v2 : IVec S1200x128 32 := iotaInDim S1200x128 32 0
  let main_c : IVec S_ 32 := constantI S_ 32 0#32
  let main_v3 : IVec S1200x128 32 := broadcastInDim S1200x128 ![] bcast_S_S1200x128 main_c
  let main_v4 : IVec S1200x128 1 := cmpi .sge main_v2 main_v3
  let main_c_0 : IVec S_ 32 := constantI S_ 32 320#32
  let main_v5 : IVec S1200x128 32 := broadcastInDim S1200x128 ![] bcast_S_S1200x128 main_c_0
  let main_v6 : IVec S1200x128 1 := cmpi .slt main_v2 main_v5
  let main_v7 : IVec S1200x128 1 := andi main_v4 main_v6
  let main_c_1 : IVec S_ 32 := constantI S_ 32 512#32
  let main_v8 : IVec S520x153600 32 := broadcastInDim S520x153600 ![] bcast_S_S520x153600 main_c_1
  let main_v9 : IVec S520x153600 1 := cmpi .slt main_v0 main_v8
  let main_c_2 : IVec S_ 32 := constantI S_ 32 0#32
  let main_v10 : IVec S520x153600 32 := broadcastInDim S520x153600 ![] bcast_S_S520x153600 main_c_2
  let main_v11 : IVec S520x153600 1 := cmpi .sge main_v1 main_v10
  let main_c_3 : IVec S_ 32 := constantI S_ 32 40960#32
  let main_v12 : IVec S520x153600 32 := broadcastInDim S520x153600 ![] bcast_S_S520x153600 main_c_3
  let main_v13 : IVec S520x153600 1 := cmpi .slt main_v1 main_v12
  let main_v14 : IVec S520x153600 1 := andi main_v11 main_v13
  let main_v15 : IVec S520x153600 1 := andi main_v9 main_v14
  (main_v15, main_v7, main_v7, main_v7)
-- ==== On_written1.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S_ : Shape := ⟨0, ![]⟩

class Facts : Prop where
  bcast_S_S1200x128 : S_.BroadcastsInDim S1200x128 (![] : Fin 0 → Fin S1200x128.rank)
  bcast_S_S520x153600 : S_.BroadcastsInDim S520x153600 (![] : Fin 0 → Fin S520x153600.rank)

variable [Facts]

def fn {F : FTy → Type} [FloatOps F] (main_arg0 : FVec F S5120x4x8x128 .f32) (main_arg1 : IVec S153600x512 32) (main_arg2 : IVec S153728x128 32) (main_arg3 : FVec F S154624 .f32) (main_arg4 : FVec F S154624 .f32) (main_arg5 : FVec F S153600 .f32) (main_arg6 : IVec S520x153600 8) (main_arg7 : FVec F S1200x128 .f32) (main_arg8 : FVec F S1200x128 .f32) (main_arg9 : FVec F S1200x128 .f32) : IVec S520x153600 1 × IVec S1200x128 1 × IVec S1200x128 1 × IVec S1200x128 1 :=
  let main_v0 : IVec S520x153600 32 := iotaInDim S520x153600 32 0
  let main_v1 : IVec S520x153600 32 := iotaInDim S520x153600 32 1
  let main_v2 : IVec S1200x128 32 := iotaInDim S1200x128 32 0
  let main_c : IVec S_ 32 := constantI S_ 32 320#32
  let main_v3 : IVec S1200x128 32 := broadcastInDim S1200x128 ![] bcast_S_S1200x128 main_c
  let main_v4 : IVec S1200x128 1 := cmpi .sge main_v2 main_v3
  let main_c_0 : IVec S_ 32 := constantI S_ 32 640#32
  let main_v5 : IVec S1200x128 32 := broadcastInDim S1200x128 ![] bcast_S_S1200x128 main_c_0
  let main_v6 : IVec S1200x128 1 := cmpi .slt main_v2 main_v5
  let main_v7 : IVec S1200x128 1 := andi main_v4 main_v6
  let main_c_1 : IVec S_ 32 := constantI S_ 32 512#32
  let main_v8 : IVec S520x153600 32 := broadcastInDim S520x153600 ![] bcast_S_S520x153600 main_c_1
  let main_v9 : IVec S520x153600 1 := cmpi .slt main_v0 main_v8
  let main_c_2 : IVec S_ 32 := constantI S_ 32 40960#32
  let main_v10 : IVec S520x153600 32 := broadcastInDim S520x153600 ![] bcast_S_S520x153600 main_c_2
  let main_v11 : IVec S520x153600 1 := cmpi .sge main_v1 main_v10
  let main_c_3 : IVec S_ 32 := constantI S_ 32 81920#32
  let main_v12 : IVec S520x153600 32 := broadcastInDim S520x153600 ![] bcast_S_S520x153600 main_c_3
  let main_v13 : IVec S520x153600 1 := cmpi .slt main_v1 main_v12
  let main_v14 : IVec S520x153600 1 := andi main_v11 main_v13
  let main_v15 : IVec S520x153600 1 := andi main_v9 main_v14
  (main_v15, main_v7, main_v7, main_v7)
-- ==== On_written2.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S_ : Shape := ⟨0, ![]⟩

class Facts : Prop where
  bcast_S_S1200x128 : S_.BroadcastsInDim S1200x128 (![] : Fin 0 → Fin S1200x128.rank)
  bcast_S_S520x153600 : S_.BroadcastsInDim S520x153600 (![] : Fin 0 → Fin S520x153600.rank)

variable [Facts]

def fn {F : FTy → Type} [FloatOps F] (main_arg0 : FVec F S4480x4x8x128 .f32) (main_arg1 : IVec S153600x512 32) (main_arg2 : IVec S153728x128 32) (main_arg3 : FVec F S154624 .f32) (main_arg4 : FVec F S154624 .f32) (main_arg5 : FVec F S153600 .f32) (main_arg6 : IVec S520x153600 8) (main_arg7 : FVec F S1200x128 .f32) (main_arg8 : FVec F S1200x128 .f32) (main_arg9 : FVec F S1200x128 .f32) : IVec S520x153600 1 × IVec S1200x128 1 × IVec S1200x128 1 × IVec S1200x128 1 :=
  let main_v0 : IVec S520x153600 32 := iotaInDim S520x153600 32 0
  let main_v1 : IVec S520x153600 32 := iotaInDim S520x153600 32 1
  let main_v2 : IVec S1200x128 32 := iotaInDim S1200x128 32 0
  let main_c : IVec S_ 32 := constantI S_ 32 640#32
  let main_v3 : IVec S1200x128 32 := broadcastInDim S1200x128 ![] bcast_S_S1200x128 main_c
  let main_v4 : IVec S1200x128 1 := cmpi .sge main_v2 main_v3
  let main_c_0 : IVec S_ 32 := constantI S_ 32 920#32
  let main_v5 : IVec S1200x128 32 := broadcastInDim S1200x128 ![] bcast_S_S1200x128 main_c_0
  let main_v6 : IVec S1200x128 1 := cmpi .slt main_v2 main_v5
  let main_v7 : IVec S1200x128 1 := andi main_v4 main_v6
  let main_c_1 : IVec S_ 32 := constantI S_ 32 512#32
  let main_v8 : IVec S520x153600 32 := broadcastInDim S520x153600 ![] bcast_S_S520x153600 main_c_1
  let main_v9 : IVec S520x153600 1 := cmpi .slt main_v0 main_v8
  let main_c_2 : IVec S_ 32 := constantI S_ 32 81920#32
  let main_v10 : IVec S520x153600 32 := broadcastInDim S520x153600 ![] bcast_S_S520x153600 main_c_2
  let main_v11 : IVec S520x153600 1 := cmpi .sge main_v1 main_v10
  let main_c_3 : IVec S_ 32 := constantI S_ 32 117760#32
  let main_v12 : IVec S520x153600 32 := broadcastInDim S520x153600 ![] bcast_S_S520x153600 main_c_3
  let main_v13 : IVec S520x153600 1 := cmpi .slt main_v1 main_v12
  let main_v14 : IVec S520x153600 1 := andi main_v11 main_v13
  let main_v15 : IVec S520x153600 1 := andi main_v9 main_v14
  (main_v15, main_v7, main_v7, main_v7)
-- ==== On_written3.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S_ : Shape := ⟨0, ![]⟩

class Facts : Prop where
  bcast_S_S1200x128 : S_.BroadcastsInDim S1200x128 (![] : Fin 0 → Fin S1200x128.rank)
  bcast_S_S520x153600 : S_.BroadcastsInDim S520x153600 (![] : Fin 0 → Fin S520x153600.rank)

variable [Facts]

def fn {F : FTy → Type} [FloatOps F] (main_arg0 : FVec F S4480x4x8x128 .f32) (main_arg1 : IVec S153600x512 32) (main_arg2 : IVec S153728x128 32) (main_arg3 : FVec F S154624 .f32) (main_arg4 : FVec F S154624 .f32) (main_arg5 : FVec F S153600 .f32) (main_arg6 : IVec S520x153600 8) (main_arg7 : FVec F S1200x128 .f32) (main_arg8 : FVec F S1200x128 .f32) (main_arg9 : FVec F S1200x128 .f32) : IVec S520x153600 1 × IVec S1200x128 1 × IVec S1200x128 1 × IVec S1200x128 1 :=
  let main_v0 : IVec S520x153600 32 := iotaInDim S520x153600 32 0
  let main_v1 : IVec S520x153600 32 := iotaInDim S520x153600 32 1
  let main_v2 : IVec S1200x128 32 := iotaInDim S1200x128 32 0
  let main_c : IVec S_ 32 := constantI S_ 32 920#32
  let main_v3 : IVec S1200x128 32 := broadcastInDim S1200x128 ![] bcast_S_S1200x128 main_c
  let main_v4 : IVec S1200x128 1 := cmpi .sge main_v2 main_v3
  let main_c_0 : IVec S_ 32 := constantI S_ 32 1200#32
  let main_v5 : IVec S1200x128 32 := broadcastInDim S1200x128 ![] bcast_S_S1200x128 main_c_0
  let main_v6 : IVec S1200x128 1 := cmpi .slt main_v2 main_v5
  let main_v7 : IVec S1200x128 1 := andi main_v4 main_v6
  let main_c_1 : IVec S_ 32 := constantI S_ 32 512#32
  let main_v8 : IVec S520x153600 32 := broadcastInDim S520x153600 ![] bcast_S_S520x153600 main_c_1
  let main_v9 : IVec S520x153600 1 := cmpi .slt main_v0 main_v8
  let main_c_2 : IVec S_ 32 := constantI S_ 32 117760#32
  let main_v10 : IVec S520x153600 32 := broadcastInDim S520x153600 ![] bcast_S_S520x153600 main_c_2
  let main_v11 : IVec S520x153600 1 := cmpi .sge main_v1 main_v10
  let main_c_3 : IVec S_ 32 := constantI S_ 32 153600#32
  let main_v12 : IVec S520x153600 32 := broadcastInDim S520x153600 ![] bcast_S_S520x153600 main_c_3
  let main_v13 : IVec S520x153600 1 := cmpi .slt main_v1 main_v12
  let main_v14 : IVec S520x153600 1 := andi main_v11 main_v13
  let main_v15 : IVec S520x153600 1 := andi main_v9 main_v14
  (main_v15, main_v7, main_v7, main_v7)
-- ==== Kernel.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S151x8x128 : Shape := ⟨3, ![151, 8, 128]⟩
abbrev S150x8x128 : Shape := ⟨3, ![150, 8, 128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S520x153600 : Shape := ⟨2, ![520, 153600]⟩
abbrev S1200x128 : Shape := ⟨2, ![1200, 128]⟩
abbrev S128x4x8x128 : Shape := ⟨4, ![128, 4, 8, 128]⟩
abbrev S1024x512 : Shape := ⟨2, ![1024, 512]⟩
abbrev S1024x128 : Shape := ⟨2, ![1024, 128]⟩
abbrev S1x8x128 : Shape := ⟨3, ![1, 8, 128]⟩
abbrev S520x1024 : Shape := ⟨2, ![520, 1024]⟩
abbrev S8x128 : Shape := ⟨2, ![8, 128]⟩
abbrev S1x1x8x128 : Shape := ⟨4, ![1, 1, 8, 128]⟩
abbrev S8x1 : Shape := ⟨2, ![8, 1]⟩
abbrev S8 : Shape := ⟨1, ![8]⟩
abbrev S1x128 : Shape := ⟨2, ![1, 128]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩

abbrev nBuf : Space → Nat
  | .hbm => 80
  | .vmem => 21
  | .smem => 0
  | _ => 0

abbrev bufTy : (tb : Table) → Fin (tcTables nBuf tb) → BufTy
  | .hbm, ⟨0, _⟩ => ⟨S5120x4x8x128, .f32⟩
  | .hbm, ⟨1, _⟩ => ⟨S153600x512, .i32⟩
  | .hbm, ⟨2, _⟩ => ⟨S153728x128, .i32⟩
  | .hbm, ⟨3, _⟩ => ⟨S154624, .f32⟩
  | .hbm, ⟨4, _⟩ => ⟨S154624, .f32⟩
  | .hbm, ⟨5, _⟩ => ⟨S153600, .f32⟩
  | .hbm, ⟨6, _⟩ => ⟨S151x8x128, .f32⟩
  | .hbm, ⟨7, _⟩ => ⟨S151x8x128, .f32⟩
  | .hbm, ⟨8, _⟩ => ⟨S150x8x128, .f32⟩
  | .hbm, ⟨9, _⟩ => ⟨S256, .i32⟩
  | .hbm, ⟨10, _⟩ => ⟨S256x1, .i32⟩
  | .hbm, ⟨11, _⟩ => ⟨S512, .i32⟩
  | .hbm, ⟨12, _⟩ => ⟨S1x512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S_, .i32⟩
  | .hbm, ⟨28, _⟩ => ⟨S_, .i1⟩
  | .hbm, ⟨29, _⟩ => ⟨S256x1, .i1⟩
  | .hbm, ⟨30, _⟩ => ⟨S256x1, .i1⟩
  | .hbm, ⟨31, _⟩ => ⟨S256x1, .i1⟩
  | .hbm, ⟨32, _⟩ => ⟨S256x1, .i32⟩
  | .hbm, ⟨33, _⟩ => ⟨S256x1, .i32⟩
  | .hbm, ⟨34, _⟩ => ⟨S256x1, .i32⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i1⟩
  | .hbm, ⟨51, _⟩ => ⟨S256x1, .i1⟩
  | .hbm, ⟨52, _⟩ => ⟨S_, .i32⟩
  | .hbm, ⟨53, _⟩ => ⟨S256x1, .i32⟩
  | .hbm, ⟨54, _⟩ => ⟨S256x1, .i32⟩
  | .hbm, ⟨55, _⟩ => ⟨S256x1, .i32⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S256x512, .i32⟩
  | .hbm, ⟨61, _⟩ => ⟨S256x512, .i32⟩
  | .hbm, ⟨62, _⟩ => ⟨S256x512, .i1⟩
  | .hbm, ⟨63, _⟩ => ⟨S_, .i32⟩
  | .hbm, ⟨64, _⟩ => ⟨S256x1, .i32⟩
  | .hbm, ⟨65, _⟩ => ⟨S256x1, .i32⟩
  | .hbm, ⟨66, _⟩ => ⟨S256x512, .i32⟩
  | .hbm, ⟨67, _⟩ => ⟨S256x512, .i32⟩
  | .hbm, ⟨68, _⟩ => ⟨S256x512, .i1⟩
  | .hbm, ⟨69, _⟩ => ⟨S256x512, .i32⟩
  | .hbm, ⟨70, _⟩ => ⟨S_, .i32⟩
  | .hbm, ⟨71, _⟩ => ⟨S256x512, .i32⟩
  | .hbm, ⟨72, _⟩ => ⟨S256x512, .i32⟩
  | .hbm, ⟨73, _⟩ => ⟨S256x512, .i32⟩
  | .hbm, ⟨74, _⟩ => ⟨S256x512, .i32⟩
  | .hbm, ⟨75, _⟩ => ⟨S256x512, .bf16⟩
  | .hbm, ⟨76, _⟩ => ⟨S520x153600, .i8⟩
  | .hbm, ⟨77, _⟩ => ⟨S1200x128, .f32⟩
  | .hbm, ⟨78, _⟩ => ⟨S1200x128, .f32⟩
  | .hbm, ⟨79, _⟩ => ⟨S1200x128, .f32⟩
  | .local _ .vmem, ⟨0, _⟩ => ⟨S128x4x8x128, .f32⟩
  | .local _ .vmem, ⟨1, _⟩ => ⟨S128x4x8x128, .f32⟩
  | .local _ .vmem, ⟨2, _⟩ => ⟨S1024x512, .i32⟩
  | .local _ .vmem, ⟨3, _⟩ => ⟨S1024x512, .i32⟩
  | .local _ .vmem, ⟨4, _⟩ => ⟨S1024x128, .i32⟩
  | .local _ .vmem, ⟨5, _⟩ => ⟨S1024x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S256x512, .bf16⟩
  | .local _ .vmem, ⟨13, _⟩ => ⟨S520x1024, .i8⟩
  | .local _ .vmem, ⟨14, _⟩ => ⟨S520x1024, .i8⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | _, _ => ⟨S5120x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v10 : Ref sig .tc := ⟨.hbm, 55, rfl⟩
abbrev main_c_2 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_3 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_c_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28_0 : Ref sig .tc := ⟨.hbm, 76, rfl⟩
abbrev main_v28_1 : Ref sig .tc := ⟨.hbm, 77, rfl⟩
abbrev main_v28_2 : Ref sig .tc := ⟨.hbm, 78, rfl⟩
abbrev main_v28_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c0_i32_18 : BitVec 32 := 0#32
  let v26 : BitVec 32 := Scalar.addi v22 c0_i32_18
  v26
def k0_off1 (k0_t1 : Fin k0_t1_loop.trips) (c0_i32_20 : BitVec 32) : Fin 4 → Nat :=
  let c0_i32 : BitVec 32 := 0#32
  let c1_i32 : BitVec 32 := 1#32
  let arg12 : BitVec 32 := Scf.iv c0_i32 c1_i32 k0_t1
  let c16_i32_19 : BitVec 32 := 16#32
  let v28 : BitVec 32 := Scalar.muli arg12 c16_i32_19
  let v29 : BitVec 32 := Scalar.addi v28 c0_i32_20
  let v30 : Index := Scalar.indexCast v29
  let c0_21 : Index := 0#32
  let c0_22 : Index := 0#32
  let c0_23 : Index := 0#32
  ![v30.toNat, 0, 0, 0]
def k0_off2 (k0_t1 : Fin k0_t1_loop.trips) (c0_i32_25 : BitVec 32) : Fin 4 → Nat :=
  let c0_i32 : BitVec 32 := 0#32
  let c1_i32 : BitVec 32 := 1#32
  let arg12 : BitVec 32 := Scf.iv c0_i32 c1_i32 k0_t1
  let c16_i32_24 : BitVec 32 := 16#32
  let v33 : BitVec 32 := Scalar.muli arg12 c16_i32_24
  let v34 : BitVec 32 := Scalar.addi v33 c0_i32_25
  let v35 : Index := Scalar.indexCast v34
  let c1 : Index := 1#32
  let c0_26 : Index := 0#32
  let c0_27 : Index := 0#32
  ![v35.toNat, 1, 0, 0]
def k0_off3 (k0_t1 : Fin k0_t1_loop.trips) (c0_i32_29 : BitVec 32) : Fin 4 → Nat :=
  let c0_i32 : BitVec 32 := 0#32
  let c1_i32 : BitVec 32 := 1#32
  let arg12 : BitVec 32 := Scf.iv c0_i32 c1_i32 k0_t1
  let c16_i32_28 : BitVec 32 := 16#32
  let v38 : BitVec 32 := Scalar.muli arg12 c16_i32_28
  let v39 : BitVec 32 := Scalar.addi v38 c0_i32_29
  let v40 : Index := Scalar.indexCast v39
  let c2 : Index := 2#32
  let c0_30 : Index := 0#32
  let c0_31 : Index := 0#32
  ![v40.toNat, 2, 0, 0]
def k0_off4 (k0_t1 : Fin k0_t1_loop.trips) (c0_i32_33 : BitVec 32) : Fin 4 → Nat :=
  let c0_i32 : BitVec 32 := 0#32
  let c1_i32 : BitVec 32 := 1#32
  let arg12 : BitVec 32 := Scf.iv c0_i32 c1_i32 k0_t1
  let c16_i32_32 : BitVec 32 := 16#32
  let v43 : BitVec 32 := Scalar.muli arg12 c16_i32_32
  let v44 : BitVec 32 := Scalar.addi v43 c0_i32_33
  let v45 : Index := Scalar.indexCast v44
  let c3 : Index := 3#32
  let c0_34 : Index := 0#32
  let c0_35 : Index := 0#32
  ![v45.toNat, 3, 0, 0]
def k0_off5 (k0_t1 : Fin k0_t1_loop.trips) (c0_i32_18 : BitVec 32) : Fin 2 → Nat :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v26 : BitVec 32 := Scalar.addi v22 c0_i32_18
  let v27 : BitVec 32 := v26
  let v75 : Index := Scalar.indexCast v27
  let c0_40 : Index := 0#32
  ![v75.toNat, 0]
def k0_off6 (k0_t1 : Fin k0_t1_loop.trips) (c0_i32_18 : BitVec 32) : Fin 2 → Nat :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v26 : BitVec 32 := Scalar.addi v22 c0_i32_18
  let v27 : BitVec 32 := v26
  let v128 : Index := Scalar.indexCast v27
  let c0_51 : Index := 0#32
  ![v128.toNat, 0]
def k0_off7 (k0_t1 : Fin k0_t1_loop.trips) (c0_i32_18 : BitVec 32) : Fin 2 → Nat :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v26 : BitVec 32 := Scalar.addi v22 c0_i32_18
  let v27 : BitVec 32 := v26
  let v145 : Index := Scalar.indexCast v27
  let c128 : Index := 128#32
  ![v145.toNat, 128]
def k0_off8 (k0_t1 : Fin k0_t1_loop.trips) (c0_i32_18 : BitVec 32) : Fin 2 → Nat :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v26 : BitVec 32 := Scalar.addi v22 c0_i32_18
  let v27 : BitVec 32 := v26
  let v162 : Index := Scalar.indexCast v27
  let c256 : Index := 256#32
  ![v162.toNat, 256]
def k0_off9 (k0_t1 : Fin k0_t1_loop.trips) (c0_i32_18 : BitVec 32) : Fin 2 → Nat :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v26 : BitVec 32 := Scalar.addi v22 c0_i32_18
  let v27 : BitVec 32 := v26
  let v179 : Index := Scalar.indexCast v27
  let c384 : Index := 384#32
  ![v179.toNat, 384]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c8_i32_70 : BitVec 32 := 8#32
  let v207 : BitVec 32 := Scalar.addi v22 c8_i32_70
  v207
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c16_i32_130 : BitVec 32 := 16#32
  let v388 : BitVec 32 := Scalar.addi v22 c16_i32_130
  v388
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c24_i32_189 : BitVec 32 := 24#32
  let v569 : BitVec 32 := Scalar.addi v22 c24_i32_189
  v569
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c32_i32 : BitVec 32 := 32#32
  let v750 : BitVec 32 := Scalar.addi v22 c32_i32
  v750
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c40_i32 : BitVec 32 := 40#32
  let v931 : BitVec 32 := Scalar.addi v22 c40_i32
  v931
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c48_i32 : BitVec 32 := 48#32
  let v1112 : BitVec 32 := Scalar.addi v22 c48_i32
  v1112
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c56_i32 : BitVec 32 := 56#32
  let v1293 : BitVec 32 := Scalar.addi v22 c56_i32
  v1293
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c64_i32 : BitVec 32 := 64#32
  let v1474 : BitVec 32 := Scalar.addi v22 c64_i32
  v1474
def k0_mult10 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c72_i32 : BitVec 32 := 72#32
  let v1655 : BitVec 32 := Scalar.addi v22 c72_i32
  v1655
def k0_mult11 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c80_i32 : BitVec 32 := 80#32
  let v1836 : BitVec 32 := Scalar.addi v22 c80_i32
  v1836
def k0_mult12 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c88_i32 : BitVec 32 := 88#32
  let v2017 : BitVec 32 := Scalar.addi v22 c88_i32
  v2017
def k0_mult13 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c96_i32 : BitVec 32 := 96#32
  let v2198 : BitVec 32 := Scalar.addi v22 c96_i32
  v2198
def k0_mult14 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c104_i32 : BitVec 32 := 104#32
  let v2379 : BitVec 32 := Scalar.addi v22 c104_i32
  v2379
def k0_mult15 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c112_i32 : BitVec 32 := 112#32
  let v2560 : BitVec 32 := Scalar.addi v22 c112_i32
  v2560
def k0_mult16 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let c120_i32 : BitVec 32 := 120#32
  let v2741 : BitVec 32 := Scalar.addi v22 c120_i32
  v2741
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let v2943 : Index := Scalar.indexCast arg12
  let c0_954 : Index := 0#32
  ![v2943.toNat, 0]
def k0_mult17 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  v22
def k0_off11 (k0_t1 : Fin k0_t1_loop.trips) : Fin 2 → Nat :=
  let c0_961 : Index := 0#32
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v2964 : BitVec 32 := v22
  let v2966 : Index := Scalar.indexCast v2964
  ![0, v2966.toNat]
def k0_off12 (k0_t1 : Fin k0_t1_loop.trips) : Fin 2 → Nat :=
  let c512 : Index := 512#32
  let c0_i32 : BitVec 32 := 0#32
  let c1_i32 : BitVec 32 := 1#32
  let arg12 : BitVec 32 := Scf.iv c0_i32 c1_i32 k0_t1
  let c128_i32_15 : BitVec 32 := 128#32
  let v22 : BitVec 32 := Scalar.muli arg12 c128_i32_15
  let v2964 : BitVec 32 := v22
  let v2969 : Index := Scalar.indexCast v2964
  ![512, v2969.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S128x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S520x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S5120x8x4x128 : Shape := ⟨4, ![5120, 8, 4, 128]⟩
abbrev S40960x512 : Shape := ⟨2, ![40960, 512]⟩
abbrev S151x8x128 : Shape := ⟨3, ![151, 8, 128]⟩
abbrev S151x128x8 : Shape := ⟨3, ![151, 128, 8]⟩
abbrev S40960 : Shape := ⟨1, ![40960]⟩
abbrev S150x8x128 : Shape := ⟨3, ![150, 8, 128]⟩
abbrev S150x128x8 : Shape := ⟨3, ![150, 128, 8]⟩
abbrev S40960x128 : Shape := ⟨2, ![40960, 128]⟩
abbrev S_ : Shape := ⟨0, ![]⟩
abbrev S40960x1x128 : Shape := ⟨3, ![40960, 1, 128]⟩
abbrev S40960x4x128 : Shape := ⟨3, ![40960, 4, 128]⟩
abbrev S40960x1 : Shape := ⟨2, ![40960, 1]⟩
abbrev S512x40960 : Shape := ⟨2, ![512, 40960]⟩
abbrev S520x153600 : Shape := ⟨2, ![520, 153600]⟩
abbrev S1200x128 : Shape := ⟨2, ![1200, 128]⟩

abbrev nBuf : Space → Nat
  | .hbm => 135
  | .vmem => 0
  | .smem => 0
  | _ => 0

abbrev hbmTy0_0 (i : Nat) : BufTy := match i % 128 with
  | 0 => ⟨S5120x4x8x128, .f32⟩
  | 1 => ⟨S153600x512, .i32⟩
  | 2 => ⟨S153728x128, .i32⟩
  | 3 => ⟨S154624, .f32⟩
  | 4 => ⟨S154624, .f32⟩
  | 5 => ⟨S153600, .f32⟩
  | 6 => ⟨S5120x8x4x128, .f32⟩
  | 7 => ⟨S40960x512, .f32⟩
  | 8 => ⟨S151x8x128, .f32⟩
  | 9 => ⟨S151x128x8, .f32⟩
  | 10 => ⟨S154624, .f32⟩
  | 11 => ⟨S40960, .f32⟩
  | 12 => ⟨S151x8x128, .f32⟩
  | 13 => ⟨S151x128x8, .f32⟩
  | 14 => ⟨S154624, .f32⟩
  | 15 => ⟨S40960, .f32⟩
  | 16 => ⟨S150x8x128, .f32⟩
  | 17 => ⟨S150x128x8, .f32⟩
  | 18 => ⟨S153600, .f32⟩
  | 19 => ⟨S40960, .f32⟩
  | 20 => ⟨S40960x128, .i32⟩
  | 21 => ⟨S_, .i32⟩
  | 22 => ⟨S40960x128, .i32⟩
  | 23 => ⟨S40960x128, .i32⟩
  | 24 => ⟨S_, .i32⟩
  | 25 => ⟨S40960x128, .i32⟩
  | 26 => ⟨S40960x128, .i32⟩
  | 27 => ⟨S40960x128, .i32⟩
  | 28 => ⟨S_, .i32⟩
  | 29 => ⟨S40960x128, .i32⟩
  | 30 => ⟨S40960x128, .i32⟩
  | 31 => ⟨S_, .i32⟩
  | 32 => ⟨S40960x128, .i32⟩
  | 33 => ⟨S40960x128, .i32⟩
  | 34 => ⟨S40960x128, .i32⟩
  | 35 => ⟨S_, .i32⟩
  | 36 => ⟨S40960x128, .i32⟩
  | 37 => ⟨S40960x128, .i32⟩
  | 38 => ⟨S_, .i32⟩
  | 39 => ⟨S40960x128, .i32⟩
  | 40 => ⟨S40960x128, .i32⟩
  | 41 => ⟨S40960x128, .i32⟩
  | 42 => ⟨S_, .i32⟩
  | 43 => ⟨S40960x128, .i32⟩
  | 44 => ⟨S40960x128, .i32⟩
  | 45 => ⟨S_, .i32⟩
  | 46 => ⟨S40960x128, .i32⟩
  | 47 => ⟨S40960x128, .i32⟩
  | 48 => ⟨S40960x1x128, .i32⟩
  | 49 => ⟨S40960x1x128, .i32⟩
  | 50 => ⟨S40960x1x128, .i32⟩
  | 51 => ⟨S40960x1x128, .i32⟩
  | 52 => ⟨S40960x4x128, .i32⟩
  | 53 => ⟨S40960x512, .i32⟩
  | 54 => ⟨S40960x512, .f32⟩
  | 55 => ⟨S40960x1, .f32⟩
  | 56 => ⟨S40960x512, .f32⟩
  | 57 => ⟨S40960x512, .f32⟩
  | 58 => ⟨S40960x1, .f32⟩
  | 59 => ⟨S40960x512, .f32⟩
  | 60 => ⟨S40960x512, .f32⟩
  | 61 => ⟨S40960x512, .f32⟩
  | 62 => ⟨S_, .f32⟩
  | 63 => ⟨S40960, .f32⟩
  | 64 => ⟨S_, .f32⟩
  | 65 => ⟨S40960, .f32⟩
  | 66 => ⟨S40960, .f32⟩
  | 67 => ⟨S40960, .f32⟩
  | 68 => ⟨S40960, .f32⟩
  | 69 => ⟨S_, .f32⟩
  | 70 => ⟨S40960, .f32⟩
  | 71 => ⟨S40960, .f32⟩
  | 72 => ⟨S_, .f32⟩
  | 73 => ⟨S40960, .f32⟩
  | 74 => ⟨S40960, .f32⟩
  | 75 => ⟨S40960x1, .f32⟩
  | 76 => ⟨S40960x512, .f32⟩
  | 77 => ⟨S40960x512, .f32⟩
  | 78 => ⟨S40960x512, .f32⟩
  | 79 => ⟨S_, .f32⟩
  | 80 => ⟨S40960, .f32⟩
  | 81 => ⟨S_, .f32⟩
  | 82 => ⟨S40960, .f32⟩
  | 83 => ⟨S40960, .f32⟩
  | 84 => ⟨S_, .f32⟩
  | 85 => ⟨S40960, .f32⟩
  | 86 => ⟨S40960, .f32⟩
  | 87 => ⟨S_, .f32⟩
  | 88 => ⟨S40960, .f32⟩
  | 89 => ⟨S40960, .f32⟩
  | 90 => ⟨S_, .f32⟩
  | 91 => ⟨S40960, .f32⟩
  | 92 => ⟨S40960, .f32⟩
  | 93 => ⟨S40960x1, .f32⟩
  | 94 => ⟨S40960x512, .f32⟩
  | 95 => ⟨S40960x512, .f32⟩
  | 96 => ⟨S40960x1, .f32⟩
  | 97 => ⟨S40960x512, .f32⟩
  | 98 => ⟨S40960x512, .f32⟩
  | 99 => ⟨S40960x512, .i32⟩
  | 100 => ⟨S_, .i32⟩
  | 101 => ⟨S40960x512, .i32⟩
  | 102 => ⟨S40960x512, .i32⟩
  | 103 => ⟨S40960x512, .f32⟩
  | 104 => ⟨S_, .f32⟩
  | 105 => ⟨S40960x512, .f32⟩
  | 106 => ⟨S40960x512, .f32⟩
  | 107 => ⟨S40960x512, .f32⟩
  | 108 => ⟨S40960x512, .f32⟩
  | 109 => ⟨S_, .f32⟩
  | 110 => ⟨S_, .f32⟩
  | 111 => ⟨S_, .f32⟩
  | 112 => ⟨S40960x512, .f32⟩
  | 113 => ⟨S40960x512, .f32⟩
  | 114 => ⟨S_, .f32⟩
  | 115 => ⟨S40960x512, .f32⟩
  | 116 => ⟨S40960x512, .f32⟩
  | 117 => ⟨S40960x512, .i32⟩
  | 118 => ⟨S40960x512, .i8⟩
  | 119 => ⟨S512x40960, .i8⟩
  | 120 => ⟨S_, .i32⟩
  | 121 => ⟨S_, .i8⟩
  | 122 => ⟨S520x153600, .i8⟩
  | 123 => ⟨S_, .i32⟩
  | 124 => ⟨S_, .f32⟩
  | 125 => ⟨S153600, .f32⟩
  | 126 => ⟨S1200x128, .f32⟩
  | 127 => ⟨S_, .i32⟩
  | _ => ⟨S5120x4x8x128, .f32⟩

abbrev hbmTy0_1 (i : Nat) : BufTy := match i % 128 with
  | 0 => ⟨S_, .f32⟩
  | 1 => ⟨S153600, .f32⟩
  | 2 => ⟨S1200x128, .f32⟩
  | 3 => ⟨S_, .i32⟩
  | 4 => ⟨S_, .f32⟩
  | 5 => ⟨S153600, .f32⟩
  | 6 => ⟨S1200x128, .f32⟩
  | _ => ⟨S5120x4x8x128, .f32⟩

abbrev hbmTy (i : Nat) : BufTy := match i / 128 with
  | 0 => hbmTy0_0 i
  | 1 => hbmTy0_1 i
  | _ => ⟨S5120x4x8x128, .f32⟩

abbrev bufTy : (tb : Table) → Fin (tcTables nBuf tb) → BufTy
  | .hbm, ⟨i, _⟩ => hbmTy i
  | _, _ => ⟨S5120x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_cst_18 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_call1_v0 : Ref sig .tc := ⟨.hbm, 121, rfl⟩
abbrev main_v88 : Ref sig .tc := ⟨.hbm, 122, rfl⟩
abbrev main_c_20 : Ref sig .tc := ⟨.hbm, 123, rfl⟩
abbrev main_call2_v0 : Ref sig .tc := ⟨.hbm, 124, rfl⟩
abbrev main_v89 : Ref sig .tc := ⟨.hbm, 125, rfl⟩
abbrev main_v90 : Ref sig .tc := ⟨.hbm, 126, rfl⟩
abbrev main_c_21 : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_c_22 : Ref sig .tc := ⟨.hbm, 131, rfl⟩
abbrev main_call4_v0 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]
-- ==== Kernel1.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S151x8x128 : Shape := ⟨3, ![151, 8, 128]⟩
abbrev S150x8x128 : Shape := ⟨3, ![150, 8, 128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S128x4x8x128 : Shape := ⟨4, ![128, 4, 8, 128]⟩
abbrev S1024x512 : Shape := ⟨2, ![1024, 512]⟩
abbrev S1024x128 : Shape := ⟨2, ![1024, 128]⟩
abbrev S1x8x128 : Shape := ⟨3, ![1, 8, 128]⟩
abbrev S520x1024 : Shape := ⟨2, ![520, 1024]⟩
abbrev S8x128 : Shape := ⟨2, ![8, 128]⟩
abbrev S1x1x8x128 : Shape := ⟨4, ![1, 1, 8, 128]⟩
abbrev S8x1 : Shape := ⟨2, ![8, 1]⟩
abbrev S8 : Shape := ⟨1, ![8]⟩
abbrev S1x128 : Shape := ⟨2, ![1, 128]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩

abbrev nBuf : Space → Nat
  | .hbm => 84
  | .vmem => 21
  | .smem => 0
  | _ => 0

abbrev bufTy : (tb : Table) → Fin (tcTables nBuf tb) → BufTy
  | .hbm, ⟨0, _⟩ => ⟨S5120x4x8x128, .f32⟩
  | .hbm, ⟨1, _⟩ => ⟨S153600x512, .i32⟩
  | .hbm, ⟨2, _⟩ => ⟨S153728x128, .i32⟩
  | .hbm, ⟨3, _⟩ => ⟨S154624, .f32⟩
  | .hbm, ⟨4, _⟩ => ⟨S154624, .f32⟩
  | .hbm, ⟨5, _⟩ => ⟨S153600, .f32⟩
  | .hbm, ⟨6, _⟩ => ⟨S520x153600, .i8⟩
  | .hbm, ⟨7, _⟩ => ⟨S1200x128, .f32⟩
  | .hbm, ⟨8, _⟩ => ⟨S1200x128, .f32⟩
  | .hbm, ⟨9, _⟩ => ⟨S1200x128, .f32⟩
  | .hbm, ⟨10, _⟩ => ⟨S151x8x128, .f32⟩
  | .hbm, ⟨11, _⟩ => ⟨S151x8x128, .f32⟩
  | .hbm, ⟨12, _⟩ => ⟨S150x8x128, .f32⟩
  | .hbm, ⟨13, _⟩ => ⟨S256, .i32⟩
  | .hbm, ⟨14, _⟩ => ⟨S256x1, .i32⟩
  | .hbm, ⟨15, _⟩ => ⟨S512, .i32⟩
  | .hbm, ⟨16, _⟩ => ⟨S1x512, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S_, .i32⟩
  | .hbm, ⟨32, _⟩ => ⟨S_, .i1⟩
  | .hbm, ⟨33, _⟩ => ⟨S256x1, .i1⟩
  | .hbm, ⟨34, _⟩ => ⟨S256x1, .i1⟩
  | .hbm, ⟨35, _⟩ => ⟨S256x1, .i1⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i1⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S256x512, .i32⟩
  | .hbm, ⟨65, _⟩ => ⟨S256x512, .i32⟩
  | .hbm, ⟨66, _⟩ => ⟨S256x512, .i1⟩
  | .hbm, ⟨67, _⟩ => ⟨S_, .i32⟩
  | .hbm, ⟨68, _⟩ => ⟨S256x1, .i32⟩
  | .hbm, ⟨69, _⟩ => ⟨S256x1, .i32⟩
  | .hbm, ⟨70, _⟩ => ⟨S256x512, .i32⟩
  | .hbm, ⟨71, _⟩ => ⟨S256x512, .i32⟩
  | .hbm, ⟨72, _⟩ => ⟨S256x512, .i1⟩
  | .hbm, ⟨73, _⟩ => ⟨S256x512, .i32⟩
  | .hbm, ⟨74, _⟩ => ⟨S_, .i32⟩
  | .hbm, ⟨75, _⟩ => ⟨S256x512, .i32⟩
  | .hbm, ⟨76, _⟩ => ⟨S256x512, .i32⟩
  | .hbm, ⟨77, _⟩ => ⟨S256x512, .i32⟩
  | .hbm, ⟨78, _⟩ => ⟨S256x512, .i32⟩
  | .hbm, ⟨79, _⟩ => ⟨S256x512, .bf16⟩
  | .hbm, ⟨80, _⟩ => ⟨S520x153600, .i8⟩
  | .hbm, ⟨81, _⟩ => ⟨S1200x128, .f32⟩
  | .hbm, ⟨82, _⟩ => ⟨S1200x128, .f32⟩
  | .hbm, ⟨83, _⟩ => ⟨S1200x128, .f32⟩
  | .local _ .vmem, ⟨0, _⟩ => ⟨S128x4x8x128, .f32⟩
  | .local _ .vmem, ⟨1, _⟩ => ⟨S128x4x8x128, .f32⟩
  | .local _ .vmem, ⟨2, _⟩ => ⟨S1024x512, .i32⟩
  | .local _ .vmem, ⟨3, _⟩ => ⟨S1024x512, .i32⟩
  | .local _ .vmem, ⟨4, _⟩ => ⟨S1024x128, .i32⟩
  | .local _ .vmem, ⟨5, _⟩ => ⟨S1024x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S256x512, .bf16⟩
  | .local _ .vmem, ⟨13, _⟩ => ⟨S520x1024, .i8⟩
  | .local _ .vmem, ⟨14, _⟩ => ⟨S520x1024, .i8⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | _, _ => ⟨S5120x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v10 : Ref sig .tc := ⟨.hbm, 59, rfl⟩
abbrev main_c_2 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_3 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28_0 : Ref sig .tc := ⟨.hbm, 80, rfl⟩
abbrev main_v28_1 : Ref sig .tc := ⟨.hbm, 81, rfl⟩
abbrev main_v28_2 : Ref sig .tc := ⟨.hbm, 82, rfl⟩
abbrev main_v28_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c0_i32_18 : BitVec 32 := 0#32
  let v26 : BitVec 32 := Scalar.addi v22 c0_i32_18
  v26
def k0_off1 (k0_t1 : Fin k0_t1_loop.trips) (c0_i32_20 : BitVec 32) : Fin 4 → Nat :=
  let c0_i32 : BitVec 32 := 0#32
  let c1_i32 : BitVec 32 := 1#32
  let arg16 : BitVec 32 := Scf.iv c0_i32 c1_i32 k0_t1
  let c16_i32_19 : BitVec 32 := 16#32
  let v28 : BitVec 32 := Scalar.muli arg16 c16_i32_19
  let v29 : BitVec 32 := Scalar.addi v28 c0_i32_20
  let v30 : Index := Scalar.indexCast v29
  let c0_21 : Index := 0#32
  let c0_22 : Index := 0#32
  let c0_23 : Index := 0#32
  ![v30.toNat, 0, 0, 0]
def k0_off2 (k0_t1 : Fin k0_t1_loop.trips) (c0_i32_25 : BitVec 32) : Fin 4 → Nat :=
  let c0_i32 : BitVec 32 := 0#32
  let c1_i32 : BitVec 32 := 1#32
  let arg16 : BitVec 32 := Scf.iv c0_i32 c1_i32 k0_t1
  let c16_i32_24 : BitVec 32 := 16#32
  let v33 : BitVec 32 := Scalar.muli arg16 c16_i32_24
  let v34 : BitVec 32 := Scalar.addi v33 c0_i32_25
  let v35 : Index := Scalar.indexCast v34
  let c1 : Index := 1#32
  let c0_26 : Index := 0#32
  let c0_27 : Index := 0#32
  ![v35.toNat, 1, 0, 0]
def k0_off3 (k0_t1 : Fin k0_t1_loop.trips) (c0_i32_29 : BitVec 32) : Fin 4 → Nat :=
  let c0_i32 : BitVec 32 := 0#32
  let c1_i32 : BitVec 32 := 1#32
  let arg16 : BitVec 32 := Scf.iv c0_i32 c1_i32 k0_t1
  let c16_i32_28 : BitVec 32 := 16#32
  let v38 : BitVec 32 := Scalar.muli arg16 c16_i32_28
  let v39 : BitVec 32 := Scalar.addi v38 c0_i32_29
  let v40 : Index := Scalar.indexCast v39
  let c2 : Index := 2#32
  let c0_30 : Index := 0#32
  let c0_31 : Index := 0#32
  ![v40.toNat, 2, 0, 0]
def k0_off4 (k0_t1 : Fin k0_t1_loop.trips) (c0_i32_33 : BitVec 32) : Fin 4 → Nat :=
  let c0_i32 : BitVec 32 := 0#32
  let c1_i32 : BitVec 32 := 1#32
  let arg16 : BitVec 32 := Scf.iv c0_i32 c1_i32 k0_t1
  let c16_i32_32 : BitVec 32 := 16#32
  let v43 : BitVec 32 := Scalar.muli arg16 c16_i32_32
  let v44 : BitVec 32 := Scalar.addi v43 c0_i32_33
  let v45 : Index := Scalar.indexCast v44
  let c3 : Index := 3#32
  let c0_34 : Index := 0#32
  let c0_35 : Index := 0#32
  ![v45.toNat, 3, 0, 0]
def k0_off5 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v75 : Index := Scalar.indexCast v27
  let c0_40 : Index := 0#32
  ![v75.toNat, 0]
def k0_off6 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v128 : Index := Scalar.indexCast v27
  let c0_51 : Index := 0#32
  ![v128.toNat, 0]
def k0_off7 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v145 : Index := Scalar.indexCast v27
  let c128 : Index := 128#32
  ![v145.toNat, 128]
def k0_off8 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v162 : Index := Scalar.indexCast v27
  let c256 : Index := 256#32
  ![v162.toNat, 256]
def k0_off9 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v179 : Index := Scalar.indexCast v27
  let c384 : Index := 384#32
  ![v179.toNat, 384]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c8_i32_70 : BitVec 32 := 8#32
  let v207 : BitVec 32 := Scalar.addi v22 c8_i32_70
  v207
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c16_i32_130 : BitVec 32 := 16#32
  let v388 : BitVec 32 := Scalar.addi v22 c16_i32_130
  v388
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c24_i32_189 : BitVec 32 := 24#32
  let v569 : BitVec 32 := Scalar.addi v22 c24_i32_189
  v569
def k0_mult5 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c32_i32 : BitVec 32 := 32#32
  let v750 : BitVec 32 := Scalar.addi v22 c32_i32
  v750
def k0_mult6 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c40_i32 : BitVec 32 := 40#32
  let v931 : BitVec 32 := Scalar.addi v22 c40_i32
  v931
def k0_mult7 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c48_i32 : BitVec 32 := 48#32
  let v1112 : BitVec 32 := Scalar.addi v22 c48_i32
  v1112
def k0_mult8 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c56_i32 : BitVec 32 := 56#32
  let v1293 : BitVec 32 := Scalar.addi v22 c56_i32
  v1293
def k0_mult9 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c64_i32 : BitVec 32 := 64#32
  let v1474 : BitVec 32 := Scalar.addi v22 c64_i32
  v1474
def k0_mult10 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c72_i32 : BitVec 32 := 72#32
  let v1655 : BitVec 32 := Scalar.addi v22 c72_i32
  v1655
def k0_mult11 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c80_i32 : BitVec 32 := 80#32
  let v1836 : BitVec 32 := Scalar.addi v22 c80_i32
  v1836
def k0_mult12 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c88_i32 : BitVec 32 := 88#32
  let v2017 : BitVec 32 := Scalar.addi v22 c88_i32
  v2017
def k0_mult13 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c96_i32 : BitVec 32 := 96#32
  let v2198 : BitVec 32 := Scalar.addi v22 c96_i32
  v2198
def k0_mult14 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c104_i32 : BitVec 32 := 104#32
  let v2379 : BitVec 32 := Scalar.addi v22 c104_i32
  v2379
def k0_mult15 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c112_i32 : BitVec 32 := 112#32
  let v2560 : BitVec 32 := Scalar.addi v22 c112_i32
  v2560
def k0_mult16 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c120_i32 : BitVec 32 := 120#32
  let v2741 : BitVec 32 := Scalar.addi v22 c120_i32
  v2741
def k0_off10 (k0_t1 : Fin k0_t1_loop.trips) : Fin 2 → Nat :=
  let c0_i32 : BitVec 32 := 0#32
  let c1_i32 : BitVec 32 := 1#32
  let arg16 : BitVec 32 := Scf.iv c0_i32 c1_i32 k0_t1
  let v2943 : Index := Scalar.indexCast arg16
  let c0_954 : Index := 0#32
  ![v2943.toNat, 0]
def k0_mult17 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  v22
def k0_off11 (k0_t1 : Fin k0_t1_loop.trips) : Fin 2 → Nat :=
  let c0_961 : Index := 0#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2966 : Index := Scalar.indexCast v2964
  ![0, v2966.toNat]
def k0_off12 (k0_t1 : Fin k0_t1_loop.trips) : Fin 2 → Nat :=
  let c512 : Index := 512#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2969 : Index := Scalar.indexCast v2964
  ![512, v2969.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

abbrev stage0_0 : Fin 2 → Memref sig .tc .vmem S128x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S520x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference1Ideal.lean ====
abbrev S5120x4x8x128 : Shape := ⟨4, ![5120, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S5120x8x4x128 : Shape := ⟨4, ![5120, 8, 4, 128]⟩
abbrev S40960x512 : Shape := ⟨2, ![40960, 512]⟩
abbrev S151x8x128 : Shape := ⟨3, ![151, 8, 128]⟩
abbrev S151x128x8 : Shape := ⟨3, ![151, 128, 8]⟩
abbrev S40960 : Shape := ⟨1, ![40960]⟩
abbrev S150x8x128 : Shape := ⟨3, ![150, 8, 128]⟩
abbrev S150x128x8 : Shape := ⟨3, ![150, 128, 8]⟩
abbrev S40960x128 : Shape := ⟨2, ![40960, 128]⟩
abbrev S_ : Shape := ⟨0, ![]⟩
abbrev S40960x1x128 : Shape := ⟨3, ![40960, 1, 128]⟩
abbrev S40960x4x128 : Shape := ⟨3, ![40960, 4, 128]⟩
abbrev S40960x1 : Shape := ⟨2, ![40960, 1]⟩
abbrev S512x40960 : Shape := ⟨2, ![512, 40960]⟩

abbrev nBuf : Space → Nat
  | .hbm => 139
  | .vmem => 0
  | .smem => 0
  | _ => 0

abbrev hbmTy0_0 (i : Nat) : BufTy := match i % 128 with
  | 0 => ⟨S5120x4x8x128, .f32⟩
  | 1 => ⟨S153600x512, .i32⟩
  | 2 => ⟨S153728x128, .i32⟩
  | 3 => ⟨S154624, .f32⟩
  | 4 => ⟨S154624, .f32⟩
  | 5 => ⟨S153600, .f32⟩
  | 6 => ⟨S520x153600, .i8⟩
  | 7 => ⟨S1200x128, .f32⟩
  | 8 => ⟨S1200x128, .f32⟩
  | 9 => ⟨S1200x128, .f32⟩
  | 10 => ⟨S5120x8x4x128, .f32⟩
  | 11 => ⟨S40960x512, .f32⟩
  | 12 => ⟨S151x8x128, .f32⟩
  | 13 => ⟨S151x128x8, .f32⟩
  | 14 => ⟨S154624, .f32⟩
  | 15 => ⟨S40960, .f32⟩
  | 16 => ⟨S151x8x128, .f32⟩
  | 17 => ⟨S151x128x8, .f32⟩
  | 18 => ⟨S154624, .f32⟩
  | 19 => ⟨S40960, .f32⟩
  | 20 => ⟨S150x8x128, .f32⟩
  | 21 => ⟨S150x128x8, .f32⟩
  | 22 => ⟨S153600, .f32⟩
  | 23 => ⟨S40960, .f32⟩
  | 24 => ⟨S40960x128, .i32⟩
  | 25 => ⟨S_, .i32⟩
  | 26 => ⟨S40960x128, .i32⟩
  | 27 => ⟨S40960x128, .i32⟩
  | 28 => ⟨S_, .i32⟩
  | 29 => ⟨S40960x128, .i32⟩
  | 30 => ⟨S40960x128, .i32⟩
  | 31 => ⟨S40960x128, .i32⟩
  | 32 => ⟨S_, .i32⟩
  | 33 => ⟨S40960x128, .i32⟩
  | 34 => ⟨S40960x128, .i32⟩
  | 35 => ⟨S_, .i32⟩
  | 36 => ⟨S40960x128, .i32⟩
  | 37 => ⟨S40960x128, .i32⟩
  | 38 => ⟨S40960x128, .i32⟩
  | 39 => ⟨S_, .i32⟩
  | 40 => ⟨S40960x128, .i32⟩
  | 41 => ⟨S40960x128, .i32⟩
  | 42 => ⟨S_, .i32⟩
  | 43 => ⟨S40960x128, .i32⟩
  | 44 => ⟨S40960x128, .i32⟩
  | 45 => ⟨S40960x128, .i32⟩
  | 46 => ⟨S_, .i32⟩
  | 47 => ⟨S40960x128, .i32⟩
  | 48 => ⟨S40960x128, .i32⟩
  | 49 => ⟨S_, .i32⟩
  | 50 => ⟨S40960x128, .i32⟩
  | 51 => ⟨S40960x128, .i32⟩
  | 52 => ⟨S40960x1x128, .i32⟩
  | 53 => ⟨S40960x1x128, .i32⟩
  | 54 => ⟨S40960x1x128, .i32⟩
  | 55 => ⟨S40960x1x128, .i32⟩
  | 56 => ⟨S40960x4x128, .i32⟩
  | 57 => ⟨S40960x512, .i32⟩
  | 58 => ⟨S40960x512, .f32⟩
  | 59 => ⟨S40960x1, .f32⟩
  | 60 => ⟨S40960x512, .f32⟩
  | 61 => ⟨S40960x512, .f32⟩
  | 62 => ⟨S40960x1, .f32⟩
  | 63 => ⟨S40960x512, .f32⟩
  | 64 => ⟨S40960x512, .f32⟩
  | 65 => ⟨S40960x512, .f32⟩
  | 66 => ⟨S_, .f32⟩
  | 67 => ⟨S40960, .f32⟩
  | 68 => ⟨S_, .f32⟩
  | 69 => ⟨S40960, .f32⟩
  | 70 => ⟨S40960, .f32⟩
  | 71 => ⟨S40960, .f32⟩
  | 72 => ⟨S40960, .f32⟩
  | 73 => ⟨S_, .f32⟩
  | 74 => ⟨S40960, .f32⟩
  | 75 => ⟨S40960, .f32⟩
  | 76 => ⟨S_, .f32⟩
  | 77 => ⟨S40960, .f32⟩
  | 78 => ⟨S40960, .f32⟩
  | 79 => ⟨S40960x1, .f32⟩
  | 80 => ⟨S40960x512, .f32⟩
  | 81 => ⟨S40960x512, .f32⟩
  | 82 => ⟨S40960x512, .f32⟩
  | 83 => ⟨S_, .f32⟩
  | 84 => ⟨S40960, .f32⟩
  | 85 => ⟨S_, .f32⟩
  | 86 => ⟨S40960, .f32⟩
  | 87 => ⟨S40960, .f32⟩
  | 88 => ⟨S_, .f32⟩
  | 89 => ⟨S40960, .f32⟩
  | 90 => ⟨S40960, .f32⟩
  | 91 => ⟨S_, .f32⟩
  | 92 => ⟨S40960, .f32⟩
  | 93 => ⟨S40960, .f32⟩
  | 94 => ⟨S_, .f32⟩
  | 95 => ⟨S40960, .f32⟩
  | 96 => ⟨S40960, .f32⟩
  | 97 => ⟨S40960x1, .f32⟩
  | 98 => ⟨S40960x512, .f32⟩
  | 99 => ⟨S40960x512, .f32⟩
  | 100 => ⟨S40960x1, .f32⟩
  | 101 => ⟨S40960x512, .f32⟩
  | 102 => ⟨S40960x512, .f32⟩
  | 103 => ⟨S40960x512, .i32⟩
  | 104 => ⟨S_, .i32⟩
  | 105 => ⟨S40960x512, .i32⟩
  | 106 => ⟨S40960x512, .i32⟩
  | 107 => ⟨S40960x512, .f32⟩
  | 108 => ⟨S_, .f32⟩
  | 109 => ⟨S40960x512, .f32⟩
  | 110 => ⟨S40960x512, .f32⟩
  | 111 => ⟨S40960x512, .f32⟩
  | 112 => ⟨S40960x512, .f32⟩
  | 113 => ⟨S_, .f32⟩
  | 114 => ⟨S_, .f32⟩
  | 115 => ⟨S_, .f32⟩
  | 116 => ⟨S40960x512, .f32⟩
  | 117 => ⟨S40960x512, .f32⟩
  | 118 => ⟨S_, .f32⟩
  | 119 => ⟨S40960x512, .f32⟩
  | 120 => ⟨S40960x512, .f32⟩
  | 121 => ⟨S40960x512, .i32⟩
  | 122 => ⟨S40960x512, .i8⟩
  | 123 => ⟨S512x40960, .i8⟩
  | 124 => ⟨S_, .i32⟩
  | 125 => ⟨S_, .i8⟩
  | 126 => ⟨S520x153600, .i8⟩
  | 127 => ⟨S_, .i32⟩
  | _ => ⟨S5120x4x8x128, .f32⟩

abbrev hbmTy0_1 (i : Nat) : BufTy := match i % 128 with
  | 0 => ⟨S_, .f32⟩
  | 1 => ⟨S153600, .f32⟩
  | 2 => ⟨S1200x128, .f32⟩
  | 3 => ⟨S_, .i32⟩
  | 4 => ⟨S_, .f32⟩
  | 5 => ⟨S153600, .f32⟩
  | 6 => ⟨S1200x128, .f32⟩
  | 7 => ⟨S_, .i32⟩
  | 8 => ⟨S_, .f32⟩
  | 9 => ⟨S153600, .f32⟩
  | 10 => ⟨S1200x128, .f32⟩
  | _ => ⟨S5120x4x8x128, .f32⟩

abbrev hbmTy (i : Nat) : BufTy := match i / 128 with
  | 0 => hbmTy0_0 i
  | 1 => hbmTy0_1 i
  | _ => ⟨S5120x4x8x128, .f32⟩

abbrev bufTy : (tb : Table) → Fin (tcTables nBuf tb) → BufTy
  | .hbm, ⟨i, _⟩ => hbmTy i
  | _, _ => ⟨S5120x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_call1_v0 : Ref sig .tc := ⟨.hbm, 125, rfl⟩
abbrev main_v88 : Ref sig .tc := ⟨.hbm, 126, rfl⟩
abbrev main_c_20 : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_c_22 : Ref sig .tc := ⟨.hbm, 135, rfl⟩
abbrev main_call4_v0 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== Kernel2.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S151x8x128 : Shape := ⟨3, ![151, 8, 128]⟩
abbrev S150x8x128 : Shape := ⟨3, ![150, 8, 128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S128x4x8x128 : Shape := ⟨4, ![128, 4, 8, 128]⟩
abbrev S1024x512 : Shape := ⟨2, ![1024, 512]⟩
abbrev S1024x128 : Shape := ⟨2, ![1024, 128]⟩
abbrev S1x8x128 : Shape := ⟨3, ![1, 8, 128]⟩
abbrev S520x1024 : Shape := ⟨2, ![520, 1024]⟩
abbrev S8x128 : Shape := ⟨2, ![8, 128]⟩
abbrev S1x1x8x128 : Shape := ⟨4, ![1, 1, 8, 128]⟩
abbrev S8x1 : Shape := ⟨2, ![8, 1]⟩
abbrev S8 : Shape := ⟨1, ![8]⟩
abbrev S1x128 : Shape := ⟨2, ![1, 128]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩

abbrev nBuf : Space → Nat
  | .hbm => 84
  | .vmem => 21
  | .smem => 0
  | _ => 0

abbrev bufTy : (tb : Table) → Fin (tcTables nBuf tb) → BufTy
  | .hbm, ⟨0, _⟩ => ⟨S4480x4x8x128, .f32⟩
  | .hbm, ⟨1, _⟩ => ⟨S153600x512, .i32⟩
  | .hbm, ⟨2, _⟩ => ⟨S153728x128, .i32⟩
  | .hbm, ⟨3, _⟩ => ⟨S154624, .f32⟩
  | .hbm, ⟨4, _⟩ => ⟨S154624, .f32⟩
  | .hbm, ⟨5, _⟩ => ⟨S153600, .f32⟩
  | .hbm, ⟨6, _⟩ => ⟨S520x153600, .i8⟩
  | .hbm, ⟨7, _⟩ => ⟨S1200x128, .f32⟩
  | .hbm, ⟨8, _⟩ => ⟨S1200x128, .f32⟩
  | .hbm, ⟨9, _⟩ => ⟨S1200x128, .f32⟩
  | .hbm, ⟨10, _⟩ => ⟨S151x8x128, .f32⟩
  | .hbm, ⟨11, _⟩ => ⟨S151x8x128, .f32⟩
  | .hbm, ⟨12, _⟩ => ⟨S150x8x128, .f32⟩
  | .hbm, ⟨13, _⟩ => ⟨S256, .i32⟩
  | .hbm, ⟨14, _⟩ => ⟨S256x1, .i32⟩
  | .hbm, ⟨15, _⟩ => ⟨S512, .i32⟩
  | .hbm, ⟨16, _⟩ => ⟨S1x512, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S_, .i32⟩
  | .hbm, ⟨32, _⟩ => ⟨S_, .i1⟩
  | .hbm, ⟨33, _⟩ => ⟨S256x1, .i1⟩
  | .hbm, ⟨34, _⟩ => ⟨S256x1, .i1⟩
  | .hbm, ⟨35, _⟩ => ⟨S256x1, .i1⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i1⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S256x512, .i32⟩
  | .hbm, ⟨65, _⟩ => ⟨S256x512, .i32⟩
  | .hbm, ⟨66, _⟩ => ⟨S256x512, .i1⟩
  | .hbm, ⟨67, _⟩ => ⟨S_, .i32⟩
  | .hbm, ⟨68, _⟩ => ⟨S256x1, .i32⟩
  | .hbm, ⟨69, _⟩ => ⟨S256x1, .i32⟩
  | .hbm, ⟨70, _⟩ => ⟨S256x512, .i32⟩
  | .hbm, ⟨71, _⟩ => ⟨S256x512, .i32⟩
  | .hbm, ⟨72, _⟩ => ⟨S256x512, .i1⟩
  | .hbm, ⟨73, _⟩ => ⟨S256x512, .i32⟩
  | .hbm, ⟨74, _⟩ => ⟨S_, .i32⟩
  | .hbm, ⟨75, _⟩ => ⟨S256x512, .i32⟩
  | .hbm, ⟨76, _⟩ => ⟨S256x512, .i32⟩
  | .hbm, ⟨77, _⟩ => ⟨S256x512, .i32⟩
  | .hbm, ⟨78, _⟩ => ⟨S256x512, .i32⟩
  | .hbm, ⟨79, _⟩ => ⟨S256x512, .bf16⟩
  | .hbm, ⟨80, _⟩ => ⟨S520x153600, .i8⟩
  | .hbm, ⟨81, _⟩ => ⟨S1200x128, .f32⟩
  | .hbm, ⟨82, _⟩ => ⟨S1200x128, .f32⟩
  | .hbm, ⟨83, _⟩ => ⟨S1200x128, .f32⟩
  | .local _ .vmem, ⟨0, _⟩ => ⟨S128x4x8x128, .f32⟩
  | .local _ .vmem, ⟨1, _⟩ => ⟨S128x4x8x128, .f32⟩
  | .local _ .vmem, ⟨2, _⟩ => ⟨S1024x512, .i32⟩
  | .local _ .vmem, ⟨3, _⟩ => ⟨S1024x512, .i32⟩
  | .local _ .vmem, ⟨4, _⟩ => ⟨S1024x128, .i32⟩
  | .local _ .vmem, ⟨5, _⟩ => ⟨S1024x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S256x512, .bf16⟩
  | .local _ .vmem, ⟨13, _⟩ => ⟨S520x1024, .i8⟩
  | .local _ .vmem, ⟨14, _⟩ => ⟨S520x1024, .i8⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | _, _ => ⟨S4480x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v10 : Ref sig .tc := ⟨.hbm, 59, rfl⟩
abbrev main_c_2 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_3 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28_0 : Ref sig .tc := ⟨.hbm, 80, rfl⟩
abbrev main_v28_1 : Ref sig .tc := ⟨.hbm, 81, rfl⟩
abbrev main_v28_2 : Ref sig .tc := ⟨.hbm, 82, rfl⟩
abbrev main_v28_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c0_i32_18 : BitVec 32 := 0#32
  let v26 : BitVec 32 := Scalar.addi v22 c0_i32_18
  v26
def k0_off1 (k0_t1 : Fin k0_t1_loop.trips) (c0_i32_20 : BitVec 32) : Fin 4 → Nat :=
  let c0_i32 : BitVec 32 := 0#32
  let c1_i32 : BitVec 32 := 1#32
  let arg16 : BitVec 32 := Scf.iv c0_i32 c1_i32 k0_t1
  let c16_i32_19 : BitVec 32 := 16#32
  let v28 : BitVec 32 := Scalar.muli arg16 c16_i32_19
  let v29 : BitVec 32 := Scalar.addi v28 c0_i32_20
  let v30 : Index := Scalar.indexCast v29
  let c0_21 : Index := 0#32
  let c0_22 : Index := 0#32
  let c0_23 : Index := 0#32
  ![v30.toNat, 0, 0, 0]
def k0_off2 (k0_t1 : Fin k0_t1_loop.trips) (c0_i32_25 : BitVec 32) : Fin 4 → Nat :=
  let c0_i32 : BitVec 32 := 0#32
  let c1_i32 : BitVec 32 := 1#32
  let arg16 : BitVec 32 := Scf.iv c0_i32 c1_i32 k0_t1
  let c16_i32_24 : BitVec 32 := 16#32
  let v33 : BitVec 32 := Scalar.muli arg16 c16_i32_24
  let v34 : BitVec 32 := Scalar.addi v33 c0_i32_25
  let v35 : Index := Scalar.indexCast v34
  let c1 : Index := 1#32
  let c0_26 : Index := 0#32
  let c0_27 : Index := 0#32
  ![v35.toNat, 1, 0, 0]
def k0_off3 (k0_t1 : Fin k0_t1_loop.trips) (c0_i32_29 : BitVec 32) : Fin 4 → Nat :=
  let c0_i32 : BitVec 32 := 0#32
  let c1_i32 : BitVec 32 := 1#32
  let arg16 : BitVec 32 := Scf.iv c0_i32 c1_i32 k0_t1
  let c16_i32_28 : BitVec 32 := 16#32
  let v38 : BitVec 32 := Scalar.muli arg16 c16_i32_28
  let v39 : BitVec 32 := Scalar.addi v38 c0_i32_29
  let v40 : Index := Scalar.indexCast v39
  let c2 : Index := 2#32
  let c0_30 : Index := 0#32
  let c0_31 : Index := 0#32
  ![v40.toNat, 2, 0, 0]
def k0_off4 (k0_t1 : Fin k0_t1_loop.trips) (c0_i32_33 : BitVec 32) : Fin 4 → Nat :=
  let c0_i32 : BitVec 32 := 0#32
  let c1_i32 : BitVec 32 := 1#32
  let arg16 : BitVec 32 := Scf.iv c0_i32 c1_i32 k0_t1
  let c16_i32_32 : BitVec 32 := 16#32
  let v43 : BitVec 32 := Scalar.muli arg16 c16_i32_32
  let v44 : BitVec 32 := Scalar.addi v43 c0_i32_33
  let v45 : Index := Scalar.indexCast v44
  let c3 : Index := 3#32
  let c0_34 : Index := 0#32
  let c0_35 : Index := 0#32
  ![v45.toNat, 3, 0, 0]
def k0_off5 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v75 : Index := Scalar.indexCast v27
  let c0_40 : Index := 0#32
  ![v75.toNat, 0]
def k0_off6 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v128 : Index := Scalar.indexCast v27
  let c0_51 : Index := 0#32
  ![v128.toNat, 0]
def k0_off7 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v145 : Index := Scalar.indexCast v27
  let c128 : Index := 128#32
  ![v145.toNat, 128]
def k0_off8 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v162 : Index := Scalar.indexCast v27
  let c256 : Index := 256#32
  ![v162.toNat, 256]
def k0_off9 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v179 : Index := Scalar.indexCast v27
  let c384 : Index := 384#32
  ![v179.toNat, 384]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c8_i32_70 : BitVec 32 := 8#32
  let v207 : BitVec 32 := Scalar.addi v22 c8_i32_70
  v207
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c16_i32_130 : BitVec 32 := 16#32
  let v388 : BitVec 32 := Scalar.addi v22 c16_i32_130
  v388
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c24_i32_189 : BitVec 32 := 24#32
  let v569 : BitVec 32 := Scalar.addi v22 c24_i32_189
  v569
def k0_mult5 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c32_i32 : BitVec 32 := 32#32
  let v750 : BitVec 32 := Scalar.addi v22 c32_i32
  v750
def k0_mult6 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c40_i32 : BitVec 32 := 40#32
  let v931 : BitVec 32 := Scalar.addi v22 c40_i32
  v931
def k0_mult7 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c48_i32 : BitVec 32 := 48#32
  let v1112 : BitVec 32 := Scalar.addi v22 c48_i32
  v1112
def k0_mult8 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c56_i32 : BitVec 32 := 56#32
  let v1293 : BitVec 32 := Scalar.addi v22 c56_i32
  v1293
def k0_mult9 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c64_i32 : BitVec 32 := 64#32
  let v1474 : BitVec 32 := Scalar.addi v22 c64_i32
  v1474
def k0_mult10 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c72_i32 : BitVec 32 := 72#32
  let v1655 : BitVec 32 := Scalar.addi v22 c72_i32
  v1655
def k0_mult11 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c80_i32 : BitVec 32 := 80#32
  let v1836 : BitVec 32 := Scalar.addi v22 c80_i32
  v1836
def k0_mult12 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c88_i32 : BitVec 32 := 88#32
  let v2017 : BitVec 32 := Scalar.addi v22 c88_i32
  v2017
def k0_mult13 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c96_i32 : BitVec 32 := 96#32
  let v2198 : BitVec 32 := Scalar.addi v22 c96_i32
  v2198
def k0_mult14 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c104_i32 : BitVec 32 := 104#32
  let v2379 : BitVec 32 := Scalar.addi v22 c104_i32
  v2379
def k0_mult15 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c112_i32 : BitVec 32 := 112#32
  let v2560 : BitVec 32 := Scalar.addi v22 c112_i32
  v2560
def k0_mult16 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c120_i32 : BitVec 32 := 120#32
  let v2741 : BitVec 32 := Scalar.addi v22 c120_i32
  v2741
def k0_off10 (k0_t1 : Fin k0_t1_loop.trips) : Fin 2 → Nat :=
  let c0_i32 : BitVec 32 := 0#32
  let c1_i32 : BitVec 32 := 1#32
  let arg16 : BitVec 32 := Scf.iv c0_i32 c1_i32 k0_t1
  let v2943 : Index := Scalar.indexCast arg16
  let c0_954 : Index := 0#32
  ![v2943.toNat, 0]
def k0_mult17 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  v22
def k0_off11 (k0_t1 : Fin k0_t1_loop.trips) : Fin 2 → Nat :=
  let c0_961 : Index := 0#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2966 : Index := Scalar.indexCast v2964
  ![0, v2966.toNat]
def k0_off12 (k0_t1 : Fin k0_t1_loop.trips) : Fin 2 → Nat :=
  let c512 : Index := 512#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2969 : Index := Scalar.indexCast v2964
  ![512, v2969.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

abbrev stage0_0 : Fin 2 → Memref sig .tc .vmem S128x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S520x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S4480x8x4x128 : Shape := ⟨4, ![4480, 8, 4, 128]⟩
abbrev S35840x512 : Shape := ⟨2, ![35840, 512]⟩
abbrev S151x8x128 : Shape := ⟨3, ![151, 8, 128]⟩
abbrev S151x128x8 : Shape := ⟨3, ![151, 128, 8]⟩
abbrev S35840 : Shape := ⟨1, ![35840]⟩
abbrev S150x8x128 : Shape := ⟨3, ![150, 8, 128]⟩
abbrev S150x128x8 : Shape := ⟨3, ![150, 128, 8]⟩
abbrev S35840x128 : Shape := ⟨2, ![35840, 128]⟩
abbrev S_ : Shape := ⟨0, ![]⟩
abbrev S35840x1x128 : Shape := ⟨3, ![35840, 1, 128]⟩
abbrev S35840x4x128 : Shape := ⟨3, ![35840, 4, 128]⟩
abbrev S35840x1 : Shape := ⟨2, ![35840, 1]⟩
abbrev S512x35840 : Shape := ⟨2, ![512, 35840]⟩

abbrev nBuf : Space → Nat
  | .hbm => 139
  | .vmem => 0
  | .smem => 0
  | _ => 0

abbrev hbmTy0_0 (i : Nat) : BufTy := match i % 128 with
  | 0 => ⟨S4480x4x8x128, .f32⟩
  | 1 => ⟨S153600x512, .i32⟩
  | 2 => ⟨S153728x128, .i32⟩
  | 3 => ⟨S154624, .f32⟩
  | 4 => ⟨S154624, .f32⟩
  | 5 => ⟨S153600, .f32⟩
  | 6 => ⟨S520x153600, .i8⟩
  | 7 => ⟨S1200x128, .f32⟩
  | 8 => ⟨S1200x128, .f32⟩
  | 9 => ⟨S1200x128, .f32⟩
  | 10 => ⟨S4480x8x4x128, .f32⟩
  | 11 => ⟨S35840x512, .f32⟩
  | 12 => ⟨S151x8x128, .f32⟩
  | 13 => ⟨S151x128x8, .f32⟩
  | 14 => ⟨S154624, .f32⟩
  | 15 => ⟨S35840, .f32⟩
  | 16 => ⟨S151x8x128, .f32⟩
  | 17 => ⟨S151x128x8, .f32⟩
  | 18 => ⟨S154624, .f32⟩
  | 19 => ⟨S35840, .f32⟩
  | 20 => ⟨S150x8x128, .f32⟩
  | 21 => ⟨S150x128x8, .f32⟩
  | 22 => ⟨S153600, .f32⟩
  | 23 => ⟨S35840, .f32⟩
  | 24 => ⟨S35840x128, .i32⟩
  | 25 => ⟨S_, .i32⟩
  | 26 => ⟨S35840x128, .i32⟩
  | 27 => ⟨S35840x128, .i32⟩
  | 28 => ⟨S_, .i32⟩
  | 29 => ⟨S35840x128, .i32⟩
  | 30 => ⟨S35840x128, .i32⟩
  | 31 => ⟨S35840x128, .i32⟩
  | 32 => ⟨S_, .i32⟩
  | 33 => ⟨S35840x128, .i32⟩
  | 34 => ⟨S35840x128, .i32⟩
  | 35 => ⟨S_, .i32⟩
  | 36 => ⟨S35840x128, .i32⟩
  | 37 => ⟨S35840x128, .i32⟩
  | 38 => ⟨S35840x128, .i32⟩
  | 39 => ⟨S_, .i32⟩
  | 40 => ⟨S35840x128, .i32⟩
  | 41 => ⟨S35840x128, .i32⟩
  | 42 => ⟨S_, .i32⟩
  | 43 => ⟨S35840x128, .i32⟩
  | 44 => ⟨S35840x128, .i32⟩
  | 45 => ⟨S35840x128, .i32⟩
  | 46 => ⟨S_, .i32⟩
  | 47 => ⟨S35840x128, .i32⟩
  | 48 => ⟨S35840x128, .i32⟩
  | 49 => ⟨S_, .i32⟩
  | 50 => ⟨S35840x128, .i32⟩
  | 51 => ⟨S35840x128, .i32⟩
  | 52 => ⟨S35840x1x128, .i32⟩
  | 53 => ⟨S35840x1x128, .i32⟩
  | 54 => ⟨S35840x1x128, .i32⟩
  | 55 => ⟨S35840x1x128, .i32⟩
  | 56 => ⟨S35840x4x128, .i32⟩
  | 57 => ⟨S35840x512, .i32⟩
  | 58 => ⟨S35840x512, .f32⟩
  | 59 => ⟨S35840x1, .f32⟩
  | 60 => ⟨S35840x512, .f32⟩
  | 61 => ⟨S35840x512, .f32⟩
  | 62 => ⟨S35840x1, .f32⟩
  | 63 => ⟨S35840x512, .f32⟩
  | 64 => ⟨S35840x512, .f32⟩
  | 65 => ⟨S35840x512, .f32⟩
  | 66 => ⟨S_, .f32⟩
  | 67 => ⟨S35840, .f32⟩
  | 68 => ⟨S_, .f32⟩
  | 69 => ⟨S35840, .f32⟩
  | 70 => ⟨S35840, .f32⟩
  | 71 => ⟨S35840, .f32⟩
  | 72 => ⟨S35840, .f32⟩
  | 73 => ⟨S_, .f32⟩
  | 74 => ⟨S35840, .f32⟩
  | 75 => ⟨S35840, .f32⟩
  | 76 => ⟨S_, .f32⟩
  | 77 => ⟨S35840, .f32⟩
  | 78 => ⟨S35840, .f32⟩
  | 79 => ⟨S35840x1, .f32⟩
  | 80 => ⟨S35840x512, .f32⟩
  | 81 => ⟨S35840x512, .f32⟩
  | 82 => ⟨S35840x512, .f32⟩
  | 83 => ⟨S_, .f32⟩
  | 84 => ⟨S35840, .f32⟩
  | 85 => ⟨S_, .f32⟩
  | 86 => ⟨S35840, .f32⟩
  | 87 => ⟨S35840, .f32⟩
  | 88 => ⟨S_, .f32⟩
  | 89 => ⟨S35840, .f32⟩
  | 90 => ⟨S35840, .f32⟩
  | 91 => ⟨S_, .f32⟩
  | 92 => ⟨S35840, .f32⟩
  | 93 => ⟨S35840, .f32⟩
  | 94 => ⟨S_, .f32⟩
  | 95 => ⟨S35840, .f32⟩
  | 96 => ⟨S35840, .f32⟩
  | 97 => ⟨S35840x1, .f32⟩
  | 98 => ⟨S35840x512, .f32⟩
  | 99 => ⟨S35840x512, .f32⟩
  | 100 => ⟨S35840x1, .f32⟩
  | 101 => ⟨S35840x512, .f32⟩
  | 102 => ⟨S35840x512, .f32⟩
  | 103 => ⟨S35840x512, .i32⟩
  | 104 => ⟨S_, .i32⟩
  | 105 => ⟨S35840x512, .i32⟩
  | 106 => ⟨S35840x512, .i32⟩
  | 107 => ⟨S35840x512, .f32⟩
  | 108 => ⟨S_, .f32⟩
  | 109 => ⟨S35840x512, .f32⟩
  | 110 => ⟨S35840x512, .f32⟩
  | 111 => ⟨S35840x512, .f32⟩
  | 112 => ⟨S35840x512, .f32⟩
  | 113 => ⟨S_, .f32⟩
  | 114 => ⟨S_, .f32⟩
  | 115 => ⟨S_, .f32⟩
  | 116 => ⟨S35840x512, .f32⟩
  | 117 => ⟨S35840x512, .f32⟩
  | 118 => ⟨S_, .f32⟩
  | 119 => ⟨S35840x512, .f32⟩
  | 120 => ⟨S35840x512, .f32⟩
  | 121 => ⟨S35840x512, .i32⟩
  | 122 => ⟨S35840x512, .i8⟩
  | 123 => ⟨S512x35840, .i8⟩
  | 124 => ⟨S_, .i32⟩
  | 125 => ⟨S_, .i8⟩
  | 126 => ⟨S520x153600, .i8⟩
  | 127 => ⟨S_, .i32⟩
  | _ => ⟨S4480x4x8x128, .f32⟩

abbrev hbmTy0_1 (i : Nat) : BufTy := match i % 128 with
  | 0 => ⟨S_, .f32⟩
  | 1 => ⟨S153600, .f32⟩
  | 2 => ⟨S1200x128, .f32⟩
  | 3 => ⟨S_, .i32⟩
  | 4 => ⟨S_, .f32⟩
  | 5 => ⟨S153600, .f32⟩
  | 6 => ⟨S1200x128, .f32⟩
  | 7 => ⟨S_, .i32⟩
  | 8 => ⟨S_, .f32⟩
  | 9 => ⟨S153600, .f32⟩
  | 10 => ⟨S1200x128, .f32⟩
  | _ => ⟨S4480x4x8x128, .f32⟩

abbrev hbmTy (i : Nat) : BufTy := match i / 128 with
  | 0 => hbmTy0_0 i
  | 1 => hbmTy0_1 i
  | _ => ⟨S4480x4x8x128, .f32⟩

abbrev bufTy : (tb : Table) → Fin (tcTables nBuf tb) → BufTy
  | .hbm, ⟨i, _⟩ => hbmTy i
  | _, _ => ⟨S4480x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_call1_v0 : Ref sig .tc := ⟨.hbm, 125, rfl⟩
abbrev main_v88 : Ref sig .tc := ⟨.hbm, 126, rfl⟩
abbrev main_c_20 : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_c_22 : Ref sig .tc := ⟨.hbm, 135, rfl⟩
abbrev main_call4_v0 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== Kernel3.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S151x8x128 : Shape := ⟨3, ![151, 8, 128]⟩
abbrev S150x8x128 : Shape := ⟨3, ![150, 8, 128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S128x4x8x128 : Shape := ⟨4, ![128, 4, 8, 128]⟩
abbrev S1024x512 : Shape := ⟨2, ![1024, 512]⟩
abbrev S1024x128 : Shape := ⟨2, ![1024, 128]⟩
abbrev S1x8x128 : Shape := ⟨3, ![1, 8, 128]⟩
abbrev S520x1024 : Shape := ⟨2, ![520, 1024]⟩
abbrev S8x128 : Shape := ⟨2, ![8, 128]⟩
abbrev S1x1x8x128 : Shape := ⟨4, ![1, 1, 8, 128]⟩
abbrev S8x1 : Shape := ⟨2, ![8, 1]⟩
abbrev S8 : Shape := ⟨1, ![8]⟩
abbrev S1x128 : Shape := ⟨2, ![1, 128]⟩
abbrev S128x128 : Shape := ⟨2, ![128, 128]⟩
abbrev S128x512 : Shape := ⟨2, ![128, 512]⟩
abbrev S256x128 : Shape := ⟨2, ![256, 128]⟩
abbrev S512x128 : Shape := ⟨2, ![512, 128]⟩

abbrev nBuf : Space → Nat
  | .hbm => 84
  | .vmem => 21
  | .smem => 0
  | _ => 0

abbrev bufTy : (tb : Table) → Fin (tcTables nBuf tb) → BufTy
  | .hbm, ⟨0, _⟩ => ⟨S4480x4x8x128, .f32⟩
  | .hbm, ⟨1, _⟩ => ⟨S153600x512, .i32⟩
  | .hbm, ⟨2, _⟩ => ⟨S153728x128, .i32⟩
  | .hbm, ⟨3, _⟩ => ⟨S154624, .f32⟩
  | .hbm, ⟨4, _⟩ => ⟨S154624, .f32⟩
  | .hbm, ⟨5, _⟩ => ⟨S153600, .f32⟩
  | .hbm, ⟨6, _⟩ => ⟨S520x153600, .i8⟩
  | .hbm, ⟨7, _⟩ => ⟨S1200x128, .f32⟩
  | .hbm, ⟨8, _⟩ => ⟨S1200x128, .f32⟩
  | .hbm, ⟨9, _⟩ => ⟨S1200x128, .f32⟩
  | .hbm, ⟨10, _⟩ => ⟨S151x8x128, .f32⟩
  | .hbm, ⟨11, _⟩ => ⟨S151x8x128, .f32⟩
  | .hbm, ⟨12, _⟩ => ⟨S150x8x128, .f32⟩
  | .hbm, ⟨13, _⟩ => ⟨S256, .i32⟩
  | .hbm, ⟨14, _⟩ => ⟨S256x1, .i32⟩
  | .hbm, ⟨15, _⟩ => ⟨S512, .i32⟩
  | .hbm, ⟨16, _⟩ => ⟨S1x512, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S_, .i32⟩
  | .hbm, ⟨32, _⟩ => ⟨S_, .i1⟩
  | .hbm, ⟨33, _⟩ => ⟨S256x1, .i1⟩
  | .hbm, ⟨34, _⟩ => ⟨S256x1, .i1⟩
  | .hbm, ⟨35, _⟩ => ⟨S256x1, .i1⟩
  | .hbm, ⟨36, _⟩ => ⟨S256x1, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i1⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S256x512, .i32⟩
  | .hbm, ⟨65, _⟩ => ⟨S256x512, .i32⟩
  | .hbm, ⟨66, _⟩ => ⟨S256x512, .i1⟩
  | .hbm, ⟨67, _⟩ => ⟨S_, .i32⟩
  | .hbm, ⟨68, _⟩ => ⟨S256x1, .i32⟩
  | .hbm, ⟨69, _⟩ => ⟨S256x1, .i32⟩
  | .hbm, ⟨70, _⟩ => ⟨S256x512, .i32⟩
  | .hbm, ⟨71, _⟩ => ⟨S256x512, .i32⟩
  | .hbm, ⟨72, _⟩ => ⟨S256x512, .i1⟩
  | .hbm, ⟨73, _⟩ => ⟨S256x512, .i32⟩
  | .hbm, ⟨74, _⟩ => ⟨S_, .i32⟩
  | .hbm, ⟨75, _⟩ => ⟨S256x512, .i32⟩
  | .hbm, ⟨76, _⟩ => ⟨S256x512, .i32⟩
  | .hbm, ⟨77, _⟩ => ⟨S256x512, .i32⟩
  | .hbm, ⟨78, _⟩ => ⟨S256x512, .i32⟩
  | .hbm, ⟨79, _⟩ => ⟨S256x512, .bf16⟩
  | .hbm, ⟨80, _⟩ => ⟨S520x153600, .i8⟩
  | .hbm, ⟨81, _⟩ => ⟨S1200x128, .f32⟩
  | .hbm, ⟨82, _⟩ => ⟨S1200x128, .f32⟩
  | .hbm, ⟨83, _⟩ => ⟨S1200x128, .f32⟩
  | .local _ .vmem, ⟨0, _⟩ => ⟨S128x4x8x128, .f32⟩
  | .local _ .vmem, ⟨1, _⟩ => ⟨S128x4x8x128, .f32⟩
  | .local _ .vmem, ⟨2, _⟩ => ⟨S1024x512, .i32⟩
  | .local _ .vmem, ⟨3, _⟩ => ⟨S1024x512, .i32⟩
  | .local _ .vmem, ⟨4, _⟩ => ⟨S1024x128, .i32⟩
  | .local _ .vmem, ⟨5, _⟩ => ⟨S1024x128, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S256x512, .bf16⟩
  | .local _ .vmem, ⟨13, _⟩ => ⟨S520x1024, .i8⟩
  | .local _ .vmem, ⟨14, _⟩ => ⟨S520x1024, .i8⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | _, _ => ⟨S4480x4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v7 : Ref sig .tc := ⟨.hbm, 38, rfl⟩
abbrev main_c_0 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v10 : Ref sig .tc := ⟨.hbm, 59, rfl⟩
abbrev main_c_2 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_3 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28_0 : Ref sig .tc := ⟨.hbm, 80, rfl⟩
abbrev main_v28_1 : Ref sig .tc := ⟨.hbm, 81, rfl⟩
abbrev main_v28_2 : Ref sig .tc := ⟨.hbm, 82, rfl⟩
abbrev main_v28_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c0_i32_18 : BitVec 32 := 0#32
  let v26 : BitVec 32 := Scalar.addi v22 c0_i32_18
  v26
def k0_off1 (k0_t1 : Fin k0_t1_loop.trips) (c0_i32_20 : BitVec 32) : Fin 4 → Nat :=
  let c0_i32 : BitVec 32 := 0#32
  let c1_i32 : BitVec 32 := 1#32
  let arg16 : BitVec 32 := Scf.iv c0_i32 c1_i32 k0_t1
  let c16_i32_19 : BitVec 32 := 16#32
  let v28 : BitVec 32 := Scalar.muli arg16 c16_i32_19
  let v29 : BitVec 32 := Scalar.addi v28 c0_i32_20
  let v30 : Index := Scalar.indexCast v29
  let c0_21 : Index := 0#32
  let c0_22 : Index := 0#32
  let c0_23 : Index := 0#32
  ![v30.toNat, 0, 0, 0]
def k0_off2 (k0_t1 : Fin k0_t1_loop.trips) (c0_i32_25 : BitVec 32) : Fin 4 → Nat :=
  let c0_i32 : BitVec 32 := 0#32
  let c1_i32 : BitVec 32 := 1#32
  let arg16 : BitVec 32 := Scf.iv c0_i32 c1_i32 k0_t1
  let c16_i32_24 : BitVec 32 := 16#32
  let v33 : BitVec 32 := Scalar.muli arg16 c16_i32_24
  let v34 : BitVec 32 := Scalar.addi v33 c0_i32_25
  let v35 : Index := Scalar.indexCast v34
  let c1 : Index := 1#32
  let c0_26 : Index := 0#32
  let c0_27 : Index := 0#32
  ![v35.toNat, 1, 0, 0]
def k0_off3 (k0_t1 : Fin k0_t1_loop.trips) (c0_i32_29 : BitVec 32) : Fin 4 → Nat :=
  let c0_i32 : BitVec 32 := 0#32
  let c1_i32 : BitVec 32 := 1#32
  let arg16 : BitVec 32 := Scf.iv c0_i32 c1_i32 k0_t1
  let c16_i32_28 : BitVec 32 := 16#32
  let v38 : BitVec 32 := Scalar.muli arg16 c16_i32_28
  let v39 : BitVec 32 := Scalar.addi v38 c0_i32_29
  let v40 : Index := Scalar.indexCast v39
  let c2 : Index := 2#32
  let c0_30 : Index := 0#32
  let c0_31 : Index := 0#32
  ![v40.toNat, 2, 0, 0]
def k0_off4 (k0_t1 : Fin k0_t1_loop.trips) (c0_i32_33 : BitVec 32) : Fin 4 → Nat :=
  let c0_i32 : BitVec 32 := 0#32
  let c1_i32 : BitVec 32 := 1#32
  let arg16 : BitVec 32 := Scf.iv c0_i32 c1_i32 k0_t1
  let c16_i32_32 : BitVec 32 := 16#32
  let v43 : BitVec 32 := Scalar.muli arg16 c16_i32_32
  let v44 : BitVec 32 := Scalar.addi v43 c0_i32_33
  let v45 : Index := Scalar.indexCast v44
  let c3 : Index := 3#32
  let c0_34 : Index := 0#32
  let c0_35 : Index := 0#32
  ![v45.toNat, 3, 0, 0]
def k0_off5 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v75 : Index := Scalar.indexCast v27
  let c0_40 : Index := 0#32
  ![v75.toNat, 0]
def k0_off6 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v128 : Index := Scalar.indexCast v27
  let c0_51 : Index := 0#32
  ![v128.toNat, 0]
def k0_off7 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v145 : Index := Scalar.indexCast v27
  let c128 : Index := 128#32
  ![v145.toNat, 128]
def k0_off8 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v162 : Index := Scalar.indexCast v27
  let c256 : Index := 256#32
  ![v162.toNat, 256]
def k0_off9 (k0_t1 : Fin k0_t1_loop.trips) (c0_i32_18 : BitVec 32) : Fin 2 → Nat :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v26 : BitVec 32 := Scalar.addi v22 c0_i32_18
  let v27 : BitVec 32 := v26
  let v179 : Index := Scalar.indexCast v27
  let c384 : Index := 384#32
  ![v179.toNat, 384]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c8_i32_70 : BitVec 32 := 8#32
  let v207 : BitVec 32 := Scalar.addi v22 c8_i32_70
  v207
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c16_i32_130 : BitVec 32 := 16#32
  let v388 : BitVec 32 := Scalar.addi v22 c16_i32_130
  v388
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c24_i32_189 : BitVec 32 := 24#32
  let v569 : BitVec 32 := Scalar.addi v22 c24_i32_189
  v569
def k0_mult5 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c32_i32 : BitVec 32 := 32#32
  let v750 : BitVec 32 := Scalar.addi v22 c32_i32
  v750
def k0_mult6 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c40_i32 : BitVec 32 := 40#32
  let v931 : BitVec 32 := Scalar.addi v22 c40_i32
  v931
def k0_mult7 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c48_i32 : BitVec 32 := 48#32
  let v1112 : BitVec 32 := Scalar.addi v22 c48_i32
  v1112
def k0_mult8 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c56_i32 : BitVec 32 := 56#32
  let v1293 : BitVec 32 := Scalar.addi v22 c56_i32
  v1293
def k0_mult9 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c64_i32 : BitVec 32 := 64#32
  let v1474 : BitVec 32 := Scalar.addi v22 c64_i32
  v1474
def k0_mult10 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c72_i32 : BitVec 32 := 72#32
  let v1655 : BitVec 32 := Scalar.addi v22 c72_i32
  v1655
def k0_mult11 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c80_i32 : BitVec 32 := 80#32
  let v1836 : BitVec 32 := Scalar.addi v22 c80_i32
  v1836
def k0_mult12 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c88_i32 : BitVec 32 := 88#32
  let v2017 : BitVec 32 := Scalar.addi v22 c88_i32
  v2017
def k0_mult13 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c96_i32 : BitVec 32 := 96#32
  let v2198 : BitVec 32 := Scalar.addi v22 c96_i32
  v2198
def k0_mult14 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c104_i32 : BitVec 32 := 104#32
  let v2379 : BitVec 32 := Scalar.addi v22 c104_i32
  v2379
def k0_mult15 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c112_i32 : BitVec 32 := 112#32
  let v2560 : BitVec 32 := Scalar.addi v22 c112_i32
  v2560
def k0_mult16 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let c120_i32 : BitVec 32 := 120#32
  let v2741 : BitVec 32 := Scalar.addi v22 c120_i32
  v2741
def k0_off10 (k0_t1 : Fin k0_t1_loop.trips) : Fin 2 → Nat :=
  let c0_i32 : BitVec 32 := 0#32
  let c1_i32 : BitVec 32 := 1#32
  let arg16 : BitVec 32 := Scf.iv c0_i32 c1_i32 k0_t1
  let v2943 : Index := Scalar.indexCast arg16
  let c0_954 : Index := 0#32
  ![v2943.toNat, 0]
def k0_mult17 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  v22
def k0_off11 (k0_t1 : Fin k0_t1_loop.trips) : Fin 2 → Nat :=
  let c0_961 : Index := 0#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2966 : Index := Scalar.indexCast v2964
  ![0, v2966.toNat]
def k0_off12 (k0_t1 : Fin k0_t1_loop.trips) : Fin 2 → Nat :=
  let c512 : Index := 512#32
  let c0_i32 : BitVec 32 := 0#32
  let c1_i32 : BitVec 32 := 1#32
  let arg16 : BitVec 32 := Scf.iv c0_i32 c1_i32 k0_t1
  let c128_i32_15 : BitVec 32 := 128#32
  let v22 : BitVec 32 := Scalar.muli arg16 c128_i32_15
  let v2964 : BitVec 32 := v22
  let v2969 : Index := Scalar.indexCast v2964
  ![512, v2969.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c115_i32 : BitVec 32 := 115#32
  let v0 : BitVec 32 := Scalar.addi c115_i32 arg0
  let c0_i32 : BitVec 32 := 0#32
  let c0_i32_0 : BitVec 32 := 0#32
  ![v0.toNat, c0_i32.toNat]

abbrev stage0_0 : Fin 2 → Memref sig .tc .vmem S128x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S520x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4480x4x8x128 : Shape := ⟨4, ![4480, 4, 8, 128]⟩
abbrev S153600x512 : Shape := ⟨2, ![153600, 512]⟩
abbrev S153728x128 : Shape := ⟨2, ![153728, 128]⟩
abbrev S154624 : Shape := ⟨1, ![154624]⟩
abbrev S153600 : Shape := ⟨1, ![153600]⟩
abbrev S520x153600 : Shape := ⟨2, ![520, 153600]⟩
abbrev S1200x128 : Shape := ⟨2, ![1200, 128]⟩
abbrev S4480x8x4x128 : Shape := ⟨4, ![4480, 8, 4, 128]⟩
abbrev S35840x512 : Shape := ⟨2, ![35840, 512]⟩
abbrev S151x8x128 : Shape := ⟨3, ![151, 8, 128]⟩
abbrev S151x128x8 : Shape := ⟨3, ![151, 128, 8]⟩
abbrev S35840 : Shape := ⟨1, ![35840]⟩
abbrev S150x8x128 : Shape := ⟨3, ![150, 8, 128]⟩
abbrev S150x128x8 : Shape := ⟨3, ![150, 128, 8]⟩
abbrev S35840x128 : Shape := ⟨2, ![35840, 128]⟩
abbrev S_ : Shape := ⟨0, ![]⟩
abbrev S35840x1x128 : Shape := ⟨3, ![35840, 1, 128]⟩
abbrev S35840x4x128 : Shape := ⟨3, ![35840, 4, 128]⟩
abbrev S35840x1 : Shape := ⟨2, ![35840, 1]⟩
abbrev S512x35840 : Shape := ⟨2, ![512, 35840]⟩

abbrev nBuf : Space → Nat
  | .hbm => 139
  | .vmem => 0
  | .smem => 0
  | _ => 0

abbrev hbmTy0_0 (i : Nat) : BufTy := match i % 128 with
  | 0 => ⟨S4480x4x8x128, .f32⟩
  | 1 => ⟨S153600x512, .i32⟩
  | 2 => ⟨S153728x128, .i32⟩
  | 3 => ⟨S154624, .f32⟩
  | 4 => ⟨S154624, .f32⟩
  | 5 => ⟨S153600, .f32⟩
  | 6 => ⟨S520x153600, .i8⟩
  | 7 => ⟨S1200x128, .f32⟩
  | 8 => ⟨S1200x128, .f32⟩
  | 9 => ⟨S1200x128, .f32⟩
  | 10 => ⟨S4480x8x4x128, .f32⟩
  | 11 => ⟨S35840x512, .f32⟩
  | 12 => ⟨S151x8x128, .f32⟩
  | 13 => ⟨S151x128x8, .f32⟩
  | 14 => ⟨S154624, .f32⟩
  | 15 => ⟨S35840, .f32⟩
  | 16 => ⟨S151x8x128, .f32⟩
  | 17 => ⟨S151x128x8, .f32⟩
  | 18 => ⟨S154624, .f32⟩
  | 19 => ⟨S35840, .f32⟩
  | 20 => ⟨S150x8x128, .f32⟩
  | 21 => ⟨S150x128x8, .f32⟩
  | 22 => ⟨S153600, .f32⟩
  | 23 => ⟨S35840, .f32⟩
  | 24 => ⟨S35840x128, .i32⟩
  | 25 => ⟨S_, .i32⟩
  | 26 => ⟨S35840x128, .i32⟩
  | 27 => ⟨S35840x128, .i32⟩
  | 28 => ⟨S_, .i32⟩
  | 29 => ⟨S35840x128, .i32⟩
  | 30 => ⟨S35840x128, .i32⟩
  | 31 => ⟨S35840x128, .i32⟩
  | 32 => ⟨S_, .i32⟩
  | 33 => ⟨S35840x128, .i32⟩
  | 34 => ⟨S35840x128, .i32⟩
  | 35 => ⟨S_, .i32⟩
  | 36 => ⟨S35840x128, .i32⟩
  | 37 => ⟨S35840x128, .i32⟩
  | 38 => ⟨S35840x128, .i32⟩
  | 39 => ⟨S_, .i32⟩
  | 40 => ⟨S35840x128, .i32⟩
  | 41 => ⟨S35840x128, .i32⟩
  | 42 => ⟨S_, .i32⟩
  | 43 => ⟨S35840x128, .i32⟩
  | 44 => ⟨S35840x128, .i32⟩
  | 45 => ⟨S35840x128, .i32⟩
  | 46 => ⟨S_, .i32⟩
  | 47 => ⟨S35840x128, .i32⟩
  | 48 => ⟨S35840x128, .i32⟩
  | 49 => ⟨S_, .i32⟩
  | 50 => ⟨S35840x128, .i32⟩
  | 51 => ⟨S35840x128, .i32⟩
  | 52 => ⟨S35840x1x128, .i32⟩
  | 53 => ⟨S35840x1x128, .i32⟩
  | 54 => ⟨S35840x1x128, .i32⟩
  | 55 => ⟨S35840x1x128, .i32⟩
  | 56 => ⟨S35840x4x128, .i32⟩
  | 57 => ⟨S35840x512, .i32⟩
  | 58 => ⟨S35840x512, .f32⟩
  | 59 => ⟨S35840x1, .f32⟩
  | 60 => ⟨S35840x512, .f32⟩
  | 61 => ⟨S35840x512, .f32⟩
  | 62 => ⟨S35840x1, .f32⟩
  | 63 => ⟨S35840x512, .f32⟩
  | 64 => ⟨S35840x512, .f32⟩
  | 65 => ⟨S35840x512, .f32⟩
  | 66 => ⟨S_, .f32⟩
  | 67 => ⟨S35840, .f32⟩
  | 68 => ⟨S_, .f32⟩
  | 69 => ⟨S35840, .f32⟩
  | 70 => ⟨S35840, .f32⟩
  | 71 => ⟨S35840, .f32⟩
  | 72 => ⟨S35840, .f32⟩
  | 73 => ⟨S_, .f32⟩
  | 74 => ⟨S35840, .f32⟩
  | 75 => ⟨S35840, .f32⟩
  | 76 => ⟨S_, .f32⟩
  | 77 => ⟨S35840, .f32⟩
  | 78 => ⟨S35840, .f32⟩
  | 79 => ⟨S35840x1, .f32⟩
  | 80 => ⟨S35840x512, .f32⟩
  | 81 => ⟨S35840x512, .f32⟩
  | 82 => ⟨S35840x512, .f32⟩
  | 83 => ⟨S_, .f32⟩
  | 84 => ⟨S35840, .f32⟩
  | 85 => ⟨S_, .f32⟩
  | 86 => ⟨S35840, .f32⟩
  | 87 => ⟨S35840, .f32⟩
  | 88 => ⟨S_, .f32⟩
  | 89 => ⟨S35840, .f32⟩
  | 90 => ⟨S35840, .f32⟩
  | 91 => ⟨S_, .f32⟩
  | 92 => ⟨S35840, .f32⟩
  | 93 => ⟨S35840, .f32⟩
  | 94 => ⟨S_, .f32⟩
  | 95 => ⟨S35840, .f32⟩
  | 96 => ⟨S35840, .f32⟩
  | 97 => ⟨S35840x1, .f32⟩
  | 98 => ⟨S35840x512, .f32⟩
  | 99 => ⟨S35840x512, .f32⟩
  | 100 => ⟨S35840x1, .f32⟩
  | 101 => ⟨S35840x512, .f32⟩
  | 102 => ⟨S35840x512, .f32⟩
  | 103 => ⟨S35840x512, .i32⟩
  | 104 => ⟨S_, .i32⟩
  | 105 => ⟨S35840x512, .i32⟩
  | 106 => ⟨S35840x512, .i32⟩
  | 107 => ⟨S35840x512, .f32⟩
  | 108 => ⟨S_, .f32⟩
  | 109 => ⟨S35840x512, .f32⟩
  | 110 => ⟨S35840x512, .f32⟩
  | 111 => ⟨S35840x512, .f32⟩
  | 112 => ⟨S35840x512, .f32⟩
  | 113 => ⟨S_, .f32⟩
  | 114 => ⟨S_, .f32⟩
  | 115 => ⟨S_, .f32⟩
  | 116 => ⟨S35840x512, .f32⟩
  | 117 => ⟨S35840x512, .f32⟩
  | 118 => ⟨S_, .f32⟩
  | 119 => ⟨S35840x512, .f32⟩
  | 120 => ⟨S35840x512, .f32⟩
  | 121 => ⟨S35840x512, .i32⟩
  | 122 => ⟨S35840x512, .i8⟩
  | 123 => ⟨S512x35840, .i8⟩
  | 124 => ⟨S_, .i32⟩
  | 125 => ⟨S_, .i8⟩
  | 126 => ⟨S520x153600, .i8⟩
  | 127 => ⟨S_, .i32⟩
  | _ => ⟨S4480x4x8x128, .f32⟩

abbrev hbmTy0_1 (i : Nat) : BufTy := match i % 128 with
  | 0 => ⟨S_, .f32⟩
  | 1 => ⟨S153600, .f32⟩
  | 2 => ⟨S1200x128, .f32⟩
  | 3 => ⟨S_, .i32⟩
  | 4 => ⟨S_, .f32⟩
  | 5 => ⟨S153600, .f32⟩
  | 6 => ⟨S1200x128, .f32⟩
  | 7 => ⟨S_, .i32⟩
  | 8 => ⟨S_, .f32⟩
  | 9 => ⟨S153600, .f32⟩
  | 10 => ⟨S1200x128, .f32⟩
  | _ => ⟨S4480x4x8x128, .f32⟩

abbrev hbmTy (i : Nat) : BufTy := match i / 128 with
  | 0 => hbmTy0_0 i
  | 1 => hbmTy0_1 i
  | _ => ⟨S4480x4x8x128, .f32⟩

abbrev bufTy : (tb : Table) → Fin (tcTables nBuf tb) → BufTy
  | .hbm, ⟨i, _⟩ => hbmTy i
  | _, _ => ⟨S4480x4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_call1_v0 : Ref sig .tc := ⟨.hbm, 125, rfl⟩
abbrev main_v88 : Ref sig .tc := ⟨.hbm, 126, rfl⟩
abbrev main_c_20 : Ref sig .tc := ⟨.hbm, 127, rfl⟩
abbrev main_call2_v0 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_c_22 : Ref sig .tc := ⟨.hbm, 135, rfl⟩
abbrev main_call4_v0 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== Proof.Spec.lean ====
/- One trip of the update kernel's loop, written once over its sixteen groups of eight slots (hand part). A trip handles 128 slots:
   group `p` holds slots `8p .. 8p+7`, one per sublane, and reads the row of each as four blocks of 128 columns. The definitions
   use the kernel's own vector operations, so that what a trip stores is one of these terms by unfolding alone (`Trip.lean`);
   what they are worth at an index is `GroupValue.lean`. -/
module

public import Idealize.ShloMosaic.PureOps

@[expose] public section

noncomputable section

namespace Cert.Proof.Update

open Idealize.ShloMosaic

abbrev Sg : Shape := ⟨4, ![1, 1, 8, 128]⟩
abbrev St : Shape := ⟨2, ![8, 128]⟩
abbrev Sc : Shape := ⟨2, ![8, 1]⟩
abbrev Sv : Shape := ⟨1, ![8]⟩
abbrev Sr : Shape := ⟨2, ![1, 128]⟩
abbrev Sq : Shape := ⟨2, ![128, 128]⟩
abbrev Sl : Shape := ⟨2, ![128, 512]⟩
abbrev Sp : Shape := ⟨2, ![256, 512]⟩
abbrev So : Shape := ⟨2, ![256, 128]⟩
abbrev Sb : Shape := ⟨2, ![512, 128]⟩

theorem casts_g : Sg.ShapeCasts St := by decide
theorem casts_c : Sc.ShapeCasts Sc := by decide
theorem casts_v : Sv.ShapeCasts Sc := by decide
theorem casts_p : Sp.ShapeCasts Sp := by decide
theorem bcast_c : Sc.Broadcasts St := by decide
theorem reduces_t : St.Reduces [1] Sv := by decide
theorem slices_c : ∀ p : Fin 16, St.Slices ![0, p.val] Sc := by decide
theorem slices_r : St.Slices ![0, 0] Sr := by decide
theorem iota_1 : St.Iotas .tc 32 [1] := by decide
theorem iota_0 : St.Iotas .tc 32 [0] := by decide
theorem rotates_0 : St.Rotates 0 none := by decide
theorem concat_q : Shape.Concatenates [St, St, St, St, St, St, St, St, St, St, St, St, St, St, St, St] Sq 0 := by decide
theorem concat_l : Shape.Concatenates [Sq, Sq, Sq, Sq] Sl 1 := by decide
theorem slices_lo : So.Slices ![0, 0] Sq := by decide
theorem slices_hi : So.Slices ![128, 0] Sq := by decide
theorem bitcasts_b : Sq.Bitcasts 32 Sb 8 := by decide
theorem narrow : FTy.bf16.bits < FTy.f32.bits := by decide

variable {F : FTy → Type} [FloatOps F]

/-- What one trip reads: per group the four column blocks of the summed gradients, the packed codes and the four column blocks of
    random words; and the scales, biases and accumulators of the 128 slots, group `p` in column `p`. -/
structure Ins (F : FTy → Type) where
  g : Fin 4 → Fin 16 → Vec F Sg .f32
  w : Fin 16 → Vec F St .i32
  r : Fin 4 → Fin 16 → Vec F St .i32
  sc : FVec F St .f32
  bi : FVec F St .f32
  mo : FVec F St .f32

/-- Column `p` of a tile, in every lane. -/
def col (x : FVec F St .f32) (p : Fin 16) : FVec F St .f32 :=
  broadcastTo St (shapeCast Sc (extractStridedSlice Sc ![0, p.val] x (slices_c p)) casts_c) bcast_c

/-- One value per sublane, in every lane. -/
def wide (x : FVec F Sc .f32) : FVec F St .f32 := broadcastTo St x bcast_c

namespace Ins
variable (I : Ins F) (p : Fin 16)

/-- Column block `m` of the gradients of group `p`. -/
def grad (m : Fin 4) : FVec F St .f32 := shapeCast St (I.g m p) casts_g

/-- The new accumulator: the old one plus the mean of the squared gradients of the row. -/
def state : FVec F St .f32 :=
  addf (col I.mo p)
    (wide (divf
      (shapeCast Sc (multiReduction .add [1] Sv
        (addf (addf (addf (mulf (I.grad p 0) (I.grad p 0)) (mulf (I.grad p 1) (I.grad p 1))) (mulf (I.grad p 2) (I.grad p 2)))
          (mulf (I.grad p 3) (I.grad p 3)))
        0x00000000#32 reduces_t (.inl rfl) rfl) casts_v)
      (broadcast Sc (Scalar.ofBits .f32 0x44000000#32))))

/-- The step size of each row. -/
def mult : FVec F St .f32 :=
  divf (broadcast St (Scalar.ofBits .f32 0x3CA3D70A#32)) (addf (sqrt (I.state p)) (broadcast St (Scalar.ofBits .f32 0x322BCC77#32)))

/-- Column block `m` of the updated weights: byte `m` of the packed codes dequantised, less the step. -/
def new (m : Fin 4) (sh : BitVec 32) : FVec F St .f32 :=
  subf (addf (mulf (sitofp .f32 (andi (shrui (I.w p) (broadcast St sh)) (broadcast St 255#32))) (col I.sc p)) (col I.bi p))
    (mulf (I.mult p) (I.grad p m))

def new0 : FVec F St .f32 := I.new p 0 0#32
def new1 : FVec F St .f32 := I.new p 1 8#32
def new2 : FVec F St .f32 := I.new p 2 16#32
def new3 : FVec F St .f32 := I.new p 3 24#32

/-- The smallest updated weight of each row. -/
def low : FVec F Sc .f32 :=
  shapeCast Sc (multiReduction .minimumf [1] Sv (minimumf (minimumf (minimumf (I.new0 p) (I.new1 p)) (I.new2 p)) (I.new3 p))
    0x7F800000#32 reduces_t (.inl rfl) rfl) casts_v

/-- The largest less the smallest. -/
def span : FVec F Sc .f32 :=
  subf (shapeCast Sc (multiReduction .maximumf [1] Sv (maximumf (maximumf (maximumf (I.new0 p) (I.new1 p)) (I.new2 p)) (I.new3 p))
    0xFF800000#32 reduces_t (.inl rfl) rfl) casts_v) (I.low p)

def inv : FVec F Sc .f32 :=
  divf (broadcast Sc (Scalar.ofBits .f32 0x437F0000#32)) (addf (I.span p) (broadcast Sc (Scalar.ofBits .f32 0x322BCC77#32)))

/-- The new codes of weights `x`, under the noise of column block `m`. -/
def code (x : FVec F St .f32) (m : Fin 4) : FVec F St .f32 :=
  minimumf (broadcast St (Scalar.ofBits .f32 0x437F0000#32)) (maximumf (broadcast St (Scalar.ofBits .f32 0x00000000#32))
    (floor (addf (mulf (subf x (wide (I.low p))) (wide (I.inv p)))
      (mulf (sitofp .f32 (shrui (I.r m p) (broadcast St 8#32))) (broadcast St (Scalar.ofBits .f32 0x33800000#32))))))

def code0 : FVec F St .f32 := I.code p (I.new0 p) 0
def code1 : FVec F St .f32 := I.code p (I.new1 p) 1
def code2 : FVec F St .f32 := I.code p (I.new2 p) 2
def code3 : FVec F St .f32 := I.code p (I.new3 p) 3

/-- The new codes of all sixteen groups, by column block. -/
def codes : Fin 4 → Fin 16 → FVec F St .f32
  | 0 => I.code0
  | 1 => I.code1
  | 2 => I.code2
  | 3 => I.code3

/-- The new scale of each row. -/
def scale : FVec F St .f32 :=
  wide (shapeCast Sc (divf (I.span p) (broadcast Sc (Scalar.ofBits .f32 0x437F0000#32))) casts_c)

/-- The new bias of each row. -/
def bias : FVec F St .f32 := wide (shapeCast Sc (I.low p) casts_c)

end Ins

/-- Lane less sublane. -/
def diag : IVec St 32 := subi (iota .tc St 32 [1] iota_1) (iota .tc St 32 [0] iota_0)

/-- The lanes that group `p` owns: lane `8p + s` in sublane `s`. -/
def own (p : Fin 16) : IVec St 1 := cmpi .eq diag (broadcast St (BitVec.ofNat 32 (8 * p.val)))

/-- The first `n` of sixteen tiles merged, each in the lanes it owns, over zero. -/
def upTo (x : Fin 16 → FVec F St .f32) : Nat → FVec F St .f32
  | 0 => broadcast St (Scalar.ofBits .f32 0x00000000#32)
  | n + 1 => select (own (Fin.ofNat 16 n)) (x (Fin.ofNat 16 n)) (upTo x n)

/-- A tile's sublanes added, by three rotations. -/
def fold8 (x : FVec F St .f32) : FVec F Sr .f32 :=
  let a := addf x (dynamicRotate 0 4#32 none x rotates_0)
  let b := addf a (dynamicRotate 0 2#32 none a rotates_0)
  extractStridedSlice Sr ![0, 0] (addf b (dynamicRotate 0 1#32 none b rotates_0)) slices_r

/-- Sixteen tiles one under the other. -/
def stack (x : Fin 16 → FVec F St .f32) : FVec F Sq .f32 :=
  concatenate Sq 0 [⟨St, x 0⟩, ⟨St, x 1⟩, ⟨St, x 2⟩, ⟨St, x 3⟩, ⟨St, x 4⟩, ⟨St, x 5⟩, ⟨St, x 6⟩, ⟨St, x 7⟩,
    ⟨St, x 8⟩, ⟨St, x 9⟩, ⟨St, x 10⟩, ⟨St, x 11⟩, ⟨St, x 12⟩, ⟨St, x 13⟩, ⟨St, x 14⟩, ⟨St, x 15⟩] concat_q

/-- The pair sums as integers: the pair matrix times the codes of the 128 slots, transposed. -/
def pairs (d : DotDims Sp Sl So) (pm : FVec F Sp .bf16) (c : Fin 4 → Fin 16 → FVec F St .f32) : IVec So 32 :=
  fptosi 32 (matmul d none (shapeCast Sp pm casts_p)
    (truncf .bf16 (concatenate Sl 1 [⟨Sq, stack (c 0)⟩, ⟨Sq, stack (c 1)⟩, ⟨Sq, stack (c 2)⟩, ⟨Sq, stack (c 3)⟩] concat_l) narrow)
    (constant So .f32 0x00000000#32))

/-- Two pair sums a word, and the words read as bytes. -/
def bytes (x : IVec So 32) : IVec Sb 8 :=
  bitcast Sb 8 (ori (extractStridedSlice Sq ![0, 0] x slices_lo)
    (shli (extractStridedSlice Sq ![128, 0] x slices_hi) (broadcast Sq 16#32))) bitcasts_b

end Cert.Proof.Update
-- ==== Proof.Trip.lean ====
/- What one trip of the kernel's loop stores, as the terms of `Spec.lean` (hand part). The run names each value a trip
   computes: both sides are unfolded to the operations, which agree. -/
module

public import proofs.«01_k».proof.Proof.Gen.KernelIdeal.Loops
public import proofs.«01_k».proof.Proof.Spec
public import Idealize.ShloMosaic.Lib.Pipeline.ReadBack
public import Idealize.ShloMosaic.Lib.Pipeline.Value

@[expose] public section

set_option maxRecDepth 16384

noncomputable section

namespace Cert.KernelIdeal.Trip

open Cert.KernelIdeal Cert.KernelIdeal.Gen Idealize.ShloMosaic Idealize.ShloMosaic.TcCoe Idealize.ShloMosaic.Tactic
open Cert.Proof.Update Cert.KernelIdeal.Gen.trip_k0_t1.sl

variable {F : FTy → Type} [FloatOps F]

/-- What trip `k` reads, of the blocks the launch staged. -/
def ins (x0 : Vec F S128x4x8x128 .f32) (x1 : Vec F S1024x512 .i32) (x2 : Vec F S1024x128 .i32) (x3 x4 x5 : Vec F S1x8x128 .f32)
    (k : Fin k0_t1_loop.trips) : Ins F where
  g := fun
    | 0 => fun p => View.ld x0 (Rect.unit (s := S128x4x8x128) (k0_off1 k (BitVec.ofNat 32 p.val)) S1x1x8x128.size (k0_off1_inb k p))
    | 1 => fun p => View.ld x0 (Rect.unit (s := S128x4x8x128) (k0_off2 k (BitVec.ofNat 32 p.val)) S1x1x8x128.size (k0_off2_inb k p))
    | 2 => fun p => View.ld x0 (Rect.unit (s := S128x4x8x128) (k0_off3 k (BitVec.ofNat 32 p.val)) S1x1x8x128.size (k0_off3_inb k p))
    | 3 => fun p => View.ld x0 (Rect.unit (s := S128x4x8x128) (k0_off4 k (BitVec.ofNat 32 p.val)) S1x1x8x128.size (k0_off4_inb k p))
  w := fun p => View.ld x2 (Rect.unit (s := S1024x128) (k0_off5 k (BitVec.ofNat 32 (8 * p.val))) S8x128.size (k0_off5_inb k p))
  r := fun
    | 0 => fun p => View.ld x1 (Rect.unit (s := S1024x512) (k0_off6 k (BitVec.ofNat 32 (8 * p.val))) S8x128.size (k0_off6_inb k p))
    | 1 => fun p => View.ld x1 (Rect.unit (s := S1024x512) (k0_off7 k (BitVec.ofNat 32 (8 * p.val))) S8x128.size (k0_off7_inb k p))
    | 2 => fun p => View.ld x1 (Rect.unit (s := S1024x512) (k0_off8 k (BitVec.ofNat 32 (8 * p.val))) S8x128.size (k0_off8_inb k p))
    | 3 => fun p => View.ld x1 (Rect.unit (s := S1024x512) (k0_off9 k (BitVec.ofNat 32 (8 * p.val))) S8x128.size (k0_off9_inb k p))
  sc := k0_pay4 0#32 1#32 k (View.ld x3 (Rect.unit (s := S1x8x128) ![0, 0, 0] S1x8x128.size inb_S1x8x128_S1x8x128_0_0_0))
  bi := k0_pay5 0#32 1#32 k (View.ld x4 (Rect.unit (s := S1x8x128) ![0, 0, 0] S1x8x128.size inb_S1x8x128_S1x8x128_0_0_0))
  mo := k0_pay6 0#32 1#32 k (View.ld x5 (Rect.unit (s := S1x8x128) ![0, 0, 0] S1x8x128.size inb_S1x8x128_S1x8x128_0_0_0))

/-- The staged blocks a trip reads: memrefs and what they hold. -/
structure Data (F : FTy → Type) [FloatOps F] where
  a1 : Memref sig .tc .vmem S128x4x8x128 .f32
  a2 : Memref sig .tc .vmem S1024x512 .i32
  a3 : Memref sig .tc .vmem S1024x128 .i32
  a4 : Memref sig .tc .vmem S1x8x128 .f32
  a5 : Memref sig .tc .vmem S1x8x128 .f32
  a6 : Memref sig .tc .vmem S1x8x128 .f32
  a7 : Memref sig .tc .vmem S256x512 .bf16
  x1 : BufTy.Contents (Elt F) a1.view.ty
  x2 : BufTy.Contents (Elt F) a2.view.ty
  x3 : BufTy.Contents (Elt F) a3.view.ty
  x4 : BufTy.Contents (Elt F) a4.view.ty
  x5 : BufTy.Contents (Elt F) a5.view.ty
  x6 : BufTy.Contents (Elt F) a6.view.ty
  x7 : BufTy.Contents (Elt F) a7.view.ty

def Data.J (D : Data F) (k : Fin k0_t1_loop.trips) : Ins F :=
  ins (D.a1.view.read (Elt F) D.x1) (D.a2.view.read (Elt F) D.x2) (D.a3.view.read (Elt F) D.x3) (D.a4.view.read (Elt F) D.x4)
    (D.a5.view.read (Elt F) D.x5) (D.a6.view.read (Elt F) D.x6) k

/-- The pair matrix. -/
def Data.pm (D : Data F) : FVec F S256x512 .bf16 :=
  View.ld (D.a7.view.read (Elt F) D.x7) (Rect.unit (s := S256x512) ![0, 0] S256x512.size inb_S256x512_S256x512_0_0)

variable (D : Data F) (k : Fin k0_t1_loop.trips)

set_option maxHeartbeats 0 in
/-- The values the stores read. -/
theorem values :
    r_359 D.a1 D.a3 D.a4 D.a5 D.a6 D.x1 D.x3 D.x4 D.x5 D.x6 k = (upTo (D.J k).scale 16)
    ∧ r_360 D.a1 D.a3 D.a4 D.a5 D.a6 D.x1 D.x3 D.x4 D.x5 D.x6 k = (upTo (D.J k).bias 16)
    ∧ r_337 D.a1 D.a6 D.x1 D.x6 k = (upTo (D.J k).state 15)
    ∧ r_344 D.a1 D.a6 D.x1 D.x6 k = ((D.J k).state 15)
    ∧ r_361 D.a1 D.a2 D.a3 D.a4 D.a5 D.a6 D.a7 D.x1 D.x2 D.x3 D.x4 D.x5 D.x6 D.x7 k = (extractStridedSlice Sq ![0, 0] (pairs dot_S256x512_S128x512_S256x128_1_1_0_0_n_n D.pm (D.J k).codes) slices_lo)
    ∧ r_362 D.a1 D.a2 D.a3 D.a4 D.a5 D.a6 D.a7 D.x1 D.x2 D.x3 D.x4 D.x5 D.x6 D.x7 k = (extractStridedSlice Sq ![128, 0] (pairs dot_S256x512_S128x512_S256x128_1_1_0_0_n_n D.pm (D.J k).codes) slices_hi) := by
  dsimp only [
    r, r_1, r_2, r_3, r_4, r_5, r_6, r_7, r_8, r_9, r_10, r_11, r_12, r_13, r_14, r_15, r_16, r_17, r_18, r_19, r_20, r_21, r_22, r_23, r_24, r_25, r_26, r_27, r_28, r_29,
    r_30, r_31, r_32, r_33, r_34, r_35, r_36, r_37, r_38, r_39, r_40, r_41, r_42, r_43, r_44, r_45, r_46, r_47, r_48, r_49, r_50, r_51, r_52, r_53, r_54, r_55, r_56, r_57,
    r_58, r_59, r_60, r_61, r_62, r_63, r_64, r_65, r_66, r_67, r_68, r_69, r_70, r_71, r_72, r_73, r_74, r_75, r_76, r_77, r_78, r_79, r_80, r_81, r_82, r_83, r_84, r_85,
    r_86, r_87, r_88, r_89, r_90, r_91, r_92, r_93, r_94, r_95, r_96, r_97, r_98, r_99, r_100, r_101, r_102, r_103, r_104, r_105, r_106, r_107, r_108, r_109, r_110, r_111,
    r_112, r_113, r_114, r_115, r_116, r_117, r_118, r_119, r_120, r_121, r_122, r_123, r_124, r_125, r_126, r_127, r_128, r_129, r_130, r_131, r_132, r_133, r_134, r_135,
    r_136, r_137, r_138, r_139, r_140, r_141, r_142, r_143, r_144, r_145, r_146, r_147, r_148, r_149, r_150, r_151, r_152, r_153, r_154, r_155, r_156, r_157, r_158, r_159,
    r_160, r_161, r_162, r_163, r_164, r_165, r_166, r_167, r_168, r_169, r_170, r_171, r_172, r_173, r_174, r_175, r_176, r_177, r_178, r_179, r_180, r_181, r_182, r_183,
    r_184, r_185, r_186, r_187, r_188, r_189, r_190, r_191, r_192, r_193, r_194, r_195, r_196, r_197, r_198, r_199, r_200, r_201, r_202, r_203, r_204, r_205, r_206, r_207,
    r_208, r_209, r_210, r_211, r_212, r_213, r_214, r_215, r_216, r_217, r_218, r_219, r_220, r_221, r_222, r_223, r_224, r_225, r_226, r_227, r_228, r_229, r_230, r_231,
    r_232, r_233, r_234, r_235, r_236, r_237, r_238, r_239, r_240, r_241, r_242, r_243, r_244, r_245, r_246, r_247, r_248, r_249, r_250, r_251, r_252, r_253, r_254, r_255,
    r_256, r_257, r_258, r_259, r_260, r_261, r_262, r_263, r_264, r_265, r_266, r_267, r_268, r_269, r_270, r_271, r_272, r_273, r_274, r_275, r_276, r_277, r_278, r_279,
    r_280, r_281, r_282, r_283, r_284, r_285, r_286, r_287, r_288, r_289, r_290, r_291, r_292, r_293, r_294, r_295, r_296, r_297, r_298, r_299, r_300, r_301, r_302, r_303,
    r_304, r_305, r_306, r_307, r_308, r_309, r_310, r_311, r_312, r_313, r_314, r_315, r_316, r_317, r_318, r_319, r_320, r_321, r_322, r_323, r_324, r_325, r_326, r_327,
    r_328, r_329, r_330, r_331, r_332, r_333, r_334, r_335, r_336, r_337, r_338, r_339, r_340, r_341, r_342, r_343, r_344, r_345, r_346, r_347, r_348, r_349, r_350, r_351,
    r_352, r_353, r_354, r_355, r_356, r_357, r_358, r_359, r_360, r_361, r_362]
  dsimp only [
    k0_pay1, k0_pay2, k0_pay3, k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322,
    k0_pay323, k0_pay324, k0_pay325, k0_pay326, k0_pay327, k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347, k0_pay348, k0_pay349, k0_pay350, k0_pay351, k0_pay352,
    k0_pay353, k0_pay354, k0_pay355, k0_pay356, k0_pay357, k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377, k0_pay378, k0_pay379, k0_pay380, k0_pay381, k0_pay382,
    k0_pay383, k0_pay384, k0_pay385, k0_pay386, k0_pay387, k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425, col, wide, Ins.grad,
    Ins.state, Ins.mult, Ins.new, Ins.new0, Ins.new1, Ins.new2, Ins.new3, Ins.low, Ins.span, Ins.inv, Ins.code, Ins.code0, Ins.code1, Ins.code2, Ins.code3, Ins.codes,
    Ins.scale, Ins.bias, diag, own, upTo, fold8, stack, pairs, bytes, Data.J, ins]
  exact ⟨rfl, rfl, rfl, rfl, rfl, rfl⟩

/-- The three rows a trip stores: each a tile merged over the sixteen groups and its sublanes added. -/
theorem pay_scale : k0_pay419 (upTo (D.J k).scale 16) = fold8 (upTo (D.J k).scale 16) := rfl
theorem pay_bias : k0_pay420 (upTo (D.J k).bias 16) = fold8 (upTo (D.J k).bias 16) := rfl
theorem pay_state : k0_pay421 (upTo (D.J k).state 15) ((D.J k).state 15) (k0_pay416 k0_pay1) = fold8 (upTo (D.J k).state 16) := rfl
theorem pay_bytes : k0_pay2 (extractStridedSlice Sq ![0, 0] (pairs dot_S256x512_S128x512_S256x128_1_1_0_0_n_n D.pm (D.J k).codes) slices_lo)
    (extractStridedSlice Sq ![128, 0] (pairs dot_S256x512_S128x512_S256x128_1_1_0_0_n_n D.pm (D.J k).codes) slices_hi) k0_pay425 = bytes (pairs dot_S256x512_S128x512_S256x128_1_1_0_0_n_n D.pm (D.J k).codes) := rfl

theorem trip_scale (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg8 : Memref sig .tc .vmem S520x1024 .i8) (h8 : arg8.IsWhole) (arg9 : Memref sig .tc .vmem S8x128 .f32) (h9 : arg9.IsWhole) (arg10 : Memref sig .tc .vmem S8x128 .f32) (h10 : arg10.IsWhole) (arg11 : Memref sig .tc .vmem S8x128 .f32) (h11 : arg11.IsWhole) :
    (trip_k0_t1 (F := F) 𝒱 c bd i D.a1 h1 D.a2 h2 D.a3 h3 D.a4 h4 D.a5 h5 D.a6 h6 D.a7 h7 arg8 h8 arg9 h9 arg10 h10 arg11 h11 D.x1 D.x2 D.x3 D.x4 D.x5 D.x6 D.x7 k).2.1 = [⟨Rect.unit (s := S8x128) (k0_off10 k) S1x128.size (k0_off10_inb k), fold8 (upTo (D.J k).scale 16)⟩] := by
  unfold trip_k0_t1; dsimp only
  rw [(values D k).1, pay_scale D k]

theorem trip_bias (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg8 : Memref sig .tc .vmem S520x1024 .i8) (h8 : arg8.IsWhole) (arg9 : Memref sig .tc .vmem S8x128 .f32) (h9 : arg9.IsWhole) (arg10 : Memref sig .tc .vmem S8x128 .f32) (h10 : arg10.IsWhole) (arg11 : Memref sig .tc .vmem S8x128 .f32) (h11 : arg11.IsWhole) :
    (trip_k0_t1 (F := F) 𝒱 c bd i D.a1 h1 D.a2 h2 D.a3 h3 D.a4 h4 D.a5 h5 D.a6 h6 D.a7 h7 arg8 h8 arg9 h9 arg10 h10 arg11 h11 D.x1 D.x2 D.x3 D.x4 D.x5 D.x6 D.x7 k).2.2.1 = [⟨Rect.unit (s := S8x128) (k0_off10 k) S1x128.size (k0_off10_inb k), fold8 (upTo (D.J k).bias 16)⟩] := by
  unfold trip_k0_t1; dsimp only
  rw [(values D k).2.1, pay_bias D k]

theorem trip_state (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg8 : Memref sig .tc .vmem S520x1024 .i8) (h8 : arg8.IsWhole) (arg9 : Memref sig .tc .vmem S8x128 .f32) (h9 : arg9.IsWhole) (arg10 : Memref sig .tc .vmem S8x128 .f32) (h10 : arg10.IsWhole) (arg11 : Memref sig .tc .vmem S8x128 .f32) (h11 : arg11.IsWhole) :
    (trip_k0_t1 (F := F) 𝒱 c bd i D.a1 h1 D.a2 h2 D.a3 h3 D.a4 h4 D.a5 h5 D.a6 h6 D.a7 h7 arg8 h8 arg9 h9 arg10 h10 arg11 h11 D.x1 D.x2 D.x3 D.x4 D.x5 D.x6 D.x7 k).2.2.2.1 = [⟨Rect.unit (s := S8x128) (k0_off10 k) S1x128.size (k0_off10_inb k), fold8 (upTo (D.J k).state 16)⟩] := by
  unfold trip_k0_t1; dsimp only
  rw [(values D k).2.2.1, (values D k).2.2.2.1, pay_state D k]

theorem trip_bytes (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg8 : Memref sig .tc .vmem S520x1024 .i8) (h8 : arg8.IsWhole) (arg9 : Memref sig .tc .vmem S8x128 .f32) (h9 : arg9.IsWhole) (arg10 : Memref sig .tc .vmem S8x128 .f32) (h10 : arg10.IsWhole) (arg11 : Memref sig .tc .vmem S8x128 .f32) (h11 : arg11.IsWhole) :
    (trip_k0_t1 (F := F) 𝒱 c bd i D.a1 h1 D.a2 h2 D.a3 h3 D.a4 h4 D.a5 h5 D.a6 h6 D.a7 h7 arg8 h8 arg9 h9 arg10 h10 arg11 h11 D.x1 D.x2 D.x3 D.x4 D.x5 D.x6 D.x7 k).1 = [⟨Rect.unit (s := S520x1024) (k0_off12 k) S8x128.size (k0_off12_inb k), k0_pay3⟩,
      ⟨Rect.unit (s := S520x1024) (k0_off11 k) S512x128.size (k0_off11_inb k), bytes (pairs dot_S256x512_S128x512_S256x128_1_1_0_0_n_n D.pm (D.J k).codes)⟩] := by
  unfold trip_k0_t1; dsimp only
  rw [(values D k).2.2.2.2.1, (values D k).2.2.2.2.2, pay_bytes D k]

end Cert.KernelIdeal.Trip
-- ==== Proof.Row.lean ====
/- The update of one row over the extended reals, written as plain mathematics (hand part): the common reading of the kernel's
   sixteen-group trip (`GroupValue.lean`) and of the reference's arrays (`Reference.lean`). -/
module

public import Idealize.ShloMosaic.Lib.Pointwise

@[expose] public section

noncomputable section

namespace Cert.Proof.Update

open Idealize.ShloMosaic

/-- One row of 512 columns: the summed gradients `g`, the old codes `q`, the noise `u`, and the row's scale, bias and accumulator. -/
structure Row where
  g : Fin 512 → EReal
  q : Fin 512 → EReal
  u : Fin 512 → EReal
  s : EReal
  b : EReal
  m : EReal

namespace Row
variable (ρ : Row)

/-- The new accumulator. -/
def state : EReal := ρ.m + Ideal.div (∑ c, ρ.g c * ρ.g c) (Ideal.ofBits .f32 0x44000000#32)

/-- The step size. -/
def mult : EReal := Ideal.div (Ideal.ofBits .f32 0x3CA3D70A#32) (Ideal.sqrt ρ.state + Ideal.ofBits .f32 0x322BCC77#32)

/-- The updated weight of a column. -/
def new (c : Fin 512) : EReal := ρ.q c * ρ.s + ρ.b - ρ.mult * ρ.g c

/-- The smallest and the largest updated weight. -/
def low : EReal := Finset.univ.inf ρ.new
def high : EReal := Finset.univ.sup ρ.new

def span : EReal := ρ.high - ρ.low

/-- The new scale. -/
def scale : EReal := Ideal.div ρ.span (Ideal.ofBits .f32 0x437F0000#32)

def inv : EReal := Ideal.div (Ideal.ofBits .f32 0x437F0000#32) (ρ.span + Ideal.ofBits .f32 0x322BCC77#32)

/-- The new code of a column, as a number. -/
def code (c : Fin 512) : EReal :=
  min (Ideal.ofBits .f32 0x437F0000#32) (max (Ideal.ofBits .f32 0x00000000#32)
    (Ideal.liftRound Int.floor ((ρ.new c - ρ.low) * ρ.inv + ρ.u c)))

end Row

/-- Column `l` of column block `m`. -/
def colOf (m : Fin 4) (l : Fin 128) : Fin 512 := ⟨128 * m.val + l.val, by omega⟩

/-- The old code in a packed word's byte `m`, as a number; and the noise a random word stands for. -/
def oldCode (w : BitVec 32) (m : Fin 4) : EReal := (((w >>> (8 * m.val)) &&& 255#32).toNat : ℝ)
def noise (r : BitVec 32) : EReal := (((r >>> 8).toNat : ℝ) : EReal) * Ideal.ofBits .f32 0x33800000#32

theorem colOf_surj (c : Fin 512) : ∃ m l, c = colOf m l := ⟨⟨c.val / 128, by omega⟩, ⟨c.val % 128, by omega⟩, Fin.ext (by simp only [colOf]; omega)⟩

theorem colOf_div (m : Fin 4) (l : Fin 128) : (⟨(colOf m l).val / 128, by omega⟩ : Fin 4) = m := Fin.ext (by simp only [colOf]; omega)
theorem colOf_mod (m : Fin 4) (l : Fin 128) : (⟨(colOf m l).val % 128, by omega⟩ : Fin 128) = l := Fin.ext (by simp only [colOf]; omega)

/-- A sum over the columns, block by block. -/
theorem sum_colOf (f : Fin 512 → EReal) :
    ∑ c, f c = ∑ l : Fin 128, (f (colOf 0 l) + f (colOf 1 l) + f (colOf 2 l) + f (colOf 3 l)) := by
  rw [← Equiv.sum_comp (finProdFinEquiv (m := 4) (n := 128)) f, Fintype.sum_prod_type, Fin.sum_univ_four]
  simp only [Finset.sum_add_distrib]
  have h (m : Fin 4) (l : Fin 128) : finProdFinEquiv (m, l) = colOf m l := Fin.ext (by simp [finProdFinEquiv, colOf]; omega)
  simp only [h]

/-- A least and a greatest value over the columns, block by block. -/
theorem inf_colOf (f : Fin 512 → EReal) :
    Finset.univ.inf f = (Finset.univ : Finset (Fin 128)).inf fun l => min (min (min (f (colOf 0 l)) (f (colOf 1 l))) (f (colOf 2 l))) (f (colOf 3 l)) := by
  apply le_antisymm
  · refine Finset.le_inf fun l _ => ?_
    simp only [le_min_iff]
    exact ⟨⟨⟨Finset.inf_le (Finset.mem_univ _), Finset.inf_le (Finset.mem_univ _)⟩, Finset.inf_le (Finset.mem_univ _)⟩,
      Finset.inf_le (Finset.mem_univ _)⟩
  · refine Finset.le_inf fun c _ => ?_
    obtain ⟨m, l, rfl⟩ := colOf_surj c
    refine (Finset.inf_le (Finset.mem_univ l)).trans ?_
    fin_cases m
    · exact (min_le_left _ _).trans ((min_le_left _ _).trans (min_le_left _ _))
    · exact (min_le_left _ _).trans ((min_le_left _ _).trans (min_le_right _ _))
    · exact (min_le_left _ _).trans (min_le_right _ _)
    · exact min_le_right _ _

theorem sup_colOf (f : Fin 512 → EReal) :
    Finset.univ.sup f = (Finset.univ : Finset (Fin 128)).sup fun l => max (max (max (f (colOf 0 l)) (f (colOf 1 l))) (f (colOf 2 l))) (f (colOf 3 l)) := by
  apply le_antisymm
  · refine Finset.sup_le fun c _ => ?_
    obtain ⟨m, l, rfl⟩ := colOf_surj c
    refine le_trans ?_ (Finset.le_sup (Finset.mem_univ l))
    fin_cases m
    · exact le_trans (le_trans (le_max_left _ _) (le_max_left _ _)) (le_max_left _ _)
    · exact le_trans (le_trans (le_max_right _ _) (le_max_left _ _)) (le_max_left _ _)
    · exact le_trans (le_max_right _ _) (le_max_left _ _)
    · exact le_max_right _ _
  · refine Finset.sup_le fun l _ => ?_
    simp only [max_le_iff]
    exact ⟨⟨⟨Finset.le_sup (Finset.mem_univ _), Finset.le_sup (Finset.mem_univ _)⟩, Finset.le_sup (Finset.mem_univ _)⟩,
      Finset.le_sup (Finset.mem_univ _)⟩

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]
theorem ofBits_255 : Ideal.ofBits .f32 0x437F0000#32 = ((255 : ℝ) : EReal) := by
  simp [Ideal.ofBits, Ideal.ieee, -EReal.coe_mul]; norm_num

/-- A fold from infinity is the greatest lower bound. -/
theorem fold_min {ι : Type} [Fintype ι] (f : ι → EReal) :
    Finset.fold min (Ideal.ofBits .f32 0x7F800000#32) f Finset.univ = Finset.univ.inf f := by rw [ofBits_inf]; rfl
theorem fold_max {ι : Type} [Fintype ι] (f : ι → EReal) :
    Finset.fold max (Ideal.ofBits .f32 0xFF800000#32) f Finset.univ = Finset.univ.sup f := by rw [ofBits_neg_inf]; rfl

/-- A code is a whole number from 0 to 255. -/
theorem Row.code_nat (ρ : Row) (c : Fin 512) : ∃ n : ℕ, n ≤ 255 ∧ ρ.code c = ((n : ℝ) : EReal) := by
  unfold Row.code
  rw [ofBits_255, Ideal.ofBits_zero_f32]
  generalize (ρ.new c - ρ.low) * ρ.inv + ρ.u c = x
  induction x using EReal.rec with
  | bot =>
    refine ⟨0, by omega, ?_⟩
    show min ((255 : ℝ) : EReal) (max 0 ⊥) = _
    rw [max_eq_left bot_le, min_eq_right (by exact_mod_cast (by norm_num : (0 : ℝ) ≤ 255))]; norm_num
  | top =>
    refine ⟨255, le_refl _, ?_⟩
    show min ((255 : ℝ) : EReal) (max 0 ⊤) = _
    rw [max_eq_right le_top, min_eq_left le_top]; norm_num
  | coe r =>
    refine ⟨(min 255 (max 0 ⌊r⌋)).toNat, by omega, ?_⟩
    have h : (((min 255 (max 0 ⌊r⌋)).toNat : ℤ)) = min 255 (max 0 ⌊r⌋) := Int.toNat_of_nonneg (by omega)
    have h' : (((min 255 (max 0 ⌊r⌋)).toNat : ℝ)) = min 255 (max 0 (⌊r⌋ : ℝ)) := by
      rw [← Int.cast_natCast, h]; push_cast; rfl
    rw [h']
    rw [EReal.coe_strictMono.monotone.map_min, EReal.coe_strictMono.monotone.map_max]
    rfl

/-- A code as a byte. -/
def Row.byte (ρ : Row) (c : Fin 512) : BitVec 8 := (Ideal.fptosi 32 (ρ.code c)).setWidth 8

theorem fptosi_nat (n : ℕ) (h : n < 2 ^ 31) : Ideal.fptosi 32 ((n : ℝ) : EReal) = BitVec.ofNat 32 n := by
  unfold Ideal.fptosi
  rw [show Ideal.toIntClamped (-(2 ^ (32 - 1) : Nat)) ((2 ^ (32 - 1) : Nat) - 1) ((n : ℝ) : EReal) = (n : ℤ) from ?_]
  · exact BitVec.ofInt_natCast 32 n
  · show max _ (min _ (if (0 : ℝ) ≤ (n : ℝ) then ⌊(n : ℝ)⌋ else ⌈(n : ℝ)⌉)) = _
    rw [if_pos (Nat.cast_nonneg n), Int.floor_natCast]
    omega

end Cert.Proof.Update
-- ==== Proof.Stack.lean ====
/- The tiles of sixteen groups stacked, and the four stacks side by side, read at an index (hand part). -/
module

public import proofs.«01_k».proof.Proof.Spec
public import Idealize.ShloMosaic.Lib.Pointwise
public import Idealize.ShloMosaic.Lib.Pipeline.Value

@[expose] public section

set_option maxRecDepth 16384

noncomputable section

namespace Cert.Proof.Update

open Idealize.ShloMosaic

theorem stack_apply (x : Fin 16 → FVec Ideal St .f32) (l j : Fin 128) :
    stack x (ix2 l j) = x ⟨l.val / 8, by omega⟩ (ix2 ⟨l.val % 8, by omega⟩ j) := by
  refine concatenate_ofFn_apply (t := Sq) (s₁ := St) 0 (N := 16) x concat_q rfl 8 rfl (ix2 l j) ⟨l.val / 8, by omega⟩ rfl
    (ix2 ⟨l.val % 8, by omega⟩ j) rfl fun b hb => ?_
  match b with
  | ⟨0, _⟩ => exact absurd rfl hb
  | ⟨1, _⟩ => rfl

/-- Four stacks side by side, read at a column. -/
theorem sides_apply (y : Fin 4 → FVec Ideal Sq .f32) (l : Fin 128) (c : Fin 512) :
    concatenate Sl 1 [⟨Sq, y 0⟩, ⟨Sq, y 1⟩, ⟨Sq, y 2⟩, ⟨Sq, y 3⟩] concat_l (ix2 l c)
      = y ⟨c.val / 128, by omega⟩ (ix2 l ⟨c.val % 128, by omega⟩) := by
  have e : concatenate Sl 1 [⟨Sq, y 0⟩, ⟨Sq, y 1⟩, ⟨Sq, y 2⟩, ⟨Sq, y 3⟩] concat_l
      = concatenate Sl 1 (List.ofFn fun n : Fin 4 => (⟨Sq, y n⟩ : (s : Shape) × (s.Idx → EReal))) concat_l := rfl
  rw [e]
  have hi : ∀ b : Fin Sq.rank, b.cast (rfl : Sq.rank = Sl.rank) ≠ (1 : Fin Sl.rank) →
      ((ix2 l ⟨c.val % 128, by omega⟩ : Sq.Idx) b).val = ((ix2 l c : Sl.Idx) (b.cast rfl)).val := fun b hb => by
    match b with
    | ⟨0, _⟩ => rfl
    | ⟨1, _⟩ => exact absurd rfl hb
  have hn : ((ix2 l c : Sl.Idx) 1).val / 128 = (⟨c.val / 128, by omega⟩ : Fin 4).val := by show c.val / 128 = _; rfl
  have ha : ((ix2 l ⟨c.val % 128, by omega⟩ : Sq.Idx) 1).val = ((ix2 l c : Sl.Idx) 1).val % 128 := by show c.val % 128 = c.val % 128; rfl
  have hl : Shape.Concatenates ((List.ofFn fun n : Fin 4 => (⟨Sq, y n⟩ : (s : Shape) × (s.Idx → EReal))).map (·.1)) Sl 1 := concat_l
  have hK : Sq.size ((1 : Fin Sl.rank).cast (rfl : Sl.rank = Sq.rank)) = 128 := rfl
  have H := fun hr => concatenate_ofFn_apply (t := Sl) (s₁ := Sq) (1 : Fin Sl.rank) (N := 4) y hl hr 128
  have H1 := H rfl hK
  have H2 := H1 (ix2 l c) ⟨c.val / 128, by omega⟩ hn
  have H3 := H2 (ix2 l ⟨c.val % 128, by omega⟩)
  have H4 := H3 ha
  have H5 := H4 hi
  exact H5

end Cert.Proof.Update
-- ==== Proof.GroupValue.lean ====
/- What the terms of `Spec.lean` are worth over the extended reals (hand part): each is the row update of `Row.lean`. -/
module

public import proofs.«01_k».proof.Proof.Spec
public import proofs.«01_k».proof.Proof.Row
public import proofs.«01_k».proof.Proof.Stack
public import Idealize.ShloMosaic.Lib.Pipeline.Value
public import Idealize.ShloMosaic.Lib.BitcastFour

@[expose] public section

set_option maxRecDepth 16384

noncomputable section

namespace Cert.Proof.Update

open Idealize.ShloMosaic

/-- A word's byte and a word's upper 24 bits as numbers: neither has a sign. -/
theorem oldCode_eq (w : BitVec 32) (m : Fin 4) (sh : BitVec 32) (hs : sh = BitVec.ofNat 32 (8 * m.val)) :
    FloatOps.sitofp (F := Ideal) .f32 (IntOp.andi (IntOp.shrui ArithUnit.vector w sh) 255#32) = oldCode w m := by
  subst hs
  have e : IntOp.andi (IntOp.shrui ArithUnit.vector w (BitVec.ofNat 32 (8 * m.val))) 255#32 = (w >>> (8 * m.val)) &&& 255#32 := by
    unfold IntOp.andi IntOp.shrui
    have : (BitVec.ofNat 32 (8 * m.val)).toNat = 8 * m.val := by rw [BitVec.toNat_ofNat]; omega
    rw [if_pos (by rw [this]; omega)]
    rw [BitVec.ushiftRight_eq', this]
  rw [e]
  show (((((w >>> (8 * m.val)) &&& 255#32).toInt : ℤ) : ℝ) : EReal) = _
  have hlt : ((w >>> (8 * m.val)) &&& 255#32).toNat < 256 := by
    rw [BitVec.toNat_and]; exact lt_of_le_of_lt Nat.and_le_right (by decide)
  rw [BitVec.toInt_eq_toNat_of_lt (by omega)]
  unfold oldCode
  norm_cast

theorem noise_eq (r : BitVec 32) :
    FloatOps.sitofp (F := Ideal) .f32 (IntOp.shrui ArithUnit.vector r 8#32) * Ideal.ofBits .f32 0x33800000#32 = noise r := by
  have e : IntOp.shrui ArithUnit.vector r 8#32 = r >>> 8 := by
    unfold IntOp.shrui
    rw [if_pos (by decide), BitVec.ushiftRight_eq']; rfl
  rw [e]
  show ((((r >>> 8).toInt : ℤ) : ℝ) : EReal) * _ = _
  have hlt : (r >>> 8).toNat < 2 ^ 24 := by
    rw [BitVec.toNat_ushiftRight, Nat.shiftRight_eq_div_pow]; have := r.isLt; omega
  rw [BitVec.toInt_eq_toNat_of_lt (by omega)]
  unfold noise
  norm_cast

namespace Ins
variable (I : Ins Ideal) (p : Fin 16) (s : Fin 8)

/-- The row of slot `8p + s` of a trip. -/
def row : Row where
  g c := I.g ⟨c.val / 128, by omega⟩ p (ix4 0 0 s ⟨c.val % 128, by omega⟩)
  q c := oldCode (I.w p (ix2 s ⟨c.val % 128, by omega⟩)) ⟨c.val / 128, by omega⟩
  u c := noise (I.r ⟨c.val / 128, by omega⟩ p (ix2 s ⟨c.val % 128, by omega⟩))
  s := I.sc (ix2 s ⟨p.val, by omega⟩)
  b := I.bi (ix2 s ⟨p.val, by omega⟩)
  m := I.mo (ix2 s ⟨p.val, by omega⟩)

theorem row_g (m : Fin 4) (l : Fin 128) : (I.row p s).g (colOf m l) = I.g m p (ix4 0 0 s l) := by
  simp only [row, colOf_div, colOf_mod]
theorem row_q (m : Fin 4) (l : Fin 128) : (I.row p s).q (colOf m l) = oldCode (I.w p (ix2 s l)) m := by
  simp only [row, colOf_div, colOf_mod]
theorem row_u (m : Fin 4) (l : Fin 128) : (I.row p s).u (colOf m l) = noise (I.r m p (ix2 s l)) := by
  simp only [row, colOf_div, colOf_mod]

theorem grad_apply (m : Fin 4) (l : Fin 128) : I.grad p m (ix2 s l) = (I.row p s).g (colOf m l) := by
  rw [row_g]; pointwise [Ins.grad]

theorem col_apply (x : FVec Ideal St .f32) (l : Fin 128) : col x p (ix2 s l) = x (ix2 s ⟨p.val, by omega⟩) := by
  pointwise [col]

theorem state_apply (l : Fin 128) : I.state p (ix2 s l) = (I.row p s).state := by
  pointwise [Ins.state, wide, col_apply, grad_apply]
  rw [Row.state, sum_colOf]
  rfl

theorem mult_apply (l : Fin 128) : I.mult p (ix2 s l) = (I.row p s).mult := by
  pointwise [Ins.mult, state_apply]
  rfl

theorem new_apply (m : Fin 4) (sh : BitVec 32) (hs : sh = BitVec.ofNat 32 (8 * m.val)) (l : Fin 128) :
    I.new p m sh (ix2 s l) = (I.row p s).new (colOf m l) := by
  pointwise [Ins.new, mult_apply, grad_apply, col_apply]
  rw [oldCode_eq _ m sh hs, Row.new, row_q]
  rfl

theorem new0_apply (l : Fin 128) : I.new0 p (ix2 s l) = (I.row p s).new (colOf 0 l) := I.new_apply p s 0 _ rfl l
theorem new1_apply (l : Fin 128) : I.new1 p (ix2 s l) = (I.row p s).new (colOf 1 l) := I.new_apply p s 1 _ rfl l
theorem new2_apply (l : Fin 128) : I.new2 p (ix2 s l) = (I.row p s).new (colOf 2 l) := I.new_apply p s 2 _ rfl l
theorem new3_apply (l : Fin 128) : I.new3 p (ix2 s l) = (I.row p s).new (colOf 3 l) := I.new_apply p s 3 _ rfl l

theorem low_apply : I.low p (ix2 s 0) = (I.row p s).low := by
  pointwise [Ins.low, new0_apply, new1_apply, new2_apply, new3_apply]
  rw [Row.low, inf_colOf, fold_min]

theorem span_apply : I.span p (ix2 s 0) = (I.row p s).span := by
  pointwise [Ins.span, new0_apply, new1_apply, new2_apply, new3_apply, low_apply]
  rw [Row.span, Row.high, sup_colOf, fold_max]

theorem inv_apply : I.inv p (ix2 s 0) = (I.row p s).inv := by
  pointwise [Ins.inv, span_apply]
  rfl

theorem scale_apply (l : Fin 128) : I.scale p (ix2 s l) = (I.row p s).scale := by
  pointwise [Ins.scale, wide, span_apply]
  rfl

theorem bias_apply (l : Fin 128) : I.bias p (ix2 s l) = (I.row p s).low := by
  pointwise [Ins.bias, wide, low_apply]

theorem code_apply (x : FVec Ideal St .f32) (m : Fin 4) (l : Fin 128) (hx : x (ix2 s l) = (I.row p s).new (colOf m l)) :
    I.code p x m (ix2 s l) = (I.row p s).code (colOf m l) := by
  pointwise [Ins.code, wide, inv_apply, low_apply]
  rw [hx, noise_eq, Row.code, row_u, Ideal.ofBits_zero_f32]

theorem codes_apply (m : Fin 4) (l : Fin 128) : I.codes m p (ix2 s l) = (I.row p s).code (colOf m l) := by
  fin_cases m
  · exact I.code_apply p s _ 0 l (I.new0_apply p s l)
  · exact I.code_apply p s _ 1 l (I.new1_apply p s l)
  · exact I.code_apply p s _ 2 l (I.new2_apply p s l)
  · exact I.code_apply p s _ 3 l (I.new3_apply p s l)

end Ins

/-- A lane is owned by the group of eight slots it lies in, in the sublane of its place there. -/
theorem own_apply (p : Fin 16) (s : Fin 8) (l : Fin 128) :
    own p (ix2 s l) = BitVec.ofBool (decide (l.val = 8 * p.val + s.val)) := by
  pointwise [own, diag]
  unfold IntOp.cmpi IntOp.subi
  have h : (BitVec.ofNat 32 l.val - BitVec.ofNat 32 s.val = BitVec.ofNat 32 (8 * p.val)) ↔ l.val = 8 * p.val + s.val := by
    rw [BitVec.sub_eq_iff_eq_add]
    constructor
    · intro e
      have := congrArg BitVec.toNat e
      simp only [BitVec.toNat_add, BitVec.toNat_ofNat] at this
      omega
    · intro e
      rw [e, BitVec.ofNat_add]
  refine congrArg BitVec.ofBool ?_
  rw [Bool.eq_iff_iff, beq_iff_eq, decide_eq_true_iff]
  exact h

theorem upTo_apply (x : Fin 16 → FVec Ideal St .f32) (n : ℕ) (hn : n ≤ 16) (s : Fin 8) (l : Fin 128) :
    upTo x n (ix2 s l) = if l.val % 8 = s.val ∧ l.val / 8 < n then x ⟨l.val / 8, by omega⟩ (ix2 s l) else 0 := by
  induction n with
  | zero => rw [if_neg (by omega)]; pointwise [upTo]
  | succ n ih =>
    have h : (Fin.ofNat 16 n).val = n := Nat.mod_eq_of_lt (by omega)
    pointwise [upTo, own_apply, ih (by omega)]
    rw [h]
    by_cases e : l.val = 8 * n + s.val
    · rw [if_pos e, if_pos (by omega), show (⟨l.val / 8, by omega⟩ : Fin 16) = Fin.ofNat 16 n from Fin.ext (by rw [h]; show l.val / 8 = n; omega)]
    · rw [if_neg e]
      by_cases e' : l.val % 8 = s.val ∧ l.val / 8 < n
      · rw [if_pos e', if_pos (by omega)]
      · rw [if_neg e', if_neg (by omega)]

theorem fold8_upTo (x : Fin 16 → FVec Ideal St .f32) (l : Fin 128) :
    fold8 (upTo x 16) (ix2 0 l) = x ⟨l.val / 8, by omega⟩ (ix2 ⟨l.val % 8, by omega⟩ l) := by
  pointwise [fold8]
  simp only [upTo_apply x 16 le_rfl]
  have h : l.val % 8 = 0 ∨ l.val % 8 = 1 ∨ l.val % 8 = 2 ∨ l.val % 8 = 3 ∨ l.val % 8 = 4 ∨ l.val % 8 = 5 ∨ l.val % 8 = 6 ∨ l.val % 8 = 7 := by omega
  have h' : l.val / 8 < 16 := by omega
  have e (k : Fin 8) (hk : l.val % 8 = k.val) : (⟨l.val % 8, by omega⟩ : Fin 8) = k := Fin.ext hk
  rcases h with h | h | h | h | h | h | h | h
  · rw [e 0 h]; simp [h, h']
  · rw [e 1 h]; simp [h, h']
  · rw [e 2 h]; simp [h, h']
  · rw [e 3 h]; simp [h, h']
  · rw [e 4 h]; simp [h, h']
  · rw [e 5 h]; simp [h, h']
  · rw [e 6 h]; simp [h, h']
  · rw [e 7 h]; simp [h, h']

/-- The column whose code is the low byte of pair row `a`: the words' rows are columns `4i .. 4i+3`, low pairs first. -/
def firstOf (a : Fin 256) : ℕ := 4 * (a.val % 128) + 2 * (a.val / 128)

/-- The pair matrix: row `a` adds column `firstOf a` and 256 times the next one. -/
def IsPairs (pm : FVec Ideal Sp .bf16) : Prop :=
  ∀ (a : Fin 256) (c : Fin 512),
    pm (ix2 a c) = (((if c.val = firstOf a then 1 else 0) + (if c.val = firstOf a + 1 then 256 else 0) : ℕ) : ℝ)

theorem sum_pair (n : Fin 512 → ℕ) (a : Fin 256) :
    ∑ c : Fin 512, ((if c.val = firstOf a then 1 else 0) + (if c.val = firstOf a + 1 then 256 else 0)) * n c
      = n ⟨firstOf a, by unfold firstOf; omega⟩ + 256 * n ⟨firstOf a + 1, by unfold firstOf; omega⟩ := by
  simp only [add_mul, Finset.sum_add_distrib]
  refine congrArg₂ (· + ·) ?_ ?_
  · rw [Finset.sum_eq_single ⟨firstOf a, by unfold firstOf; omega⟩]
    · simp
    · intro b _ hb; rw [if_neg (fun h => hb (Fin.ext h))]; simp
    · simp
  · rw [Finset.sum_eq_single ⟨firstOf a + 1, by unfold firstOf; omega⟩]
    · simp
    · intro b _ hb; rw [if_neg (fun h => hb (Fin.ext h))]; simp
    · simp

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem pairs_apply (pm : FVec Ideal Sp .bf16) (hpm : IsPairs pm) (c : Fin 4 → Fin 16 → FVec Ideal St .f32) (l : Fin 128) (n : Fin 512 → ℕ)
    (hn : ∀ k, n k ≤ 255)
    (hc : ∀ k : Fin 512, c ⟨k.val / 128, by omega⟩ ⟨l.val / 8, by omega⟩ (ix2 ⟨l.val % 8, by omega⟩ ⟨k.val % 128, by omega⟩) = ((n k : ℝ) : EReal))
    (a : Fin 256) :
    pairs (DotDims.transposedRhs 256 512 128) pm c (ix2 a l)
      = BitVec.ofNat 32 (n ⟨firstOf a, by unfold firstOf; omega⟩ + 256 * n ⟨firstOf a + 1, by unfold firstOf; omega⟩) := by
  have e : matmul (DotDims.transposedRhs 256 512 128) none (shapeCast Sp pm casts_p)
      (truncf .bf16 (concatenate Sl 1 [⟨Sq, stack (c 0)⟩, ⟨Sq, stack (c 1)⟩, ⟨Sq, stack (c 2)⟩, ⟨Sq, stack (c 3)⟩] concat_l) narrow)
      (constant So .f32 0x00000000#32) (ix2 a l)
        = (((n ⟨firstOf a, by unfold firstOf; omega⟩ + 256 * n ⟨firstOf a + 1, by unfold firstOf; omega⟩ : ℕ) : ℝ) : EReal) := by
    generalize hK : concatenate Sl 1 [⟨Sq, stack (c 0)⟩, ⟨Sq, stack (c 1)⟩, ⟨Sq, stack (c 2)⟩, ⟨Sq, stack (c 3)⟩] concat_l = K
    pointwise
    rw [← sum_pair n a, Nat.cast_sum, coe_sum]
    refine Finset.sum_congr rfl fun k _ => ?_
    rw [hpm a k, ← hK, sides_apply (fun m => stack (c m)) l k, stack_apply, hc k, ← EReal.coe_mul]
    norm_cast
  unfold pairs
  rw [fptosi_apply, e]
  refine fptosi_nat _ ?_
  have h1 := hn ⟨firstOf a, by unfold firstOf; omega⟩
  have h2 := hn ⟨firstOf a + 1, by unfold firstOf; omega⟩
  omega

/-- The four bytes of two pair sums in a word. -/
theorem word_byte (a b c d : ℕ) (ha : a ≤ 255) (hb : b ≤ 255) (hc : c ≤ 255) (hd : d ≤ 255) (q : ℕ) (hq : q < 8) :
    (IntOp.ori (BitVec.ofNat 32 (a + 256 * b)) (IntOp.shli ArithUnit.vector (BitVec.ofNat 32 (c + 256 * d)) 16#32)).getLsbD (8 * 0 + q) = (BitVec.ofNat 8 a).getLsbD q
    ∧ (IntOp.ori (BitVec.ofNat 32 (a + 256 * b)) (IntOp.shli ArithUnit.vector (BitVec.ofNat 32 (c + 256 * d)) 16#32)).getLsbD (8 * 1 + q) = (BitVec.ofNat 8 b).getLsbD q
    ∧ (IntOp.ori (BitVec.ofNat 32 (a + 256 * b)) (IntOp.shli ArithUnit.vector (BitVec.ofNat 32 (c + 256 * d)) 16#32)).getLsbD (8 * 2 + q) = (BitVec.ofNat 8 c).getLsbD q
    ∧ (IntOp.ori (BitVec.ofNat 32 (a + 256 * b)) (IntOp.shli ArithUnit.vector (BitVec.ofNat 32 (c + 256 * d)) 16#32)).getLsbD (8 * 3 + q) = (BitVec.ofNat 8 d).getLsbD q := by
  have two (x y : ℕ) (hx : x ≤ 255) (hy : y ≤ 255) : BitVec.ofNat 32 (x + 256 * y) = (BitVec.ofNat 8 x).setWidth 32 ||| ((BitVec.ofNat 8 y).setWidth 32 <<< 8) := by
    have hor : x + 256 * y = (y <<< 8) ||| x := by
      rw [← Nat.shiftLeft_add_eq_or_of_lt (i := 8) (by omega : x < 2 ^ 8) y, Nat.shiftLeft_eq]; omega
    apply BitVec.eq_of_toNat_eq
    rw [BitVec.toNat_or, BitVec.toNat_shiftLeft, BitVec.toNat_setWidth, BitVec.toNat_setWidth, BitVec.toNat_ofNat, BitVec.toNat_ofNat, BitVec.toNat_ofNat,
      Nat.mod_eq_of_lt (by omega : x < 2 ^ 8), Nat.mod_eq_of_lt (by omega : y < 2 ^ 8), Nat.mod_eq_of_lt (by omega : x < 2 ^ 32),
      Nat.mod_eq_of_lt (by omega : y < 2 ^ 32), Nat.mod_eq_of_lt (by omega : x + 256 * y < 2 ^ 32), Nat.shiftLeft_eq,
      Nat.mod_eq_of_lt (by omega : y * 2 ^ 8 < 2 ^ 32), ← Nat.shiftLeft_eq, hor, Nat.or_comm]
  have e : IntOp.ori (BitVec.ofNat 32 (a + 256 * b)) (IntOp.shli ArithUnit.vector (BitVec.ofNat 32 (c + 256 * d)) 16#32)
      = (BitVec.ofNat 8 a).setWidth 32 ||| ((BitVec.ofNat 8 b).setWidth 32 <<< 8) ||| ((BitVec.ofNat 8 c).setWidth 32 <<< 16)
        ||| ((BitVec.ofNat 8 d).setWidth 32 <<< 24) := by
    unfold IntOp.ori IntOp.shli
    rw [if_pos (by decide), two a b ha hb, two c d hc hd, BitVec.shiftLeft_eq', show (16#32).toNat = 16 from rfl, BitVec.shiftLeft_or_distrib,
      ← BitVec.shiftLeft_add, BitVec.or_assoc, BitVec.or_assoc, BitVec.or_assoc]
  have f := four_bytes_getLsbD ![BitVec.ofNat 8 a, BitVec.ofNat 8 b, BitVec.ofNat 8 c, BitVec.ofNat 8 d]
  rw [e]
  have g (m : ℕ) (hm : m < 4) : (8 * m + q) / 8 = m ∧ (8 * m + q) % 8 = q := by omega
  have f0 := f (8 * 0 + q) (by omega); have f1 := f (8 * 1 + q) (by omega)
  have f2 := f (8 * 2 + q) (by omega); have f3 := f (8 * 3 + q) (by omega)
  simp only [(g 0 (by omega)).1, (g 0 (by omega)).2] at f0
  simp only [(g 1 (by omega)).1, (g 1 (by omega)).2] at f1
  simp only [(g 2 (by omega)).1, (g 2 (by omega)).2] at f2
  simp only [(g 3 (by omega)).1, (g 3 (by omega)).2] at f3
  exact ⟨f0, f1, f2, f3⟩

theorem bytes_apply (x : IVec So 32) (n : Fin 512 → ℕ) (hn : ∀ k, n k ≤ 255) (l : Fin 128)
    (hx : ∀ a, x (ix2 a l) = BitVec.ofNat 32 (n ⟨firstOf a, by unfold firstOf; omega⟩ + 256 * n ⟨firstOf a + 1, by unfold firstOf; omega⟩))
    (r : Fin 512) : bytes x (ix2 r l) = BitVec.ofNat 8 (n r) := by
  apply BitVec.eq_of_getLsbD_eq
  intro q hq
  unfold bytes
  rw [bitcast_getLsbD _ _ _ q hq (by decide)]
  have hs : bitcasts_b.srcIdx (ix2 r l) ((Sb.row (ix2 r l) * 8 + q) / 32) (fun a ha => (Nat.div_lt_iff_lt_mul (by decide)).2 (bitcasts_b.pos_lt (ix2 r l) q hq a ha))
      = (ix2 ⟨r.val / 4, by omega⟩ l : Sq.Idx) := by
    funext c
    match c with
    | ⟨0, _⟩ =>
      refine Fin.ext ((bitcasts_b.srcIdx_row _ _ _ ⟨0, Nat.zero_lt_two⟩ rfl).trans ?_)
      show (r.val * 8 + q) / 32 = r.val / 4
      omega
    | ⟨1, _⟩ => exact Fin.ext (bitcasts_b.srcIdx_other _ _ _ ⟨1, Nat.one_lt_two⟩ (by show ¬ 1 + 2 = 2; omega))
  have hm : (Sb.row (ix2 r l) * 8 + q) % 32 = 8 * (r.val % 4) + q := by
    show (r.val * 8 + q) % 32 = _
    omega
  rw [hs, hm]
  pointwise
  rw [hx, hx]
  have e0 : n ⟨firstOf ⟨r.val / 4, by omega⟩, by unfold firstOf; dsimp only; omega⟩ = n ⟨4 * (r.val / 4), by omega⟩ := by
    congr 1; refine Fin.ext ?_; unfold firstOf; dsimp only; omega
  have e1 : n ⟨firstOf ⟨r.val / 4, by omega⟩ + 1, by unfold firstOf; dsimp only; omega⟩ = n ⟨4 * (r.val / 4) + 1, by omega⟩ := by
    congr 1; refine Fin.ext ?_; unfold firstOf; dsimp only; omega
  have e2 : n ⟨firstOf ⟨128 + r.val / 4, by omega⟩, by unfold firstOf; dsimp only; omega⟩ = n ⟨4 * (r.val / 4) + 2, by omega⟩ := by
    congr 1; refine Fin.ext ?_; unfold firstOf; dsimp only; omega
  have e3 : n ⟨firstOf ⟨128 + r.val / 4, by omega⟩ + 1, by unfold firstOf; dsimp only; omega⟩ = n ⟨4 * (r.val / 4) + 3, by omega⟩ := by
    congr 1; refine Fin.ext ?_; unfold firstOf; dsimp only; omega
  rw [e0, e1, e2, e3]
  have er : r = ⟨4 * (r.val / 4) + r.val % 4, by omega⟩ := Fin.ext (by dsimp only; omega)
  have hr : r.val % 4 = 0 ∨ r.val % 4 = 1 ∨ r.val % 4 = 2 ∨ r.val % 4 = 3 := by omega
  have hw := word_byte (n ⟨4 * (r.val / 4), by omega⟩) (n ⟨4 * (r.val / 4) + 1, by omega⟩) (n ⟨4 * (r.val / 4) + 2, by omega⟩)
    (n ⟨4 * (r.val / 4) + 3, by omega⟩) (hn _) (hn _) (hn _) (hn _) q hq
  rcases hr with h | h | h | h
  · rw [show n r = n ⟨4 * (r.val / 4), by omega⟩ from congrArg n (Fin.ext (by dsimp only; omega)), h]; exact hw.1
  · rw [show n r = n ⟨4 * (r.val / 4) + 1, by omega⟩ from congrArg n (Fin.ext (by dsimp only; omega)), h]; exact hw.2.1
  · rw [show n r = n ⟨4 * (r.val / 4) + 2, by omega⟩ from congrArg n (Fin.ext (by dsimp only; omega)), h]; exact hw.2.2.1
  · rw [show n r = n ⟨4 * (r.val / 4) + 3, by omega⟩ from congrArg n (Fin.ext (by dsimp only; omega)), h]; exact hw.2.2.2

end Cert.Proof.Update
-- ==== Proof.Block.lean ====
/- What the launch leaves in a block of each result, row by row of the blocks it reads (hand part). -/
module

public import proofs.«01_k».proof.Proof.Gen.KernelIdeal.Frame
public import proofs.«01_k».proof.Proof.Trip
public import proofs.«01_k».proof.Proof.GroupValue
public import Idealize.ShloMosaic.Lib.Pipeline.CanonAppend

@[expose] public section

set_option maxRecDepth 16384

noncomputable section

namespace Cert.KernelIdeal.Block

open Cert.KernelIdeal Cert.KernelIdeal.Gen Idealize.ShloMosaic Idealize.ShloMosaic.TcCoe
open Cert.Proof.Update Cert.KernelIdeal.Trip

/-- Slot `n` of a grid point's 1024, as a row: group `n / 8`, sublane `n % 8`. -/
def rowAt (x0 : Vec Ideal S128x4x8x128 .f32) (x1 : Vec Ideal S1024x512 .i32) (x2 : Vec Ideal S1024x128 .i32) (x3 x4 x5 : Vec Ideal S1x8x128 .f32)
    (n : Fin 1024) : Row where
  g := fun c => x0 (ix4 ⟨n.val / 8, by omega⟩ ⟨c.val / 128, by omega⟩ ⟨n.val % 8, by omega⟩ ⟨c.val % 128, by omega⟩)
  q := fun c => oldCode (x2 (ix2 n ⟨c.val % 128, by omega⟩)) ⟨c.val / 128, by omega⟩
  u := fun c => noise (x1 (ix2 n c))
  s := x3 (ix3 0 ⟨n.val % 8, by omega⟩ ⟨n.val / 8, by omega⟩)
  b := x4 (ix3 0 ⟨n.val % 8, by omega⟩ ⟨n.val / 8, by omega⟩)
  m := x5 (ix3 0 ⟨n.val % 8, by omega⟩ ⟨n.val / 8, by omega⟩)

theorem off1 : ∀ (k : Fin k0_t1_loop.trips) (p : Fin 16), k0_off1 k (BitVec.ofNat 32 p.val) = ![16 * k.val + p.val, 0, 0, 0] := by decide +kernel
theorem off2 : ∀ (k : Fin k0_t1_loop.trips) (p : Fin 16), k0_off2 k (BitVec.ofNat 32 p.val) = ![16 * k.val + p.val, 1, 0, 0] := by decide +kernel
theorem off3 : ∀ (k : Fin k0_t1_loop.trips) (p : Fin 16), k0_off3 k (BitVec.ofNat 32 p.val) = ![16 * k.val + p.val, 2, 0, 0] := by decide +kernel
theorem off4 : ∀ (k : Fin k0_t1_loop.trips) (p : Fin 16), k0_off4 k (BitVec.ofNat 32 p.val) = ![16 * k.val + p.val, 3, 0, 0] := by decide +kernel
theorem off5 : ∀ (k : Fin k0_t1_loop.trips) (p : Fin 16), k0_off5 k (BitVec.ofNat 32 (8 * p.val)) = ![128 * k.val + 8 * p.val, 0] := by decide +kernel
theorem off6 : ∀ (k : Fin k0_t1_loop.trips) (p : Fin 16), k0_off6 k (BitVec.ofNat 32 (8 * p.val)) = ![128 * k.val + 8 * p.val, 0] := by decide +kernel
theorem off7 : ∀ (k : Fin k0_t1_loop.trips) (p : Fin 16), k0_off7 k (BitVec.ofNat 32 (8 * p.val)) = ![128 * k.val + 8 * p.val, 128] := by decide +kernel
theorem off8 : ∀ (k : Fin k0_t1_loop.trips) (p : Fin 16), k0_off8 k (BitVec.ofNat 32 (8 * p.val)) = ![128 * k.val + 8 * p.val, 256] := by decide +kernel
theorem off9 : ∀ (k : Fin k0_t1_loop.trips) (p : Fin 16), k0_off9 k (BitVec.ofNat 32 (8 * p.val)) = ![128 * k.val + 8 * p.val, 384] := by decide +kernel
theorem off10 : ∀ k : Fin k0_t1_loop.trips, k0_off10 k = ![k.val, 0] := by decide +kernel
theorem off11 : ∀ k : Fin k0_t1_loop.trips, k0_off11 k = ![0, 128 * k.val] := by decide +kernel
theorem off12 : ∀ k : Fin k0_t1_loop.trips, k0_off12 k = ![512, 128 * k.val] := by decide +kernel

theorem emb_unit {s : Shape} (off size : Fin s.rank → ℕ) (inb : ∀ a, off a + size a ≤ s.size a) (j : (Rect.unit off size inb).shape.Idx)
    (a : Fin s.rank) : ((Rect.unit off size inb).emb j a).val = off a + (j a).val := by
  rw [Rect.emb_apply]; show off a + 1 * (j a).val = _; omega

/-- A load read at an index: the index shifted by the load's offset. -/
theorem ld_at {s : Shape} {e : EltTy} (x : s.Idx → Elt Ideal e) (off size : Fin s.rank → ℕ) (inb : ∀ a, off a + size a ≤ s.size a)
    (j : (Rect.unit off size inb).shape.Idx) (i : s.Idx) (off' : Fin s.rank → ℕ) (e : off = off') (h : ∀ a, (i a).val = off' a + (j a).val) :
    View.ld x (Rect.unit off size inb) j = x i := by
  subst e
  show x ((Rect.unit off size inb).emb j) = x i
  congr 1; funext a; apply Fin.ext; rw [h a]
  exact emb_unit off size inb j a

theorem idx_row (x : S1x128.Idx) : x = ix2 (0 : Fin 1) (x 1) := by
  refine (eq_ix2 x).trans (congrArg (fun z : Fin 1 => ix2 z (x 1)) (Fin.ext ?_))
  have h : (x 0).val < 1 := (x 0).isLt
  show (x 0).val = 0
  omega

theorem trips8 (k : Fin k0_t1_loop.trips) : k.val < 8 := k.isLt

section
variable (x0 : Vec Ideal S128x4x8x128 .f32) (x1 : Vec Ideal S1024x512 .i32) (x2 : Vec Ideal S1024x128 .i32) (x3 x4 x5 : Vec Ideal S1x8x128 .f32)
  (k : Fin k0_t1_loop.trips) (p : Fin 16) (s : Fin 8)

def slot (k : Fin k0_t1_loop.trips) (p : Fin 16) (s : Fin 8) : Fin 1024 := ⟨128 * k.val + 8 * p.val + s.val, by have := trips8 k; omega⟩

theorem ins_w (l : Fin 128) : (ins x0 x1 x2 x3 x4 x5 k).w p (ix2 s l) = x2 (ix2 (slot k p s) l) := by
  refine ld_at (s := S1024x128) x2 _ _ _ _ _ _ (off5 k p) fun a => ?_
  match a with
  | ⟨0, _⟩ => rfl
  | ⟨1, _⟩ => show l.val = 0 + l.val; omega

theorem ins_g (m : Fin 4) (l : Fin 128) :
    (ins x0 x1 x2 x3 x4 x5 k).g m p (ix4 0 0 s l) = x0 (ix4 ⟨16 * k.val + p.val, by have := trips8 k; omega⟩ m s l) := by
  match m with
  | 0 =>
    refine ld_at (s := S128x4x8x128) x0 _ _ _ _ _ _ (off1 k p) fun a => ?_
    match a with
    | ⟨0, _⟩ => rfl
    | ⟨1, _⟩ => rfl
    | ⟨2, _⟩ => show s.val = 0 + s.val; omega
    | ⟨3, _⟩ => show l.val = 0 + l.val; omega
  | 1 =>
    refine ld_at (s := S128x4x8x128) x0 _ _ _ _ _ _ (off2 k p) fun a => ?_
    match a with
    | ⟨0, _⟩ => rfl
    | ⟨1, _⟩ => rfl
    | ⟨2, _⟩ => show s.val = 0 + s.val; omega
    | ⟨3, _⟩ => show l.val = 0 + l.val; omega
  | 2 =>
    refine ld_at (s := S128x4x8x128) x0 _ _ _ _ _ _ (off3 k p) fun a => ?_
    match a with
    | ⟨0, _⟩ => rfl
    | ⟨1, _⟩ => rfl
    | ⟨2, _⟩ => show s.val = 0 + s.val; omega
    | ⟨3, _⟩ => show l.val = 0 + l.val; omega
  | 3 =>
    refine ld_at (s := S128x4x8x128) x0 _ _ _ _ _ _ (off4 k p) fun a => ?_
    match a with
    | ⟨0, _⟩ => rfl
    | ⟨1, _⟩ => rfl
    | ⟨2, _⟩ => show s.val = 0 + s.val; omega
    | ⟨3, _⟩ => show l.val = 0 + l.val; omega

theorem ins_r (m : Fin 4) (l : Fin 128) :
    (ins x0 x1 x2 x3 x4 x5 k).r m p (ix2 s l) = x1 (ix2 (slot k p s) (colOf m l)) := by
  match m with
  | 0 =>
    refine ld_at (s := S1024x512) x1 _ _ _ _ _ _ (off6 k p) fun a => ?_
    match a with
    | ⟨0, _⟩ => rfl
    | ⟨1, _⟩ => show 128 * 0 + l.val = 0 + l.val; omega
  | 1 =>
    refine ld_at (s := S1024x512) x1 _ _ _ _ _ _ (off7 k p) fun a => ?_
    match a with
    | ⟨0, _⟩ => rfl
    | ⟨1, _⟩ => show 128 * 1 + l.val = 128 + l.val; omega
  | 2 =>
    refine ld_at (s := S1024x512) x1 _ _ _ _ _ _ (off8 k p) fun a => ?_
    match a with
    | ⟨0, _⟩ => rfl
    | ⟨1, _⟩ => show 128 * 2 + l.val = 256 + l.val; omega
  | 3 =>
    refine ld_at (s := S1024x512) x1 _ _ _ _ _ _ (off9 k p) fun a => ?_
    match a with
    | ⟨0, _⟩ => rfl
    | ⟨1, _⟩ => show 128 * 3 + l.val = 384 + l.val; omega

theorem amount : ∀ (k : Fin k0_t1_loop.trips) (p : Fin 16),
    (p.val + 128 - (Scalar.andi (Scalar.subi (128#32) (Scalar.muli (Scf.iv 0#32 1#32 k.val) 16#32)) 127#32).toNat % 128) % 128 = 16 * k.val + p.val := by
  decide +kernel

theorem ins_sc : (ins x0 x1 x2 x3 x4 x5 k).sc (ix2 s ⟨p.val, by omega⟩) = x3 (ix3 0 s ⟨16 * k.val + p.val, by have := trips8 k; omega⟩) := by
  pointwise [ins, k0_pay4]
  exact congrArg (fun z => x3 (ix3 0 s z)) (Fin.ext (amount k p))

theorem ins_bi : (ins x0 x1 x2 x3 x4 x5 k).bi (ix2 s ⟨p.val, by omega⟩) = x4 (ix3 0 s ⟨16 * k.val + p.val, by have := trips8 k; omega⟩) := by
  pointwise [ins, k0_pay5]
  exact congrArg (fun z => x4 (ix3 0 s z)) (Fin.ext (amount k p))

theorem ins_mo : (ins x0 x1 x2 x3 x4 x5 k).mo (ix2 s ⟨p.val, by omega⟩) = x5 (ix3 0 s ⟨16 * k.val + p.val, by have := trips8 k; omega⟩) := by
  pointwise [ins, k0_pay6]
  exact congrArg (fun z => x5 (ix3 0 s z)) (Fin.ext (amount k p))

theorem rowAt_slot : (ins x0 x1 x2 x3 x4 x5 k).row p s = rowAt x0 x1 x2 x3 x4 x5 (slot k p s) := by
  have hk := trips8 k
  have e1 : (⟨(slot k p s).val / 8, by have := (slot k p s).isLt; omega⟩ : Fin 128) = ⟨16 * k.val + p.val, by omega⟩ := Fin.ext (by simp only [slot]; omega)
  have e2 : (⟨(slot k p s).val % 8, by omega⟩ : Fin 8) = s := Fin.ext (by simp only [slot]; omega)
  unfold Ins.row rowAt
  simp only [e1, e2, ins_g, ins_w, ins_sc, ins_bi, ins_mo, ins_r]
  congr 1
  funext c
  exact congrArg (fun z => noise (x1 (ix2 (slot k p s) z))) (Fin.ext (by simp only [colOf]; omega))

theorem slot_lane (l : Fin 128) : slot k ⟨l.val / 8, by omega⟩ ⟨l.val % 8, by omega⟩ = ⟨128 * k.val + l.val, by have := trips8 k; omega⟩ :=
  Fin.ext (by simp only [slot]; omega)

theorem fold_scale (l : Fin 128) : fold8 (upTo (ins x0 x1 x2 x3 x4 x5 k).scale 16) (ix2 0 l)
    = (rowAt x0 x1 x2 x3 x4 x5 ⟨128 * k.val + l.val, by have := trips8 k; omega⟩).scale := by
  rw [fold8_upTo, Ins.scale_apply, rowAt_slot, slot_lane]

theorem fold_bias (l : Fin 128) : fold8 (upTo (ins x0 x1 x2 x3 x4 x5 k).bias 16) (ix2 0 l)
    = (rowAt x0 x1 x2 x3 x4 x5 ⟨128 * k.val + l.val, by have := trips8 k; omega⟩).low := by
  rw [fold8_upTo, Ins.bias_apply, rowAt_slot, slot_lane]

theorem fold_state (l : Fin 128) : fold8 (upTo (ins x0 x1 x2 x3 x4 x5 k).state 16) (ix2 0 l)
    = (rowAt x0 x1 x2 x3 x4 x5 ⟨128 * k.val + l.val, by have := trips8 k; omega⟩).state := by
  rw [fold8_upTo, Ins.state_apply, rowAt_slot, slot_lane]

def byteOf (r : Fin 520) (n : Fin 1024) : BitVec 8 := if h : r.val < 512 then (rowAt x0 x1 x2 x3 x4 x5 n).byte ⟨r.val, h⟩ else 0#8

theorem bytes_pairs (pm : FVec Ideal Sp .bf16) (hpm : IsPairs pm) (r : Fin 512) (l : Fin 128) :
    bytes (pairs (DotDims.transposedRhs 256 512 128) pm (ins x0 x1 x2 x3 x4 x5 k).codes) (ix2 r l)
      = (rowAt x0 x1 x2 x3 x4 x5 ⟨128 * k.val + l.val, by have := trips8 k; omega⟩).byte r := by
  generalize hρ : rowAt x0 x1 x2 x3 x4 x5 ⟨128 * k.val + l.val, by have := trips8 k; omega⟩ = ρ
  choose n hn hc using ρ.code_nat
  have hx := pairs_apply pm hpm (ins x0 x1 x2 x3 x4 x5 k).codes l n hn fun c => by
    rw [Ins.codes_apply, rowAt_slot, slot_lane, hρ, show colOf ⟨c.val / 128, by omega⟩ ⟨c.val % 128, by omega⟩ = c from Fin.ext (by simp only [colOf]; omega)]
    exact hc c
  rw [bytes_apply _ n hn l hx r]
  unfold Row.byte
  rw [hc r, fptosi_nat _ (by have := hn r; omega)]
  exact (BitVec.setWidth_ofNat_of_le (by omega) (n r)).symm
end

section
variable (c : Dev nD) (i : grid0.Coords) (arg1 : Memref sig .tc .vmem S128x4x8x128 .f32) (harg1 : arg1.IsWhole) (arg2 : Memref sig .tc .vmem S1024x512 .i32) (harg2 : arg2.IsWhole) (arg3 : Memref sig .tc .vmem S1024x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S256x512 .bf16) (harg7 : arg7.IsWhole) (arg8 : Memref sig .tc .vmem S520x1024 .i8) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)
  (x0 : Vec Ideal S128x4x8x128 .f32) (x1 : Vec Ideal S1024x512 .i32) (x2 : Vec Ideal S1024x128 .i32) (x3 x4 x5 : Vec Ideal S1x8x128 .f32) (x6 : Vec Ideal S256x512 .bf16)

/-- The blocks staged, as a trip reads them. -/
def data : Data Ideal := ⟨arg1, arg2, arg3, arg4, arg5, arg6, arg7, harg1.unread x0, harg2.unread x1, harg3.unread x2, harg4.unread x3, harg5.unread x4, harg6.unread x5, harg7.unread x6⟩

theorem data_J (k : Fin k0_t1_loop.trips) : (data arg1 harg1 arg2 harg2 arg3 harg3 arg4 harg4 arg5 harg5 arg6 harg6 arg7 harg7 x0 x1 x2 x3 x4 x5 x6).J k = ins x0 x1 x2 x3 x4 x5 k := by
  unfold Data.J data
  dsimp only
  rw [harg1.read_unread, harg2.read_unread, harg3.read_unread, harg4.read_unread, harg5.read_unread, harg6.read_unread]

theorem data_pm : (data arg1 harg1 arg2 harg2 arg3 harg3 arg4 harg4 arg5 harg5 arg6 harg6 arg7 harg7 x0 x1 x2 x3 x4 x5 x6).pm = x6 := by
  unfold Data.pm data
  dsimp only
  rw [harg7.read_unread]
  funext j
  refine ld_at (s := S256x512) x6 _ _ _ _ _ ![0, 0] rfl fun a => ?_
  match a with
  | ⟨0, _⟩ => show (j 0).val = 0 + (j 0).val; omega
  | ⟨1, _⟩ => show (j 1).val = 0 + (j 1).val; omega

theorem mem_bytes (q : View.Piece (Elt Ideal) S520x1024 .i8) (n : ℕ) (hn : n ≤ k0_t1_loop.trips)
    (hq : q ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) n).1) :
    ∃ k, q ∈ (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) k).1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bytes (hpm : IsPairs x6) (r : Fin 520) (hr : r.val < 512) (n : Fin 1024) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 r n) = (rowAt x0 x1 x2 x3 x4 x5 n).byte ⟨r.val, hr⟩ := by
  have hc := cover0_A_7 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_7
  rw [View.read_writes_eq_canon _ _ _ hc, ← List.append_nil ((kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).1)]
  refine (View.canon_append_of_pieces (fun y : S520x1024.Idx => byteOf x0 x1 x2 x3 x4 x5 (y 0) (y 1)) [] _ ?_ _ (hc _)).trans (dif_pos hr)
  intro q hq
  obtain ⟨t, ht⟩ := mem_bytes c i arg1 harg1 arg2 harg2 arg3 harg3 arg4 harg4 arg5 harg5 arg6 harg6 arg7 harg7 arg8 harg8 arg9 harg9 arg10 harg10 arg11 harg11 x0 x1 x2 x3 x4 x5 x6 q 8 le_rfl hq
  have T := trip_bytes (data arg1 harg1 arg2 harg2 arg3 harg3 arg4 harg4 arg5 harg5 arg6 harg6 arg7 harg7 x0 x1 x2 x3 x4 x5 x6) t Variants.none c none i harg1 harg2 harg3 harg4 harg5 harg6 harg7 arg8 harg8 arg9 harg9 arg10 harg10 arg11 harg11
  rw [data_J, data_pm] at T
  have ht' := ht
  rw [show (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) t).1 = _ from T] at ht'
  have ht8 := trips8 t
  rcases List.mem_cons.mp ht' with rfl | ht'
  · intro x
    refine Eq.trans ?_ (dif_neg ?_).symm
    · rfl
    · rw [emb_unit, congrFun (off12 t) 0]; show ¬ (512 + (x 0).val < 512); omega
  · obtain rfl := List.mem_singleton.mp ht'
    intro x
    have e0 : (((Rect.unit (s := S520x1024) (k0_off11 t) S512x128.size (k0_off11_inb t)).emb x 0 : Fin 520)).val = (x 0).val := by
      rw [emb_unit, congrFun (off11 t) 0]; show 0 + (x 0).val = (x 0).val; omega
    have e1 : (((Rect.unit (s := S520x1024) (k0_off11 t) S512x128.size (k0_off11_inb t)).emb x 1 : Fin 1024)).val = 128 * t.val + (x 1).val := by
      rw [emb_unit, congrFun (off11 t) 1]; rfl
    have hx0 : (x 0).val < 512 := (x 0).isLt
    refine Eq.trans ?_ (dif_pos (by rw [e0]; exact hx0)).symm
    refine (congrArg _ (eq_ix2 x)).trans ((bytes_pairs x0 x1 x2 x3 x4 x5 t x6 hpm (x 0) (x 1)).trans ?_)
    exact congrArg₂ (fun z b => (rowAt x0 x1 x2 x3 x4 x5 z).byte b) (Fin.ext e1.symm) (Fin.ext e0.symm)

theorem mem_scale (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) n).2.1) :
    ∃ k, q ∈ (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) k).2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_scale (k : Fin 8) (l : Fin 128) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 k l) = (rowAt x0 x1 x2 x3 x4 x5 ⟨128 * k.val + l.val, by omega⟩).scale := by
  have hc := cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_8
  rw [View.read_writes_eq_canon _ _ _ hc, ← List.append_nil ((kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).scale) [] _ ?_ _ (hc _)
  intro q hq
  obtain ⟨t, ht⟩ := mem_scale c i arg1 harg1 arg2 harg2 arg3 harg3 arg4 harg4 arg5 harg5 arg6 harg6 arg7 harg7 arg8 harg8 arg9 harg9 arg10 harg10 arg11 harg11 x0 x1 x2 x3 x4 x5 x6 q 8 le_rfl hq
  have T := trip_scale (data arg1 harg1 arg2 harg2 arg3 harg3 arg4 harg4 arg5 harg5 arg6 harg6 arg7 harg7 x0 x1 x2 x3 x4 x5 x6) t Variants.none c none i harg1 harg2 harg3 harg4 harg5 harg6 harg7 arg8 harg8 arg9 harg9 arg10 harg10 arg11 harg11
  rw [data_J] at T
  have ht' := ht
  rw [show (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) t).2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_scale x0 x1 x2 x3 x4 x5 t (x 1)).trans ?_)
  exact congrArg (fun z => (rowAt x0 x1 x2 x3 x4 x5 z).scale) (Fin.ext (by dsimp only; rw [e0, e1]))

theorem mem_bias (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) n).2.2.1) :
    ∃ k, q ∈ (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) k).2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bias (k : Fin 8) (l : Fin 128) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 k l) = (rowAt x0 x1 x2 x3 x4 x5 ⟨128 * k.val + l.val, by omega⟩).low := by
  have hc := cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_9
  rw [View.read_writes_eq_canon _ _ _ hc, ← List.append_nil ((kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).low) [] _ ?_ _ (hc _)
  intro q hq
  obtain ⟨t, ht⟩ := mem_bias c i arg1 harg1 arg2 harg2 arg3 harg3 arg4 harg4 arg5 harg5 arg6 harg6 arg7 harg7 arg8 harg8 arg9 harg9 arg10 harg10 arg11 harg11 x0 x1 x2 x3 x4 x5 x6 q 8 le_rfl hq
  have T := trip_bias (data arg1 harg1 arg2 harg2 arg3 harg3 arg4 harg4 arg5 harg5 arg6 harg6 arg7 harg7 x0 x1 x2 x3 x4 x5 x6) t Variants.none c none i harg1 harg2 harg3 harg4 harg5 harg6 harg7 arg8 harg8 arg9 harg9 arg10 harg10 arg11 harg11
  rw [data_J] at T
  have ht' := ht
  rw [show (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) t).2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_bias x0 x1 x2 x3 x4 x5 t (x 1)).trans ?_)
  exact congrArg (fun z => (rowAt x0 x1 x2 x3 x4 x5 z).low) (Fin.ext (by dsimp only; rw [e0, e1]))

theorem mem_state (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) n).2.2.2) :
    ∃ k, q ∈ (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) k).2.2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_state (k : Fin 8) (l : Fin 128) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 k l) = (rowAt x0 x1 x2 x3 x4 x5 ⟨128 * k.val + l.val, by omega⟩).state := by
  have hc := cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_10
  rw [View.read_writes_eq_canon _ _ _ hc, ← List.append_nil ((kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).state) [] _ ?_ _ (hc _)
  intro q hq
  obtain ⟨t, ht⟩ := mem_state c i arg1 harg1 arg2 harg2 arg3 harg3 arg4 harg4 arg5 harg5 arg6 harg6 arg7 harg7 arg8 harg8 arg9 harg9 arg10 harg10 arg11 harg11 x0 x1 x2 x3 x4 x5 x6 q 8 le_rfl hq
  have T := trip_state (data arg1 harg1 arg2 harg2 arg3 harg3 arg4 harg4 arg5 harg5 arg6 harg6 arg7 harg7 x0 x1 x2 x3 x4 x5 x6) t Variants.none c none i harg1 harg2 harg3 harg4 harg5 harg6 harg7 arg8 harg8 arg9 harg9 arg10 harg10 arg11 harg11
  rw [data_J] at T
  have ht' := ht
  rw [show (trip_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) (harg4.unread x3) (harg5.unread x4) (harg6.unread x5) (harg7.unread x6) t).2.2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_state x0 x1 x2 x3 x4 x5 t (x 1)).trans ?_)
  exact congrArg (fun z => (rowAt x0 x1 x2 x3 x4 x5 z).state) (Fin.ext (by dsimp only; rw [e0, e1]))

end

end Cert.KernelIdeal.Block
-- ==== Proof.Reference.lean ====
/- The reference's results, read at an index: each slot's row of the arguments, updated as `Row.lean` says (hand part). -/
module

public import proofs.«01_k».proof.Proof.Gen.ReferenceIdeal.Run
public import proofs.«01_k».proof.Proof.GroupValue
public import Idealize.ShloMosaic.Lib.Pointwise
public import Idealize.ShloMosaic.Lib.Pipeline.Value

@[expose] public section

set_option maxRecDepth 16384

noncomputable section

namespace Cert.ReferenceIdeal.Rows

open Cert.ReferenceIdeal Cert.ReferenceIdeal.Gen Idealize.ShloMosaic Idealize.ShloMosaic.TcCoe
open Cert.Proof.Update

def grads (a0 : FVec Ideal S5120x4x8x128 .f32) : FVec Ideal S40960x512 .f32 :=
  shapeCast _ (transpose S5120x8x4x128 [0, 2, 1, 3] a0 transposes_S5120x4x8x128_S5120x8x4x128_0_2_1_3) shapeCasts_S5120x8x4x128_S40960x512

def plane (a2 : Vec Ideal S153728x128 .i32) (sh : BitVec 32) : Vec Ideal S40960x1x128 .i32 :=
  broadcastInDim S40960x1x128 ![0, 2] bcast_S40960x128_S40960x1x128_0_2 (andi (Host.shrui (extractStridedSlice S40960x128 ![0, 0] a2 slices_S153728x128_S40960x128_0_0) (broadcastInDim S40960x128 ![] bcast_S_S40960x128 (constantI S_ 32 sh))) (broadcastInDim S40960x128 ![] bcast_S_S40960x128 (constantI S_ 32 255#32)))

def planes (x0 x1 x2 x3 : Vec Ideal S40960x1x128 .i32) : Vec Ideal S40960x4x128 .i32 :=
  concatenate S40960x4x128 1 [⟨S40960x1x128, x0⟩, ⟨S40960x1x128, x1⟩, ⟨S40960x1x128, x2⟩, ⟨S40960x1x128, x3⟩] concatenates_S40960x1x128_S40960x1x128_S40960x1x128_S40960x1x128_S40960x4x128_d1

def words (a2 : Vec Ideal S153728x128 .i32) : Vec Ideal S40960x512 .i32 :=
  shapeCast _ (planes (plane a2 0#32) (plane a2 8#32) (plane a2 16#32) (plane a2 24#32)) shapeCasts_S40960x4x128_S40960x512

def scales (a3 : FVec Ideal S154624 .f32) : FVec Ideal S40960 .f32 :=
  extractStridedSlice S40960 ![0] (shapeCast _ (transpose S151x128x8 [0, 2, 1] (shapeCast _ a3 shapeCasts_S154624_S151x8x128) transposes_S151x8x128_S151x128x8_0_2_1) shapeCasts_S151x128x8_S154624) slices_S154624_S40960_0

def sums (a5 : FVec Ideal S153600 .f32) : FVec Ideal S40960 .f32 :=
  extractStridedSlice S40960 ![0] (shapeCast _ (transpose S150x128x8 [0, 2, 1] (shapeCast _ a5 shapeCasts_S153600_S150x8x128) transposes_S150x8x128_S150x128x8_0_2_1) shapeCasts_S150x128x8_S153600) slices_S153600_S40960_0

def states (a0 : FVec Ideal S5120x4x8x128 .f32) (a5 : FVec Ideal S153600 .f32) : FVec Ideal S40960 .f32 :=
  addf (sums a5) (Host.divf (Host.reduceAdd (mulf (grads a0) (grads a0)) (constant (F := Ideal) S_ .f32 0x00000000#32) reducesTo_S40960x512_S40960_d1 h_S_) (broadcastInDim S40960 ![] bcast_S_S40960 (constant (F := Ideal) S_ .f32 0x44000000#32)))

def mults (a0 : FVec Ideal S5120x4x8x128 .f32) (a5 : FVec Ideal S153600 .f32) : FVec Ideal S40960 .f32 :=
  Host.divf (broadcastInDim S40960 ![] bcast_S_S40960 (constant (F := Ideal) S_ .f32 0x3CA3D70A#32)) (addf (Host.sqrt (states a0 a5)) (broadcastInDim S40960 ![] bcast_S_S40960 (constant (F := Ideal) S_ .f32 0x322BCC77#32)))

def news (a0 : FVec Ideal S5120x4x8x128 .f32) (a2 : IVec S153728x128 32) (a3 : FVec Ideal S154624 .f32) (a4 : FVec Ideal S154624 .f32) (a5 : FVec Ideal S153600 .f32) : FVec Ideal S40960x512 .f32 :=
  subf (addf (mulf (sitofp .f32 (words a2)) (broadcastInDim S40960x512 ![0, 1] bcast_S40960x1_S40960x512_0_1 (broadcastInDim S40960x1 ![0] bcast_S40960_S40960x1_0 (scales a3)))) (broadcastInDim S40960x512 ![0, 1] bcast_S40960x1_S40960x512_0_1 (broadcastInDim S40960x1 ![0] bcast_S40960_S40960x1_0 (scales a4)))) (mulf (broadcastInDim S40960x512 ![0, 1] bcast_S40960x1_S40960x512_0_1 (broadcastInDim S40960x1 ![0] bcast_S40960_S40960x1_0 (mults a0 a5))) (grads a0))

def lows (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.reduce FloatOps.minimumf (news a0 a2 a3 a4 a5) (constant (F := Ideal) S_ .f32 0x7F800000#32) reducesTo_S40960x512_S40960_d1 h_S_

def highs (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.reduce FloatOps.maximumf (news a0 a2 a3 a4 a5) (constant (F := Ideal) S_ .f32 0xFF800000#32) reducesTo_S40960x512_S40960_d1 h_S_

def spans (a0 : FVec Ideal S5120x4x8x128 .f32) (a2 : IVec S153728x128 32) (a3 : FVec Ideal S154624 .f32) (a4 : FVec Ideal S154624 .f32) (a5 : FVec Ideal S153600 .f32) : FVec Ideal S40960 .f32 :=
  subf (highs a0 a2 a3 a4 a5) (lows a0 a2 a3 a4 a5)

def invs (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.divf (broadcastInDim S40960 ![] bcast_S_S40960 (constant (F := Ideal) S_ .f32 0x437F0000#32)) (addf (spans a0 a2 a3 a4 a5) (broadcastInDim S40960 ![] bcast_S_S40960 (constant (F := Ideal) S_ .f32 0x322BCC77#32)))

def noises (a1 : IVec S153600x512 32) : FVec Ideal S40960x512 .f32 :=
  mulf (uitofp .f32 (Host.shrui (extractStridedSlice S40960x512 ![0, 0] a1 slices_S153600x512_S40960x512_0_0) (broadcastInDim S40960x512 ![] bcast_S_S40960x512 (constantI S_ 32 8#32)))) (broadcastInDim S40960x512 ![] bcast_S_S40960x512 (constant (F := Ideal) S_ .f32 0x33800000#32))

def codes (a0 : FVec Ideal S5120x4x8x128 .f32) (a1 : IVec S153600x512 32) (a2 : IVec S153728x128 32) (a3 : FVec Ideal S154624 .f32) (a4 : FVec Ideal S154624 .f32) (a5 : FVec Ideal S153600 .f32) : FVec Ideal S40960x512 .f32 :=
  minimumf (broadcastInDim S40960x512 ![] bcast_S_S40960x512 (id (constant (F := Ideal) S_ .f32 0x437F0000#32))) (maximumf (broadcastInDim S40960x512 ![] bcast_S_S40960x512 (id (constant (F := Ideal) S_ .f32 0x00000000#32))) (Host.floor (addf (mulf (subf (news a0 a2 a3 a4 a5) (broadcastInDim S40960x512 ![0, 1] bcast_S40960x1_S40960x512_0_1 (broadcastInDim S40960x1 ![0] bcast_S40960_S40960x1_0 (lows a0 a2 a3 a4 a5)))) (broadcastInDim S40960x512 ![0, 1] bcast_S40960x1_S40960x512_0_1 (broadcastInDim S40960x1 ![0] bcast_S40960_S40960x1_0 (invs a0 a2 a3 a4 a5)))) (noises a1))))

variable (a0 : FVec Ideal S5120x4x8x128 .f32) (a1 : IVec S153600x512 32) (a2 : IVec S153728x128 32) (a3 a4 : FVec Ideal S154624 .f32) (a5 : FVec Ideal S153600 .f32)

/-- Slot `n` of the launch, as a row of the arguments. -/
def rowOf (n : Fin 40960) : Row where
  g := fun c => a0 (ix4 ⟨n.val / 8, by omega⟩ ⟨c.val / 128, by omega⟩ ⟨n.val % 8, by omega⟩ ⟨c.val % 128, by omega⟩)
  q := fun c => oldCode (a2 (ix2 ⟨n.val, by omega⟩ ⟨c.val % 128, by omega⟩)) ⟨c.val / 128, by omega⟩
  u := fun c => noise (a1 (ix2 ⟨n.val, by omega⟩ c))
  s := a3 (ix1 ⟨1024 * (n.val / 1024) + 128 * (n.val % 8) + n.val % 1024 / 8, by omega⟩)
  b := a4 (ix1 ⟨1024 * (n.val / 1024) + 128 * (n.val % 8) + n.val % 1024 / 8, by omega⟩)
  m := a5 (ix1 ⟨1024 * (n.val / 1024) + 128 * (n.val % 8) + n.val % 1024 / 8, by omega⟩)

variable (n : Fin 40960) (c : Fin 512)
theorem grads_apply : grads a0 (ix2 n c) = (rowOf a0 a1 a2 a3 a4 a5 n).g c := by
  pointwise [grads]
  (try rfl)

theorem at_place : (⟨n.val / 1024 * 1024 + n.val % 8 * 128 + n.val / 8 % 128, by omega⟩ : Fin 154624) = ⟨1024 * (n.val / 1024) + 128 * (n.val % 8) + n.val % 1024 / 8, by omega⟩ :=
  Fin.ext (by dsimp only; omega)

theorem at_place' : (⟨n.val / 1024 * 1024 + n.val % 8 * 128 + n.val / 8 % 128, by omega⟩ : Fin 153600) = ⟨1024 * (n.val / 1024) + 128 * (n.val % 8) + n.val % 1024 / 8, by omega⟩ :=
  Fin.ext (by dsimp only; omega)

theorem scales_apply : scales a3 (ix1 n) = (rowOf a0 a1 a2 a3 a4 a5 n).s := by
  pointwise [scales]
  exact congrArg (fun z => a3 (ix1 z)) (at_place n)

theorem biases_apply : scales a4 (ix1 n) = (rowOf a0 a1 a2 a3 a4 a5 n).b := by
  pointwise [scales]
  exact congrArg (fun z => a4 (ix1 z)) (at_place n)

theorem sums_apply : sums a5 (ix1 n) = (rowOf a0 a1 a2 a3 a4 a5 n).m := by
  pointwise [sums]
  exact congrArg (fun z => a5 (ix1 z)) (at_place' n)

/-- A word's byte as a number, with a host's shift. -/
theorem byte_number (w : BitVec 32) (m : Fin 4) (sh : BitVec 32) (hs : sh = BitVec.ofNat 32 (8 * m.val)) :
    FloatOps.sitofp (F := Ideal) .f32 (IntOp.andi (IntOp.shrui ArithUnit.host w sh) 255#32) = oldCode w m := by
  rw [← oldCode_eq w m sh hs]
  subst hs
  unfold IntOp.shrui
  have : (BitVec.ofNat 32 (8 * m.val)).toNat < 32 := by rw [BitVec.toNat_ofNat]; omega
  rw [if_pos this, if_pos this]

theorem plane_apply (sh : BitVec 32) (n : Fin 40960) (l : Fin 128) :
    plane a2 sh (ix3 n 0 l) = IntOp.andi (IntOp.shrui ArithUnit.host (a2 (ix2 ⟨n.val, by omega⟩ l)) sh) 255#32 := by
  pointwise [plane]

theorem planes_apply (x : Fin 4 → Vec Ideal S40960x1x128 .i32) (n : Fin 40960) (m : Fin 4) (l : Fin 128) :
    planes (x 0) (x 1) (x 2) (x 3) (ix3 n m l) = x m (ix3 n 0 l) := by
  refine concatenate_ofFn_apply (t := S40960x4x128) (s₁ := S40960x1x128) 1 (N := 4) x _ rfl 1 rfl (ix3 n m l) m (by show m.val / 1 = m.val; omega)
    (ix3 n 0 l) (by show 0 = m.val % 1; omega) fun b hb => ?_
  match b with
  | ⟨0, _⟩ => rfl
  | ⟨1, _⟩ => exact absurd rfl hb
  | ⟨2, _⟩ => rfl

theorem words_apply : FloatOps.sitofp (F := Ideal) .f32 (words a2 (ix2 n c)) = (rowOf a0 a1 a2 a3 a4 a5 n).q c := by
  pointwise [words]
  have h := planes_apply (fun m => plane a2 (BitVec.ofNat 32 (8 * m.val))) n ⟨c.val / 128, by omega⟩ ⟨c.val % 128, by omega⟩
  refine (congrArg (FloatOps.sitofp (F := Ideal) .f32) (h.trans (plane_apply a2 _ n _))).trans ?_
  exact byte_number _ ⟨c.val / 128, by omega⟩ _ rfl

theorem states_apply : states a0 a5 (ix1 n) = (rowOf a0 a1 a2 a3 a4 a5 n).state := by
  pointwise [states, sums_apply a0 a1 a2 a3 a4 a5 n, grads_apply a0 a1 a2 a3 a4 a5 n]
  rfl

theorem mults_apply : mults a0 a5 (ix1 n) = (rowOf a0 a1 a2 a3 a4 a5 n).mult := by
  pointwise [mults, states_apply a0 a1 a2 a3 a4 a5 n]
  rfl

theorem news_apply : news a0 a2 a3 a4 a5 (ix2 n c) = (rowOf a0 a1 a2 a3 a4 a5 n).new c := by
  pointwise [news, mults_apply a0 a1 a2 a3 a4 a5 n, scales_apply a0 a1 a2 a3 a4 a5 n, biases_apply a0 a1 a2 a3 a4 a5 n, grads_apply a0 a1 a2 a3 a4 a5 n]
  rw [words_apply a0 a1 a2 a3 a4 a5 n c]
  rfl

theorem lows_apply : lows a0 a2 a3 a4 a5 (ix1 n) = (rowOf a0 a1 a2 a3 a4 a5 n).low := by
  pointwise [lows, news_apply a0 a1 a2 a3 a4 a5 n]
  exact fold_min _

theorem highs_apply : highs a0 a2 a3 a4 a5 (ix1 n) = (rowOf a0 a1 a2 a3 a4 a5 n).high := by
  pointwise [highs, news_apply a0 a1 a2 a3 a4 a5 n]
  exact fold_max _

theorem sub_at (x y : FVec Ideal S40960 .f32) (n : Fin 40960) : subf x y (ix1 n) = x (ix1 n) - y (ix1 n) := rfl

theorem spans_apply : spans a0 a2 a3 a4 a5 (ix1 n) = (rowOf a0 a1 a2 a3 a4 a5 n).span := by
  unfold spans
  rw [sub_at, highs_apply a0 a1 a2 a3 a4 a5 n, lows_apply a0 a1 a2 a3 a4 a5 n]
  exact (Row.span.eq_1 _).symm

theorem inv_at (x : FVec Ideal S40960 .f32) (n : Fin 40960) :
    Host.divf (broadcastInDim S40960 ![] bcast_S_S40960 (constant (F := Ideal) S_ .f32 0x437F0000#32)) (addf x (broadcastInDim S40960 ![] bcast_S_S40960 (constant (F := Ideal) S_ .f32 0x322BCC77#32))) (ix1 n)
      = Ideal.div (Ideal.ofBits .f32 0x437F0000#32) (x (ix1 n) + Ideal.ofBits .f32 0x322BCC77#32) := by
  pointwise

theorem scale_at (x : FVec Ideal S40960 .f32) (n : Fin 40960) :
    Host.divf x (broadcastInDim S40960 ![] bcast_S_S40960 (constant (F := Ideal) S_ .f32 0x437F0000#32)) (ix1 n)
      = Ideal.div (x (ix1 n)) (Ideal.ofBits .f32 0x437F0000#32) := by
  pointwise

theorem invs_apply : invs a0 a2 a3 a4 a5 (ix1 n) = (rowOf a0 a1 a2 a3 a4 a5 n).inv := by
  unfold invs
  rw [inv_at, spans_apply a0 a1 a2 a3 a4 a5 n]
  exact (Row.inv.eq_1 _).symm

theorem noises_apply : noises a1 (ix2 n c) = (rowOf a0 a1 a2 a3 a4 a5 n).u c := by
  pointwise [noises]
  show _ = noise _
  unfold noise IntOp.shrui
  rw [if_pos (by decide)]
  rfl

theorem codes_apply : codes a0 a1 a2 a3 a4 a5 (ix2 n c) = (rowOf a0 a1 a2 a3 a4 a5 n).code c := by
  pointwise [codes, news_apply a0 a1 a2 a3 a4 a5 n, invs_apply a0 a1 a2 a3 a4 a5 n, noises_apply a0 a1 a2 a3 a4 a5 n, lows_apply a0 a1 a2 a3 a4 a5 n]
  rfl

/-- A padded array of one value per slot, read back in rows of 128 lanes, and the padded array of codes. -/
theorem lane_at (x : FVec Ideal S40960 .f32) (z : FVec Ideal S_ .f32) (r : Fin 1200) (hr : r.val < 320) (l : Fin 128) :
    shapeCast S1200x128 (pad S153600 ![0] ![112640] ![0] x z pads_S40960_S153600_01126400 h_S_) shapeCasts_S153600_S1200x128 (ix2 r l)
      = x (ix1 ⟨128 * r.val + l.val, by omega⟩) := by
  pointwise
  rw [dif_pos (by omega : r.val * 128 + l.val < 40960)]
  exact congrArg (fun z => x (ix1 z)) (Fin.ext (by dsimp only; omega))

theorem byte_at (x : IVec S40960x512 8) (z : IVec S_ 8) (r : Fin 520) (hr : r.val < 512) (n : Fin 153600) (hn : n.val < 40960) :
    pad S520x153600 ![0, 0] ![8, 112640] ![0, 0] (transpose S512x40960 [1, 0] x transposes_S40960x512_S512x40960_1_0) z pads_S512x40960_S520x153600_080_01126400 h_S_ (ix2 r n)
      = x (ix2 ⟨n.val, hn⟩ ⟨r.val, hr⟩) := by
  pointwise
  rw [dif_pos ⟨hr, hn⟩]

end Cert.ReferenceIdeal.Rows

namespace Cert.ReferenceIdeal.Rows

open Cert.ReferenceIdeal Cert.ReferenceIdeal.Gen Idealize.ShloMosaic Idealize.ShloMosaic.TcCoe
open Cert.Proof.Update

variable (m : (ℓ : Loc nD τ sig) → Buf (Elt Ideal) ℓ) (c : Dev nD)
/-- Slot `n`'s row of the arguments in memory. -/
def rowIn (n : Fin 40960) : Row := rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n

theorem res90 : Value.res_main_v90 m c = shapeCast S1200x128 (pad S153600 ![0] ![112640] ![0] (Host.divf (spans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (broadcastInDim S40960 ![] bcast_S_S40960 (constant (F := Ideal) S_ .f32 0x437F0000#32))) (sitofp .f32 (constantI S_ 32 0#32)) pads_S40960_S153600_01126400 h_S_) shapeCasts_S153600_S1200x128 := by
  unfold Value.res_main_v90
  rfl
theorem res92 : Value.res_main_v92 m c = shapeCast S1200x128 (pad S153600 ![0] ![112640] ![0] (lows (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (sitofp .f32 (constantI S_ 32 0#32)) pads_S40960_S153600_01126400 h_S_) shapeCasts_S153600_S1200x128 := by
  unfold Value.res_main_v92
  rfl
theorem res88 : Value.res_main_v88 m c = pad S520x153600 ![0, 0] ![8, 112640] ![0, 0] (transpose S512x40960 [1, 0] (trunci 8 (fptosi 32 (codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) natLt_8_32) transposes_S40960x512_S512x40960_1_0) (trunci 8 (constantI S_ 32 0#32) natLt_8_32) pads_S512x40960_S520x153600_080_01126400 h_S_ := by
  unfold Value.res_main_v88
  rfl
theorem bytes_value (r : Fin 520) (hr : r.val < 512) (n : Fin 153600) (hn : n.val < 40960) :
    Value.res_main_v88 m c (ix2 r n) = (rowIn m c ⟨n.val, hn⟩).byte ⟨r.val, hr⟩ := by
  rw [res88, byte_at _ _ r hr n hn]
  show (Ideal.fptosi 32 (codes _ _ _ _ _ _ (ix2 ⟨n.val, hn⟩ ⟨r.val, hr⟩))).setWidth 8 = _
  rw [codes_apply]
  rfl

theorem scale_value (r : Fin 1200) (hr : r.val < 320) (l : Fin 128) :
    Value.res_main_v90 m c (ix2 r l) = (rowIn m c ⟨128 * r.val + l.val, by omega⟩).scale := by
  rw [res90, lane_at _ _ r hr l, scale_at, spans_apply (a1 := m ((c.tc : Thread nD τ).loc main_arg1))]
  exact (Row.scale.eq_1 _).symm

theorem bias_value (r : Fin 1200) (hr : r.val < 320) (l : Fin 128) :
    Value.res_main_v92 m c (ix2 r l) = (rowIn m c ⟨128 * r.val + l.val, by omega⟩).low := by
  rw [res92, lane_at _ _ r hr l, lows_apply (a1 := m ((c.tc : Thread nD τ).loc main_arg1))]
  rfl

/-- The accumulators as the reference leaves them. -/
def res94 : FVec Ideal S1200x128 .f32 :=
  shapeCast S1200x128 (pad S153600 ![0] ![112640] ![0] (states (m ((c.tc : Thread nD τ).loc main_arg0)) (m ((c.tc : Thread nD τ).loc main_arg5))) (sitofp .f32 (constantI S_ 32 0#32)) pads_S40960_S153600_01126400 h_S_) shapeCasts_S153600_S1200x128

theorem state_value (r : Fin 1200) (hr : r.val < 320) (l : Fin 128) :
    res94 m c (ix2 r l) = (rowIn m c ⟨128 * r.val + l.val, by omega⟩).state := by
  unfold res94
  rw [lane_at _ _ r hr l, states_apply (a1 := m ((c.tc : Thread nD τ).loc main_arg1)) (a2 := m ((c.tc : Thread nD τ).loc main_arg2)) (a3 := m ((c.tc : Thread nD τ).loc main_arg3)) (a4 := m ((c.tc : Thread nD τ).loc main_arg4))]
  rfl

end Cert.ReferenceIdeal.Rows
-- ==== Proof.Arrays.lean ====
/- The kernel's windows and results at an index: what each block holds of the arguments, the pair matrix the host builds, and each
   result array at a slot as the row of the arguments that slot stands for (hand part). -/
module

public import proofs.«01_k».proof.Proof.Block
public import proofs.«01_k».proof.Proof.Reference
public import proofs.«01_k».proof.Proof.Gen.KernelIdeal.Value
public import Idealize.ShloMosaic.Lib.Pipeline.ValueKit.Point

@[expose] public section

set_option maxRecDepth 16384

noncomputable section

namespace Cert.KernelIdeal.Arrays

open Cert.KernelIdeal Cert.KernelIdeal.Gen Idealize.ShloMosaic Idealize.ShloMosaic.TcCoe
open Cert.Proof.Update

variable (m : (ℓ : Loc nD τ sig) → Buf (Elt Ideal) ℓ) (c : Dev nD)

/-! The host-made operands -/

theorem v0_at (k : Fin 151) (s : Fin 8) (l : Fin 128) : V m c main_v0 (ix3 k s l) = m ((c : Thread nD τ).loc main_arg3) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg3) (ix1 z)) (Fin.ext (by dsimp only; omega))

theorem v1_at (k : Fin 151) (s : Fin 8) (l : Fin 128) : V m c main_v1 (ix3 k s l) = m ((c : Thread nD τ).loc main_arg4) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg4) (ix1 z)) (Fin.ext (by dsimp only; omega))

theorem v2_at (k : Fin 150) (s : Fin 8) (l : Fin 128) : V m c main_v2 (ix3 k s l) = m ((c : Thread nD τ).loc main_arg5) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg5) (ix1 z)) (Fin.ext (by dsimp only; omega))

/-- A word's remainder by 128 and its quotient by 128, as the host computes them. -/
def remWord (x : BitVec 32) : BitVec 32 :=
  let d : BitVec 32 := Scalar.select (IntOp.cmpi .eq 128#32 0#32) 1#32 128#32
  let r := IntOp.remsi ArithUnit.host x d
  Scalar.select (IntOp.andi (IntOp.cmpi .ne (IntOp.cmpi .slt r 0#32) (IntOp.cmpi .slt d 0#32)) (IntOp.cmpi .ne r 0#32)) (IntOp.addi r d) r
def quoWord (x : BitVec 32) : BitVec 32 :=
  let q := IntOp.divsi ArithUnit.host x 128#32
  Scalar.select (IntOp.andi (IntOp.cmpi .ne (if x = 0 then (0 : BitVec 32) else if x.msb = true then -1 else 1) (if 128#32 = 0 then (0 : BitVec 32) else if (128#32).msb = true then -1 else 1))
    (IntOp.cmpi .ne (IntOp.remsi ArithUnit.host x 128#32) 0#32)) (IntOp.subi q 1#32) q

theorem first_word : ∀ a : Fin 256, IntOp.addi (IntOp.muli 4#32 (remWord (BitVec.ofNat 32 a.val))) (IntOp.muli 2#32 (quoWord (BitVec.ofNat 32 a.val))) = BitVec.ofNat 32 (firstOf a) := by
  decide +kernel

theorem v13_at (a : Fin 256) : V m c main_v13 (ix2 a 0) = BitVec.ofNat 32 (firstOf a) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  exact first_word a

/-- The pair matrix from its rows' first columns. -/
def pairMat (x : IVec S256x1 32) : FVec Ideal S256x512 .bf16 :=
  sitofp .bf16 (addi (extui 32 (cmpi .eq (broadcastInDim S256x512 ![0,1] bcast_S1x512_S256x512_0_1 (broadcastInDim S1x512 ![1] bcast_S512_S1x512_1 (iotaInDim S512 32 0))) (broadcastInDim S256x512 ![0,1] bcast_S256x1_S256x512_0_1 x)) natLt_1_32) (muli (broadcastInDim S256x512 ![] bcast_S_S256x512 (constantI S_ 32 256#32)) (extui 32 (cmpi .eq (broadcastInDim S256x512 ![0,1] bcast_S1x512_S256x512_0_1 (broadcastInDim S1x512 ![1] bcast_S512_S1x512_1 (iotaInDim S512 32 0))) (broadcastInDim S256x512 ![0,1] bcast_S256x1_S256x512_0_1 (addi x (broadcastInDim S256x1 ![] bcast_S_S256x1 (constantI S_ 32 1#32))))) natLt_1_32)))

theorem v27_eq : V m c main_v27 = pairMat (V m c main_v13) := by
  unfold V pairMat
  simp only [hostOps0, hostOps0_1, hostOps0_2, hostOps0_3, hostOps0_4, List.flatten_cons, List.flatten_nil, List.append_nil, List.cons_append, List.nil_append]
  entry_read
  rfl

theorem cmp_eq (x y : BitVec 32) : BitVec.setWidth 32 (IntOp.cmpi .eq x y) = if x = y then 1#32 else 0#32 := by
  unfold IntOp.cmpi
  by_cases h : x = y
  · subst h; simp
  · simp [h, beq_eq_false_iff_ne.mpr h]

theorem pair_word (p q : Prop) [Decidable p] [Decidable q] :
    FloatOps.sitofp (F := Ideal) .bf16 (IntOp.addi (if p then 1#32 else 0#32) (IntOp.muli 256#32 (if q then 1#32 else 0#32)))
      = ((((if p then 1 else 0) + (if q then 256 else 0) : ℕ) : ℝ) : EReal) := by
  have h (w : BitVec 32) (n : ℕ) (e : w.toInt = n) : FloatOps.sitofp (F := Ideal) .bf16 w = ((n : ℝ) : EReal) := by
    show (((w.toInt : ℝ)) : EReal) = _
    rw [e]; rfl
  by_cases hp : p <;> by_cases hq : q <;> simp only [hp, hq, if_true, if_false] <;> exact h _ _ (by decide)

theorem pair_at (x : IVec S256x1 32) (a : Fin 256) (b : Fin 512) (hx : x (ix2 a 0) = BitVec.ofNat 32 (firstOf a)) :
    pairMat x (ix2 a b) = ((((if b.val = firstOf a then 1 else 0) + (if b.val = firstOf a + 1 then 256 else 0) : ℕ) : ℝ) : EReal) := by
  pointwise [pairMat]
  rw [hx, cmp_eq, cmp_eq, pair_word]
  have hf : firstOf a < 512 := by unfold firstOf; omega
  have e1 : (BitVec.ofNat 32 b.val = BitVec.ofNat 32 (firstOf a)) = (b.val = firstOf a) := by
    rw [← BitVec.toNat_inj, BitVec.toNat_ofNat, BitVec.toNat_ofNat, Nat.mod_eq_of_lt (by omega), Nat.mod_eq_of_lt (by omega)]
  have e2 : (BitVec.ofNat 32 b.val = IntOp.addi (BitVec.ofNat 32 (firstOf a)) 1#32) = (b.val = firstOf a + 1) := by
    show (BitVec.ofNat 32 b.val = BitVec.ofNat 32 (firstOf a) + 1#32) = _
    rw [← BitVec.toNat_inj, BitVec.toNat_add, BitVec.toNat_ofNat, BitVec.toNat_ofNat, Nat.mod_eq_of_lt (by omega), Nat.mod_eq_of_lt (by omega : firstOf a < _)]
    show (b.val = (firstOf a + 1) % 2 ^ 32) = _
    rw [Nat.mod_eq_of_lt (by omega)]
  simp only [e1, e2]

/-! The blocks -/

theorem idx0 : ∀ t : Fin cfg0.N, win0_0.index t = ![t.val, 0, 0, 0] := (by decide +kernel : ∀ t : Fin grid0.N, win0_0.index t = ![t.val, 0, 0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])
theorem idx6 : ∀ t : Fin cfg0.N, win0_6.index t = ![0, 0] := (by decide +kernel : ∀ t : Fin grid0.N, win0_6.index t = ![0, 0])
theorem idx7 : ∀ t : Fin cfg0.N, win0_7.index t = ![0, t.val] := (by decide +kernel : ∀ t : Fin grid0.N, win0_7.index t = ![0, t.val])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])

theorem blk0 (t : Fin cfg0.N) (a : Fin 128) (b : Fin 4) (d : Fin 8) (l : Fin 128) :
    iblk m c 0 t (ix4 a b d l) = (m ((c : Thread nD τ).loc main_arg0)) (ix4 ⟨128 * t.val + a.val, by have : t.val < 40 := t.isLt; omega⟩ b d l) := by
  blk_ext! [iblk, V, idx0 t]

theorem blk1 (t : Fin cfg0.N) (a : Fin 1024) (b : Fin 512) :
    iblk m c 1 t (ix2 a b) = (m ((c : Thread nD τ).loc main_arg1)) (ix2 ⟨1024 * t.val + a.val, by have : t.val < 40 := t.isLt; omega⟩ b) := by
  blk_ext! [iblk, V, idx1 t]

theorem blk2 (t : Fin cfg0.N) (a : Fin 1024) (b : Fin 128) :
    X0_2 m c t (ix2 a b) = (m ((c : Thread nD τ).loc main_arg2)) (ix2 ⟨1024 * t.val + a.val, by have : t.val < 40 := t.isLt; omega⟩ b) := by
  unfold X0_2 Pipeline.Window.fill; rw [dif_pos (moved0_2 t _)]
  blk_ext! [iblk, V, idx2 t]

theorem blk3 (t : Fin cfg0.N) (a : Fin 8) (b : Fin 128) :
    iblk m c 3 t (ix3 0 a b) = (m ((c : Thread nD τ).loc main_arg3)) (ix1 ⟨1024 * t.val + 128 * a.val + b.val, by have : t.val < 40 := t.isLt; omega⟩) := by
  refine Eq.trans ?_ (v0_at m c ⟨t.val, by have : t.val < 40 := t.isLt; omega⟩ a b)
  blk_ext! [iblk, idx3 t]

theorem blk4 (t : Fin cfg0.N) (a : Fin 8) (b : Fin 128) :
    iblk m c 4 t (ix3 0 a b) = (m ((c : Thread nD τ).loc main_arg4)) (ix1 ⟨1024 * t.val + 128 * a.val + b.val, by have : t.val < 40 := t.isLt; omega⟩) := by
  refine Eq.trans ?_ (v1_at m c ⟨t.val, by have : t.val < 40 := t.isLt; omega⟩ a b)
  blk_ext! [iblk, idx4 t]

theorem blk5 (t : Fin cfg0.N) (a : Fin 8) (b : Fin 128) :
    iblk m c 5 t (ix3 0 a b) = (m ((c : Thread nD τ).loc main_arg5)) (ix1 ⟨1024 * t.val + 128 * a.val + b.val, by have : t.val < 40 := t.isLt; omega⟩) := by
  refine Eq.trans ?_ (v2_at m c ⟨t.val, by have : t.val < 40 := t.isLt; omega⟩ a b)
  blk_ext! [iblk, idx5 t]

theorem blk6 (t : Fin cfg0.N) (a : Fin 256) (b : Fin 512) :
    iblk m c 6 t (ix2 a b) = V m c main_v27 (ix2 a b) := by
  blk_ext! [iblk, idx6 t]

theorem isPairs (t : Fin cfg0.N) : IsPairs (iblk m c 6 t) := fun a b =>
  (blk6 m c t a b).trans ((congrFun (v27_eq m c) (ix2 a b)).trans (pair_at _ a b (v13_at m c a)))

/-- Slot `n` of the launch, as a row of the arguments. -/
def rowOf (n : Fin 40960) : Row :=
  Cert.ReferenceIdeal.Rows.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n

theorem row_eq (t : Fin cfg0.N) (j : Fin 1024) :
    Block.rowAt (iblk m c 0 t) (iblk m c 1 t) (X0_2 m c t) (iblk m c 3 t) (iblk m c 4 t) (iblk m c 5 t) j
      = rowOf m c ⟨1024 * t.val + j.val, by have : t.val < 40 := t.isLt; omega⟩ := by
  have ht : t.val < 40 := t.isLt
  unfold Block.rowAt rowOf Cert.ReferenceIdeal.Rows.rowOf
  rw [Row.mk.injEq]
  refine ⟨funext fun x => ?_, funext fun x => ?_, funext fun x => ?_, ?_, ?_, ?_⟩
  · refine (blk0 m c t _ _ _ _).trans ?_
    exact congrArg₂ (fun y z => (m ((c : Thread nD τ).loc main_arg0)) (ix4 y ⟨x.val / 128, by omega⟩ z ⟨x.val % 128, by omega⟩)) (Fin.ext (by dsimp only; omega)) (Fin.ext (by dsimp only; omega))
  · exact congrArg (fun w => oldCode w ⟨x.val / 128, by omega⟩) (blk2 m c t _ _)
  · exact congrArg noise (blk1 m c t _ _)
  · refine (blk3 m c t _ _).trans ?_
    exact congrArg (fun z => (m ((c : Thread nD τ).loc main_arg3)) (ix1 z)) (Fin.ext (by dsimp only; omega))
  · refine (blk4 m c t _ _).trans ?_
    exact congrArg (fun z => (m ((c : Thread nD τ).loc main_arg4)) (ix1 z)) (Fin.ext (by dsimp only; omega))
  · refine (blk5 m c t _ _).trans ?_
    exact congrArg (fun z => (m ((c : Thread nD τ).loc main_arg5)) (ix1 z)) (Fin.ext (by dsimp only; omega))

/-! The result arrays -/

theorem flush8 : ∀ t : Fin cfg0.N, (cfg0.win 8).flush t = true := (by decide +kernel : ∀ t : Fin grid0.N, (cfg0.win 8).flush t = true)

theorem scale_final (r : Fin 1200) (hr : r.val < 320) (l : Fin 128) :
    (dats m 0 c).arrAt 8 cfg0.N (ix2 r l) = (rowOf m c ⟨128 * r.val + l.val, by omega⟩).scale := by
  obtain ⟨t, et⟩ : ∃ t : Fin cfg0.N, t.val = r.val / 8 := ⟨⟨r.val / 8, by show r.val / 8 < 40; omega⟩, rfl⟩
  have h := congrFun (Value.blocks8 m c t (flush8 t)) (ix2 (⟨r.val % 8, by omega⟩ : Fin 8) l)
  rw [Value.flushed8_A] at h
  have e : (ix2 r l : S1200x128.Idx) = ((cfg0.win 8).blk t).view.emb (ix2 (⟨r.val % 8, by omega⟩ : Fin 8) l) := by
    blk_ext [idx8 t]
  rw [e]
  refine (Eq.trans ?_ h).trans ?_
  · rfl
  refine (Eq.trans ?_ (Block.out_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).scale) (Fin.ext (by show 1024 * t.val + (128 * (r.val % 8) + l.val) = 128 * r.val + l.val; omega))

theorem flush9 : ∀ t : Fin cfg0.N, (cfg0.win 9).flush t = true := (by decide +kernel : ∀ t : Fin grid0.N, (cfg0.win 9).flush t = true)

theorem bias_final (r : Fin 1200) (hr : r.val < 320) (l : Fin 128) :
    (dats m 0 c).arrAt 9 cfg0.N (ix2 r l) = (rowOf m c ⟨128 * r.val + l.val, by omega⟩).low := by
  obtain ⟨t, et⟩ : ∃ t : Fin cfg0.N, t.val = r.val / 8 := ⟨⟨r.val / 8, by show r.val / 8 < 40; omega⟩, rfl⟩
  have h := congrFun (Value.blocks9 m c t (flush9 t)) (ix2 (⟨r.val % 8, by omega⟩ : Fin 8) l)
  rw [Value.flushed9_A] at h
  have e : (ix2 r l : S1200x128.Idx) = ((cfg0.win 9).blk t).view.emb (ix2 (⟨r.val % 8, by omega⟩ : Fin 8) l) := by
    blk_ext [idx9 t]
  rw [e]
  refine (Eq.trans ?_ h).trans ?_
  · rfl
  refine (Eq.trans ?_ (Block.out_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).low) (Fin.ext (by show 1024 * t.val + (128 * (r.val % 8) + l.val) = 128 * r.val + l.val; omega))

theorem flush10 : ∀ t : Fin cfg0.N, (cfg0.win 10).flush t = true := (by decide +kernel : ∀ t : Fin grid0.N, (cfg0.win 10).flush t = true)

theorem state_final (r : Fin 1200) (hr : r.val < 320) (l : Fin 128) :
    (dats m 0 c).arrAt 10 cfg0.N (ix2 r l) = (rowOf m c ⟨128 * r.val + l.val, by omega⟩).state := by
  obtain ⟨t, et⟩ : ∃ t : Fin cfg0.N, t.val = r.val / 8 := ⟨⟨r.val / 8, by show r.val / 8 < 40; omega⟩, rfl⟩
  have h := congrFun (Value.blocks10 m c t (flush10 t)) (ix2 (⟨r.val % 8, by omega⟩ : Fin 8) l)
  rw [Value.flushed10_A] at h
  have e : (ix2 r l : S1200x128.Idx) = ((cfg0.win 10).blk t).view.emb (ix2 (⟨r.val % 8, by omega⟩ : Fin 8) l) := by
    blk_ext [idx10 t]
  rw [e]
  refine (Eq.trans ?_ h).trans ?_
  · rfl
  refine (Eq.trans ?_ (Block.out_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).state) (Fin.ext (by show 1024 * t.val + (128 * (r.val % 8) + l.val) = 128 * r.val + l.val; omega))

theorem flush7 : ∀ t : Fin cfg0.N, (cfg0.win 7).flush t = true := (by decide +kernel : ∀ t : Fin grid0.N, (cfg0.win 7).flush t = true)

theorem bytes_final (r : Fin 520) (hr : r.val < 512) (n : Fin 153600) (hn : n.val < 40960) :
    (dats m 0 c).arrAt 7 cfg0.N (ix2 r n) = (rowOf m c ⟨n.val, hn⟩).byte ⟨r.val, hr⟩ := by
  obtain ⟨t, et⟩ : ∃ t : Fin cfg0.N, t.val = n.val / 1024 := ⟨⟨n.val / 1024, by show n.val / 1024 < 40; omega⟩, rfl⟩
  have h := congrFun (Value.blocks7 m c t (flush7 t)) (ix2 r (⟨n.val % 1024, by omega⟩ : Fin 1024))
  rw [Value.flushed7_A] at h
  have e : (ix2 r n : S520x153600.Idx) = ((cfg0.win 7).blk t).view.emb (ix2 r (⟨n.val % 1024, by omega⟩ : Fin 1024)) := by
    blk_ext [idx7 t]
  rw [e]
  refine (Eq.trans ?_ h).trans ?_
  · rfl
  refine (Eq.trans ?_ (Block.out_bytes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) (isPairs m c t) r hr ⟨n.val % 1024, by omega⟩)).trans ?_
  · rfl
  rw [row_eq]
  exact congrArg (fun z => (rowOf m c z).byte ⟨r.val, hr⟩) (Fin.ext (by show 1024 * t.val + n.val % 1024 = n.val; omega))

end Cert.KernelIdeal.Arrays
-- ==== Proof.Mask.lean ====
/- What the mask of the written elements says at an index (hand part). -/
module

public import proofs.«01_k».proof.Proof.Gen.On_written
public import Idealize.ShloMosaic.Lib.Pointwise

@[expose] public section

noncomputable section

namespace Cert.On_written.Mask

open Cert.On_written Cert.On_written.Gen Idealize.ShloMosaic

variable (a0 : FVec Ideal S5120x4x8x128 .f32) (a1 : IVec S153600x512 32) (a2 : IVec S153728x128 32) (a3 a4 : FVec Ideal S154624 .f32) (a5 : FVec Ideal S153600 .f32)

/-- A signed comparison of small numbers. -/
theorem slt_small (x y : ℕ) (hx : x < 2 ^ 31) (hy : y < 2 ^ 31) (h : IntOp.cmpi .slt (BitVec.ofNat 32 x) (BitVec.ofNat 32 y) = 1#1) : x < y := by
  by_contra hn
  unfold IntOp.cmpi at h
  have : (BitVec.ofNat 32 x).slt (BitVec.ofNat 32 y) = false := by
    rw [BitVec.slt_eq_decide, decide_eq_false_iff_not, BitVec.toInt_ofNat', BitVec.toInt_ofNat']
    simp only [Int.bmod_def]
    omega
  simp [this] at h

/-- The same for `≥`. -/
theorem sge_small (x y : ℕ) (hx : x < 2 ^ 31) (hy : y < 2 ^ 31) (h : IntOp.cmpi .sge (BitVec.ofNat 32 x) (BitVec.ofNat 32 y) = 1#1) : y ≤ x := by
  by_contra hn
  unfold IntOp.cmpi at h
  have : (BitVec.ofNat 32 y).sle (BitVec.ofNat 32 x) = false := by
    rw [BitVec.sle_eq_decide, decide_eq_false_iff_not, BitVec.toInt_ofNat', BitVec.toInt_ofNat']
    simp only [Int.bmod_def]
    omega
  simp [this] at h

theorem and_both : ∀ p q : BitVec 1, IntOp.andi p q = 1#1 → p = 1#1 ∧ q = 1#1 := by decide

theorem bytes (r : Fin 520) (n : Fin 153600) (h : (fn (F := Ideal) a0 a1 a2 a3 a4 a5).1 (ix2 r n) = 1#1) : r.val < 512 ∧ n.val < 40960 := by
  have h' : IntOp.andi (IntOp.cmpi .slt (BitVec.ofNat 32 r.val) (BitVec.ofNat 32 512)) (IntOp.andi (IntOp.cmpi .sge (BitVec.ofNat 32 n.val) (BitVec.ofNat 32 0)) (IntOp.cmpi .slt (BitVec.ofNat 32 n.val) (BitVec.ofNat 32 40960))) = 1#1 := by
    refine Eq.trans ?_ h
    show _ = (andi (cmpi .slt (iotaInDim S520x153600 32 0) (broadcastInDim S520x153600 ![] Facts.bcast_S_S520x153600 (constantI S_ 32 512#32))) (andi (cmpi .sge (iotaInDim S520x153600 32 1) (broadcastInDim S520x153600 ![] Facts.bcast_S_S520x153600 (constantI S_ 32 0#32))) (cmpi .slt (iotaInDim S520x153600 32 1) (broadcastInDim S520x153600 ![] Facts.bcast_S_S520x153600 (constantI S_ 32 40960#32))))) (ix2 r n)
    pointwise
  have hk := and_both _ _ h'
  have hn := and_both _ _ hk.2
  exact ⟨slt_small _ _ (by omega) (by omega) hk.1, slt_small _ _ (by omega) (by omega) hn.2⟩

theorem rows (r : Fin 1200) (l : Fin 128) (h : (fn (F := Ideal) a0 a1 a2 a3 a4 a5).2.1 (ix2 r l) = 1#1) : r.val < 320 := by
  have h' : IntOp.andi (IntOp.cmpi .sge (BitVec.ofNat 32 r.val) (BitVec.ofNat 32 0)) (IntOp.cmpi .slt (BitVec.ofNat 32 r.val) (BitVec.ofNat 32 320)) = 1#1 := by
    refine Eq.trans ?_ h
    show _ = (andi (cmpi .sge (iotaInDim S1200x128 32 0) (broadcastInDim S1200x128 ![] Facts.bcast_S_S1200x128 (constantI S_ 32 0#32))) (cmpi .slt (iotaInDim S1200x128 32 0) (broadcastInDim S1200x128 ![] Facts.bcast_S_S1200x128 (constantI S_ 32 320#32)))) (ix2 r l)
    pointwise
  have hk := and_both _ _ h'
  exact slt_small _ _ (by omega) (by omega) hk.2

theorem rows_bias (r : Fin 1200) (l : Fin 128) (h : (fn (F := Ideal) a0 a1 a2 a3 a4 a5).2.2.1 (ix2 r l) = 1#1) : r.val < 320 :=
  rows a0 a1 a2 a3 a4 a5 r l h

theorem rows_state (r : Fin 1200) (l : Fin 128) (h : (fn (F := Ideal) a0 a1 a2 a3 a4 a5).2.2.2 (ix2 r l) = 1#1) : r.val < 320 :=
  rows a0 a1 a2 a3 a4 a5 r l h

end Cert.On_written.Mask
-- ==== Proof.Trip1.lean ====
/- The second launch: what one trip of the kernel's loop stores, as the terms of `Spec.lean` (hand part). The run names each value a trip
   computes: both sides are unfolded to the operations, which agree. -/
module

public import proofs.«01_k».proof.Proof.Gen.Kernel1Ideal.Loops
public import proofs.«01_k».proof.Proof.Trip
public import Idealize.ShloMosaic.Lib.Pipeline.ReadBack
public import Idealize.ShloMosaic.Lib.Pipeline.Value

@[expose] public section

set_option maxRecDepth 16384

noncomputable section

namespace Cert.Kernel1Ideal.Trip

open Cert.Kernel1Ideal Cert.Kernel1Ideal.Gen Idealize.ShloMosaic Idealize.ShloMosaic.TcCoe Idealize.ShloMosaic.Tactic
open Cert.Proof.Update Cert.Kernel1Ideal.Gen.trip_k0_t1.sl

variable {F : FTy → Type} [FloatOps F]

/-- What trip `k` reads, of the blocks the launch staged. -/
def ins (x0 : Vec F S128x4x8x128 .f32) (x1 : Vec F S1024x512 .i32) (x2 : Vec F S1024x128 .i32) (x3 x4 x5 : Vec F S1x8x128 .f32)
    (k : Fin k0_t1_loop.trips) : Ins F where
  g := fun
    | 0 => fun p => View.ld x0 (Rect.unit (s := S128x4x8x128) (k0_off1 k (BitVec.ofNat 32 p.val)) S1x1x8x128.size (k0_off1_inb k p))
    | 1 => fun p => View.ld x0 (Rect.unit (s := S128x4x8x128) (k0_off2 k (BitVec.ofNat 32 p.val)) S1x1x8x128.size (k0_off2_inb k p))
    | 2 => fun p => View.ld x0 (Rect.unit (s := S128x4x8x128) (k0_off3 k (BitVec.ofNat 32 p.val)) S1x1x8x128.size (k0_off3_inb k p))
    | 3 => fun p => View.ld x0 (Rect.unit (s := S128x4x8x128) (k0_off4 k (BitVec.ofNat 32 p.val)) S1x1x8x128.size (k0_off4_inb k p))
  w := fun p => View.ld x2 (Rect.unit (s := S1024x128) (k0_off5 k (BitVec.ofNat 32 (8 * p.val))) S8x128.size (k0_off5_inb k p))
  r := fun
    | 0 => fun p => View.ld x1 (Rect.unit (s := S1024x512) (k0_off6 k (BitVec.ofNat 32 (8 * p.val))) S8x128.size (k0_off6_inb k p))
    | 1 => fun p => View.ld x1 (Rect.unit (s := S1024x512) (k0_off7 k (BitVec.ofNat 32 (8 * p.val))) S8x128.size (k0_off7_inb k p))
    | 2 => fun p => View.ld x1 (Rect.unit (s := S1024x512) (k0_off8 k (BitVec.ofNat 32 (8 * p.val))) S8x128.size (k0_off8_inb k p))
    | 3 => fun p => View.ld x1 (Rect.unit (s := S1024x512) (k0_off9 k (BitVec.ofNat 32 (8 * p.val))) S8x128.size (k0_off9_inb k p))
  sc := k0_pay4 0#32 1#32 k (View.ld x3 (Rect.unit (s := S1x8x128) ![0, 0, 0] S1x8x128.size inb_S1x8x128_S1x8x128_0_0_0))
  bi := k0_pay5 0#32 1#32 k (View.ld x4 (Rect.unit (s := S1x8x128) ![0, 0, 0] S1x8x128.size inb_S1x8x128_S1x8x128_0_0_0))
  mo := k0_pay6 0#32 1#32 k (View.ld x5 (Rect.unit (s := S1x8x128) ![0, 0, 0] S1x8x128.size inb_S1x8x128_S1x8x128_0_0_0))

/-- The staged blocks a trip reads: memrefs and what they hold. -/
structure Data (F : FTy → Type) [FloatOps F] where
  a1 : Memref sig .tc .vmem S128x4x8x128 .f32
  a2 : Memref sig .tc .vmem S1024x512 .i32
  a3 : Memref sig .tc .vmem S1024x128 .i32
  a4 : Memref sig .tc .vmem S1x8x128 .f32
  a5 : Memref sig .tc .vmem S1x8x128 .f32
  a6 : Memref sig .tc .vmem S1x8x128 .f32
  a7 : Memref sig .tc .vmem S256x512 .bf16
  x1 : BufTy.Contents (Elt F) a1.view.ty
  x2 : BufTy.Contents (Elt F) a2.view.ty
  x3 : BufTy.Contents (Elt F) a3.view.ty
  x4 : BufTy.Contents (Elt F) a4.view.ty
  x5 : BufTy.Contents (Elt F) a5.view.ty
  x6 : BufTy.Contents (Elt F) a6.view.ty
  x7 : BufTy.Contents (Elt F) a7.view.ty

def Data.J (D : Data F) (k : Fin k0_t1_loop.trips) : Ins F :=
  ins (D.a1.view.read (Elt F) D.x1) (D.a2.view.read (Elt F) D.x2) (D.a3.view.read (Elt F) D.x3) (D.a4.view.read (Elt F) D.x4)
    (D.a5.view.read (Elt F) D.x5) (D.a6.view.read (Elt F) D.x6) k

/-- The pair matrix. -/
def Data.pm (D : Data F) : FVec F S256x512 .bf16 :=
  View.ld (D.a7.view.read (Elt F) D.x7) (Rect.unit (s := S256x512) ![0, 0] S256x512.size inb_S256x512_S256x512_0_0)

/-- It reads as in the first launch. -/
theorem ins_eq (x0 : Vec F S128x4x8x128 .f32) (x1 : Vec F S1024x512 .i32) (x2 : Vec F S1024x128 .i32) (x3 x4 x5 : Vec F S1x8x128 .f32)
    (k : Fin k0_t1_loop.trips) : ins x0 x1 x2 x3 x4 x5 k = Cert.KernelIdeal.Trip.ins x0 x1 x2 x3 x4 x5 k := rfl

variable (D : Data F) (k : Fin k0_t1_loop.trips)

set_option maxHeartbeats 0 in
/-- The values the stores read. -/
theorem values :
    r_359 D.a1 D.a3 D.a4 D.a5 D.a6 D.x1 D.x3 D.x4 D.x5 D.x6 k = (upTo (D.J k).scale 16)
    ∧ r_360 D.a1 D.a3 D.a4 D.a5 D.a6 D.x1 D.x3 D.x4 D.x5 D.x6 k = (upTo (D.J k).bias 16)
    ∧ r_337 D.a1 D.a6 D.x1 D.x6 k = (upTo (D.J k).state 15)
    ∧ r_344 D.a1 D.a6 D.x1 D.x6 k = ((D.J k).state 15)
    ∧ r_361 D.a1 D.a2 D.a3 D.a4 D.a5 D.a6 D.a7 D.x1 D.x2 D.x3 D.x4 D.x5 D.x6 D.x7 k = (extractStridedSlice Sq ![0, 0] (pairs dot_S256x512_S128x512_S256x128_1_1_0_0_n_n D.pm (D.J k).codes) slices_lo)
    ∧ r_362 D.a1 D.a2 D.a3 D.a4 D.a5 D.a6 D.a7 D.x1 D.x2 D.x3 D.x4 D.x5 D.x6 D.x7 k = (extractStridedSlice Sq ![128, 0] (pairs dot_S256x512_S128x512_S256x128_1_1_0_0_n_n D.pm (D.J k).codes) slices_hi) := by
  dsimp only [
    r, r_1, r_2, r_3, r_4, r_5, r_6, r_7, r_8, r_9, r_10, r_11, r_12, r_13, r_14, r_15, r_16, r_17, r_18, r_19, r_20, r_21, r_22, r_23, r_24, r_25, r_26, r_27, r_28, r_29,
    r_30, r_31, r_32, r_33, r_34, r_35, r_36, r_37, r_38, r_39, r_40, r_41, r_42, r_43, r_44, r_45, r_46, r_47, r_48, r_49, r_50, r_51, r_52, r_53, r_54, r_55, r_56, r_57,
    r_58, r_59, r_60, r_61, r_62, r_63, r_64, r_65, r_66, r_67, r_68, r_69, r_70, r_71, r_72, r_73, r_74, r_75, r_76, r_77, r_78, r_79, r_80, r_81, r_82, r_83, r_84, r_85,
    r_86, r_87, r_88, r_89, r_90, r_91, r_92, r_93, r_94, r_95, r_96, r_97, r_98, r_99, r_100, r_101, r_102, r_103, r_104, r_105, r_106, r_107, r_108, r_109, r_110, r_111,
    r_112, r_113, r_114, r_115, r_116, r_117, r_118, r_119, r_120, r_121, r_122, r_123, r_124, r_125, r_126, r_127, r_128, r_129, r_130, r_131, r_132, r_133, r_134, r_135,
    r_136, r_137, r_138, r_139, r_140, r_141, r_142, r_143, r_144, r_145, r_146, r_147, r_148, r_149, r_150, r_151, r_152, r_153, r_154, r_155, r_156, r_157, r_158, r_159,
    r_160, r_161, r_162, r_163, r_164, r_165, r_166, r_167, r_168, r_169, r_170, r_171, r_172, r_173, r_174, r_175, r_176, r_177, r_178, r_179, r_180, r_181, r_182, r_183,
    r_184, r_185, r_186, r_187, r_188, r_189, r_190, r_191, r_192, r_193, r_194, r_195, r_196, r_197, r_198, r_199, r_200, r_201, r_202, r_203, r_204, r_205, r_206, r_207,
    r_208, r_209, r_210, r_211, r_212, r_213, r_214, r_215, r_216, r_217, r_218, r_219, r_220, r_221, r_222, r_223, r_224, r_225, r_226, r_227, r_228, r_229, r_230, r_231,
    r_232, r_233, r_234, r_235, r_236, r_237, r_238, r_239, r_240, r_241, r_242, r_243, r_244, r_245, r_246, r_247, r_248, r_249, r_250, r_251, r_252, r_253, r_254, r_255,
    r_256, r_257, r_258, r_259, r_260, r_261, r_262, r_263, r_264, r_265, r_266, r_267, r_268, r_269, r_270, r_271, r_272, r_273, r_274, r_275, r_276, r_277, r_278, r_279,
    r_280, r_281, r_282, r_283, r_284, r_285, r_286, r_287, r_288, r_289, r_290, r_291, r_292, r_293, r_294, r_295, r_296, r_297, r_298, r_299, r_300, r_301, r_302, r_303,
    r_304, r_305, r_306, r_307, r_308, r_309, r_310, r_311, r_312, r_313, r_314, r_315, r_316, r_317, r_318, r_319, r_320, r_321, r_322, r_323, r_324, r_325, r_326, r_327,
    r_328, r_329, r_330, r_331, r_332, r_333, r_334, r_335, r_336, r_337, r_338, r_339, r_340, r_341, r_342, r_343, r_344, r_345, r_346, r_347, r_348, r_349, r_350, r_351,
    r_352, r_353, r_354, r_355, r_356, r_357, r_358, r_359, r_360, r_361, r_362]
  dsimp only [
    k0_pay1, k0_pay2, k0_pay3, k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322,
    k0_pay323, k0_pay324, k0_pay325, k0_pay326, k0_pay327, k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347, k0_pay348, k0_pay349, k0_pay350, k0_pay351, k0_pay352,
    k0_pay353, k0_pay354, k0_pay355, k0_pay356, k0_pay357, k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377, k0_pay378, k0_pay379, k0_pay380, k0_pay381, k0_pay382,
    k0_pay383, k0_pay384, k0_pay385, k0_pay386, k0_pay387, k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425, col, wide, Ins.grad,
    Ins.state, Ins.mult, Ins.new, Ins.new0, Ins.new1, Ins.new2, Ins.new3, Ins.low, Ins.span, Ins.inv, Ins.code, Ins.code0, Ins.code1, Ins.code2, Ins.code3, Ins.codes,
    Ins.scale, Ins.bias, diag, own, upTo, fold8, stack, pairs, bytes, Data.J, ins]
  exact ⟨rfl, rfl, rfl, rfl, rfl, rfl⟩

/-- The three rows a trip stores: each a tile merged over the sixteen groups and its sublanes added. -/
theorem pay_scale : k0_pay419 (upTo (D.J k).scale 16) = fold8 (upTo (D.J k).scale 16) := rfl
theorem pay_bias : k0_pay420 (upTo (D.J k).bias 16) = fold8 (upTo (D.J k).bias 16) := rfl
theorem pay_state : k0_pay421 (upTo (D.J k).state 15) ((D.J k).state 15) (k0_pay416 k0_pay1) = fold8 (upTo (D.J k).state 16) := rfl
theorem pay_bytes : k0_pay2 (extractStridedSlice Sq ![0, 0] (pairs dot_S256x512_S128x512_S256x128_1_1_0_0_n_n D.pm (D.J k).codes) slices_lo)
    (extractStridedSlice Sq ![128, 0] (pairs dot_S256x512_S128x512_S256x128_1_1_0_0_n_n D.pm (D.J k).codes) slices_hi) k0_pay425 = bytes (pairs dot_S256x512_S128x512_S256x128_1_1_0_0_n_n D.pm (D.J k).codes) := rfl

theorem trip_scale (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.1 = [⟨Rect.unit (s := S8x128) (k0_off10 k) S1x128.size (k0_off10_inb k), fold8 (upTo (D.J k).scale 16)⟩] := by
  unfold trip_k0_t1; dsimp only
  rw [(values D k).1, pay_scale D k]

theorem trip_bias (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.1 = [⟨Rect.unit (s := S8x128) (k0_off10 k) S1x128.size (k0_off10_inb k), fold8 (upTo (D.J k).bias 16)⟩] := by
  unfold trip_k0_t1; dsimp only
  rw [(values D k).2.1, pay_bias D k]

theorem trip_state (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.2.1 = [⟨Rect.unit (s := S8x128) (k0_off10 k) S1x128.size (k0_off10_inb k), fold8 (upTo (D.J k).state 16)⟩] := by
  unfold trip_k0_t1; dsimp only
  rw [(values D k).2.2.1, (values D k).2.2.2.1, pay_state D k]

theorem trip_bytes (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).1 = [⟨Rect.unit (s := S520x1024) (k0_off12 k) S8x128.size (k0_off12_inb k), k0_pay3⟩,
      ⟨Rect.unit (s := S520x1024) (k0_off11 k) S512x128.size (k0_off11_inb k), bytes (pairs dot_S256x512_S128x512_S256x128_1_1_0_0_n_n D.pm (D.J k).codes)⟩] := by
  unfold trip_k0_t1; dsimp only
  rw [(values D k).2.2.2.2.1, (values D k).2.2.2.2.2, pay_bytes D k]

end Cert.Kernel1Ideal.Trip
-- ==== Proof.Block1.lean ====
/- The second launch: what it leaves in a block of each result, row by row of the blocks it reads (hand part). -/
module

public import proofs.«01_k».proof.Proof.Gen.Kernel1Ideal.Frame
public import proofs.«01_k».proof.Proof.Trip1
public import proofs.«01_k».proof.Proof.Block
public import Idealize.ShloMosaic.Lib.Pipeline.CanonAppend

@[expose] public section

set_option maxRecDepth 16384

noncomputable section

namespace Cert.Kernel1Ideal.Block

open Cert.Kernel1Ideal Cert.Kernel1Ideal.Gen Idealize.ShloMosaic Idealize.ShloMosaic.TcCoe
open Cert.Proof.Update Cert.Kernel1Ideal.Trip
open Cert.KernelIdeal.Block (rowAt emb_unit ld_at idx_row fold_scale fold_bias fold_state byteOf bytes_pairs)

theorem off10 : ∀ k : Fin k0_t1_loop.trips, k0_off10 k = ![k.val, 0] := by decide +kernel
theorem off11 : ∀ k : Fin k0_t1_loop.trips, k0_off11 k = ![0, 128 * k.val] := by decide +kernel
theorem off12 : ∀ k : Fin k0_t1_loop.trips, k0_off12 k = ![512, 128 * k.val] := by decide +kernel
theorem trips8 (k : Fin k0_t1_loop.trips) : k.val < 8 := k.isLt

section
variable (c : Dev nD) (i : grid0.Coords) (arg1 : Memref sig .tc .vmem S128x4x8x128 .f32) (harg1 : arg1.IsWhole) (arg2 : Memref sig .tc .vmem S1024x512 .i32) (harg2 : arg2.IsWhole) (arg3 : Memref sig .tc .vmem S1024x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S256x512 .bf16) (harg7 : arg7.IsWhole) (arg12 : Memref sig .tc .vmem S520x1024 .i8) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole)
  (x0 : Vec Ideal S128x4x8x128 .f32) (x1 : Vec Ideal S1024x512 .i32) (x2 : Vec Ideal S1024x128 .i32) (x3 x4 x5 : Vec Ideal S1x8x128 .f32) (x6 : Vec Ideal S256x512 .bf16)

/-- The blocks staged, as a trip reads them. -/
def data : Data Ideal := ⟨arg1, arg2, arg3, arg4, arg5, arg6, arg7, harg1.unread x0, harg2.unread x1, harg3.unread x2, harg4.unread x3, harg5.unread x4, harg6.unread x5, harg7.unread x6⟩

theorem data_J (k : Fin k0_t1_loop.trips) : (data arg1 harg1 arg2 harg2 arg3 harg3 arg4 harg4 arg5 harg5 arg6 harg6 arg7 harg7 x0 x1 x2 x3 x4 x5 x6).J k = Cert.KernelIdeal.Trip.ins x0 x1 x2 x3 x4 x5 k := by
  unfold Data.J data
  dsimp only
  rw [harg1.read_unread, harg2.read_unread, harg3.read_unread, harg4.read_unread, harg5.read_unread, harg6.read_unread, ins_eq]

theorem data_pm : (data arg1 harg1 arg2 harg2 arg3 harg3 arg4 harg4 arg5 harg5 arg6 harg6 arg7 harg7 x0 x1 x2 x3 x4 x5 x6).pm = x6 := by
  unfold Data.pm data
  dsimp only
  rw [harg7.read_unread]
  funext j
  refine ld_at (s := S256x512) x6 _ _ _ _ _ ![0, 0] rfl fun a => ?_
  match a with
  | ⟨0, _⟩ => show (j 0).val = 0 + (j 0).val; omega
  | ⟨1, _⟩ => show (j 1).val = 0 + (j 1).val; omega

theorem mem_bytes (q : View.Piece (Elt Ideal) S520x1024 .i8) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bytes (hpm : IsPairs x6) (r : Fin 520) (hr : r.val < 512) (n : Fin 1024) :
    out0_A_7 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 r n) = (rowAt x0 x1 x2 x3 x4 x5 n).byte ⟨r.val, hr⟩ := by
  have hc := cover0_A_7 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_7
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).1)]
  refine (View.canon_append_of_pieces (fun y : S520x1024.Idx => byteOf x0 x1 x2 x3 x4 x5 (y 0) (y 1)) [] _ ?_ _ (hc _)).trans (dif_pos hr)
  intro q hq
  obtain ⟨t, ht⟩ := mem_bytes c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bytes (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J, data_pm] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).1 = _ from T] at ht'
  have ht8 := trips8 t
  rcases List.mem_cons.mp ht' with rfl | ht'
  · intro x
    refine Eq.trans ?_ (dif_neg ?_).symm
    · rfl
    · rw [emb_unit, congrFun (off12 t) 0]; show ¬ (512 + (x 0).val < 512); omega
  · obtain rfl := List.mem_singleton.mp ht'
    intro x
    have e0 : (((Rect.unit (s := S520x1024) (k0_off11 t) S512x128.size (k0_off11_inb t)).emb x 0 : Fin 520)).val = (x 0).val := by
      rw [emb_unit, congrFun (off11 t) 0]; show 0 + (x 0).val = (x 0).val; omega
    have e1 : (((Rect.unit (s := S520x1024) (k0_off11 t) S512x128.size (k0_off11_inb t)).emb x 1 : Fin 1024)).val = 128 * t.val + (x 1).val := by
      rw [emb_unit, congrFun (off11 t) 1]; rfl
    have hx0 : (x 0).val < 512 := (x 0).isLt
    refine Eq.trans ?_ (dif_pos (by rw [e0]; exact hx0)).symm
    refine (congrArg _ (eq_ix2 x)).trans ((bytes_pairs x0 x1 x2 x3 x4 x5 t x6 hpm (x 0) (x 1)).trans ?_)
    exact congrArg₂ (fun z b => (rowAt x0 x1 x2 x3 x4 x5 z).byte b) (Fin.ext e1.symm) (Fin.ext e0.symm)

theorem mem_scale (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_scale (k : Fin 8) (l : Fin 128) :
    out0_A_8 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).scale := by
  have hc := cover0_A_8 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_8
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).scale) [] _ ?_ _ (hc _)
  intro q hq
  obtain ⟨t, ht⟩ := mem_scale c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_scale (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_scale x0 x1 x2 x3 x4 x5 t (x 1)).trans ?_)
  exact congrArg (fun z => (rowAt x0 x1 x2 x3 x4 x5 z).scale) (Fin.ext (by dsimp only; rw [e0, e1]))

theorem mem_bias (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bias (k : Fin 8) (l : Fin 128) :
    out0_A_9 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).low := by
  have hc := cover0_A_9 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_9
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).low) [] _ ?_ _ (hc _)
  intro q hq
  obtain ⟨t, ht⟩ := mem_bias c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bias (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_bias x0 x1 x2 x3 x4 x5 t (x 1)).trans ?_)
  exact congrArg (fun z => (rowAt x0 x1 x2 x3 x4 x5 z).low) (Fin.ext (by dsimp only; rw [e0, e1]))

theorem mem_state (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.2) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_state (k : Fin 8) (l : Fin 128) :
    out0_A_10 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).state := by
  have hc := cover0_A_10 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_10
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).state) [] _ ?_ _ (hc _)
  intro q hq
  obtain ⟨t, ht⟩ := mem_state c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_state (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_state x0 x1 x2 x3 x4 x5 t (x 1)).trans ?_)
  exact congrArg (fun z => (rowAt x0 x1 x2 x3 x4 x5 z).state) (Fin.ext (by dsimp only; rw [e0, e1]))

end

end Cert.Kernel1Ideal.Block
-- ==== Proof.Reference1.lean ====
/- The second launch: the reference's results, read at an index: each slot's row of the arguments, updated as `Row.lean` says (hand part). -/
module

public import proofs.«01_k».proof.Proof.Gen.Reference1Ideal.Run
public import proofs.«01_k».proof.Proof.Reference
public import Idealize.ShloMosaic.Lib.KernelVsHost
public import Idealize.ShloMosaic.Lib.Pointwise
public import Idealize.ShloMosaic.Lib.Pipeline.Value

@[expose] public section

set_option maxRecDepth 16384

noncomputable section

namespace Cert.Reference1Ideal.Rows

open Cert.Reference1Ideal Cert.Reference1Ideal.Gen Idealize.ShloMosaic Idealize.ShloMosaic.TcCoe
open Cert.Proof.Update
open Cert.ReferenceIdeal.Rows (byte_number)

def grads (a0 : FVec Ideal S5120x4x8x128 .f32) : FVec Ideal S40960x512 .f32 :=
  shapeCast _ (transpose S5120x8x4x128 [0, 2, 1, 3] a0 transposes_S5120x4x8x128_S5120x8x4x128_0_2_1_3) shapeCasts_S5120x8x4x128_S40960x512

def plane (a2 : Vec Ideal S153728x128 .i32) (sh : BitVec 32) : Vec Ideal S40960x1x128 .i32 :=
  broadcastInDim S40960x1x128 ![0, 2] bcast_S40960x128_S40960x1x128_0_2 (andi (Host.shrui (extractStridedSlice S40960x128 ![40960, 0] a2 slices_S153728x128_S40960x128_40960_0) (broadcastInDim S40960x128 ![] bcast_S_S40960x128 (constantI S_ 32 sh))) (broadcastInDim S40960x128 ![] bcast_S_S40960x128 (constantI S_ 32 255#32)))

def planes (x0 x1 x2 x3 : Vec Ideal S40960x1x128 .i32) : Vec Ideal S40960x4x128 .i32 :=
  concatenate S40960x4x128 1 [⟨S40960x1x128, x0⟩, ⟨S40960x1x128, x1⟩, ⟨S40960x1x128, x2⟩, ⟨S40960x1x128, x3⟩] concatenates_S40960x1x128_S40960x1x128_S40960x1x128_S40960x1x128_S40960x4x128_d1

def words (a2 : Vec Ideal S153728x128 .i32) : Vec Ideal S40960x512 .i32 :=
  shapeCast _ (planes (plane a2 0#32) (plane a2 8#32) (plane a2 16#32) (plane a2 24#32)) shapeCasts_S40960x4x128_S40960x512

def scales (a3 : FVec Ideal S154624 .f32) : FVec Ideal S40960 .f32 :=
  extractStridedSlice S40960 ![40960] (shapeCast _ (transpose S151x128x8 [0, 2, 1] (shapeCast _ a3 shapeCasts_S154624_S151x8x128) transposes_S151x8x128_S151x128x8_0_2_1) shapeCasts_S151x128x8_S154624) slices_S154624_S40960_40960

def sums (a5 : FVec Ideal S153600 .f32) : FVec Ideal S40960 .f32 :=
  extractStridedSlice S40960 ![40960] (shapeCast _ (transpose S150x128x8 [0, 2, 1] (shapeCast _ a5 shapeCasts_S153600_S150x8x128) transposes_S150x8x128_S150x128x8_0_2_1) shapeCasts_S150x128x8_S153600) slices_S153600_S40960_40960

def states (a0 : FVec Ideal S5120x4x8x128 .f32) (a5 : FVec Ideal S153600 .f32) : FVec Ideal S40960 .f32 :=
  addf (sums a5) (Host.divf (Host.reduceAdd (mulf (grads a0) (grads a0)) (constant (F := Ideal) S_ .f32 0x00000000#32) reducesTo_S40960x512_S40960_d1 h_S_) (broadcastInDim S40960 ![] bcast_S_S40960 (constant (F := Ideal) S_ .f32 0x44000000#32)))

def mults (a0 : FVec Ideal S5120x4x8x128 .f32) (a5 : FVec Ideal S153600 .f32) : FVec Ideal S40960 .f32 :=
  Host.divf (broadcastInDim S40960 ![] bcast_S_S40960 (constant (F := Ideal) S_ .f32 0x3CA3D70A#32)) (addf (Host.sqrt (states a0 a5)) (broadcastInDim S40960 ![] bcast_S_S40960 (constant (F := Ideal) S_ .f32 0x322BCC77#32)))

def news (a0 : FVec Ideal S5120x4x8x128 .f32) (a2 : IVec S153728x128 32) (a3 : FVec Ideal S154624 .f32) (a4 : FVec Ideal S154624 .f32) (a5 : FVec Ideal S153600 .f32) : FVec Ideal S40960x512 .f32 :=
  subf (addf (mulf (sitofp .f32 (words a2)) (broadcastInDim S40960x512 ![0, 1] bcast_S40960x1_S40960x512_0_1 (broadcastInDim S40960x1 ![0] bcast_S40960_S40960x1_0 (scales a3)))) (broadcastInDim S40960x512 ![0, 1] bcast_S40960x1_S40960x512_0_1 (broadcastInDim S40960x1 ![0] bcast_S40960_S40960x1_0 (scales a4)))) (mulf (broadcastInDim S40960x512 ![0, 1] bcast_S40960x1_S40960x512_0_1 (broadcastInDim S40960x1 ![0] bcast_S40960_S40960x1_0 (mults a0 a5))) (grads a0))

def lows (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.reduce FloatOps.minimumf (news a0 a2 a3 a4 a5) (constant (F := Ideal) S_ .f32 0x7F800000#32) reducesTo_S40960x512_S40960_d1 h_S_

def highs (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.reduce FloatOps.maximumf (news a0 a2 a3 a4 a5) (constant (F := Ideal) S_ .f32 0xFF800000#32) reducesTo_S40960x512_S40960_d1 h_S_

def spans (a0 : FVec Ideal S5120x4x8x128 .f32) (a2 : IVec S153728x128 32) (a3 : FVec Ideal S154624 .f32) (a4 : FVec Ideal S154624 .f32) (a5 : FVec Ideal S153600 .f32) : FVec Ideal S40960 .f32 :=
  subf (highs a0 a2 a3 a4 a5) (lows a0 a2 a3 a4 a5)

def invs (a0 : FVec Ideal S5120x4x8x128 .f32) (a2 : IVec S153728x128 32) (a3 : FVec Ideal S154624 .f32) (a4 : FVec Ideal S154624 .f32) (a5 : FVec Ideal S153600 .f32) : FVec Ideal S40960 .f32 :=
  Host.divf (broadcastInDim S40960 ![] bcast_S_S40960 (constant (F := Ideal) S_ .f32 0x437F0000#32)) (addf (spans a0 a2 a3 a4 a5) (broadcastInDim S40960 ![] bcast_S_S40960 (constant (F := Ideal) S_ .f32 0x322BCC77#32)))

def noises (a1 : IVec S153600x512 32) : FVec Ideal S40960x512 .f32 :=
  mulf (uitofp .f32 (Host.shrui (extractStridedSlice S40960x512 ![40960, 0] a1 slices_S153600x512_S40960x512_40960_0) (broadcastInDim S40960x512 ![] bcast_S_S40960x512 (constantI S_ 32 8#32)))) (broadcastInDim S40960x512 ![] bcast_S_S40960x512 (constant (F := Ideal) S_ .f32 0x33800000#32))

def codes (a0 : FVec Ideal S5120x4x8x128 .f32) (a1 : IVec S153600x512 32) (a2 : IVec S153728x128 32) (a3 : FVec Ideal S154624 .f32) (a4 : FVec Ideal S154624 .f32) (a5 : FVec Ideal S153600 .f32) : FVec Ideal S40960x512 .f32 :=
  minimumf (broadcastInDim S40960x512 ![] bcast_S_S40960x512 (id (constant (F := Ideal) S_ .f32 0x437F0000#32))) (maximumf (broadcastInDim S40960x512 ![] bcast_S_S40960x512 (id (constant (F := Ideal) S_ .f32 0x00000000#32))) (Host.floor (addf (mulf (subf (news a0 a2 a3 a4 a5) (broadcastInDim S40960x512 ![0, 1] bcast_S40960x1_S40960x512_0_1 (broadcastInDim S40960x1 ![0] bcast_S40960_S40960x1_0 (lows a0 a2 a3 a4 a5)))) (broadcastInDim S40960x512 ![0, 1] bcast_S40960x1_S40960x512_0_1 (broadcastInDim S40960x1 ![0] bcast_S40960_S40960x1_0 (invs a0 a2 a3 a4 a5)))) (noises a1))))

variable (a0 : FVec Ideal S5120x4x8x128 .f32) (a1 : IVec S153600x512 32) (a2 : IVec S153728x128 32) (a3 a4 : FVec Ideal S154624 .f32) (a5 : FVec Ideal S153600 .f32)

/-- Slot `n` of the launch, as a row of the arguments. -/
def rowOf (n : Fin 40960) : Row where
  g := fun c => a0 (ix4 ⟨n.val / 8, by omega⟩ ⟨c.val / 128, by omega⟩ ⟨n.val % 8, by omega⟩ ⟨c.val % 128, by omega⟩)
  q := fun c => oldCode (a2 (ix2 ⟨40960 + n.val, by omega⟩ ⟨c.val % 128, by omega⟩)) ⟨c.val / 128, by omega⟩
  u := fun c => noise (a1 (ix2 ⟨40960 + n.val, by omega⟩ c))
  s := a3 (ix1 ⟨1024 * ((40960 + n.val) / 1024) + 128 * ((40960 + n.val) % 8) + (40960 + n.val) % 1024 / 8, by omega⟩)
  b := a4 (ix1 ⟨1024 * ((40960 + n.val) / 1024) + 128 * ((40960 + n.val) % 8) + (40960 + n.val) % 1024 / 8, by omega⟩)
  m := a5 (ix1 ⟨1024 * ((40960 + n.val) / 1024) + 128 * ((40960 + n.val) % 8) + (40960 + n.val) % 1024 / 8, by omega⟩)

variable (n : Fin 40960) (c : Fin 512)
theorem grads_apply : grads a0 (ix2 n c) = (rowOf a0 a1 a2 a3 a4 a5 n).g c := by
  pointwise [grads]
  (try rfl)

theorem scales_apply : scales a3 (ix1 n) = (rowOf a0 a1 a2 a3 a4 a5 n).s := by
  pointwise [scales]
  exact congrArg (fun z => a3 (ix1 z)) (Fin.ext (by dsimp only; omega))

theorem biases_apply : scales a4 (ix1 n) = (rowOf a0 a1 a2 a3 a4 a5 n).b := by
  pointwise [scales]
  exact congrArg (fun z => a4 (ix1 z)) (Fin.ext (by dsimp only; omega))

theorem sums_apply : sums a5 (ix1 n) = (rowOf a0 a1 a2 a3 a4 a5 n).m := by
  pointwise [sums]
  exact congrArg (fun z => a5 (ix1 z)) (Fin.ext (by dsimp only; omega))

theorem plane_apply (sh : BitVec 32) (n : Fin 40960) (l : Fin 128) :
    plane a2 sh (ix3 n 0 l) = IntOp.andi (IntOp.shrui ArithUnit.host (a2 (ix2 ⟨40960 + n.val, by omega⟩ l)) sh) 255#32 := by
  pointwise [plane]

theorem planes_apply (x : Fin 4 → Vec Ideal S40960x1x128 .i32) (n : Fin 40960) (m : Fin 4) (l : Fin 128) :
    planes (x 0) (x 1) (x 2) (x 3) (ix3 n m l) = x m (ix3 n 0 l) := by
  refine concatenate_ofFn_apply (t := S40960x4x128) (s₁ := S40960x1x128) 1 (N := 4) x _ rfl 1 rfl (ix3 n m l) m (by show m.val / 1 = m.val; omega)
    (ix3 n 0 l) (by show 0 = m.val % 1; omega) fun b hb => ?_
  match b with
  | ⟨0, _⟩ => rfl
  | ⟨1, _⟩ => exact absurd rfl hb
  | ⟨2, _⟩ => rfl

theorem words_apply : FloatOps.sitofp (F := Ideal) .f32 (words a2 (ix2 n c)) = (rowOf a0 a1 a2 a3 a4 a5 n).q c := by
  pointwise [words]
  have h := planes_apply (fun m => plane a2 (BitVec.ofNat 32 (8 * m.val))) n ⟨c.val / 128, by omega⟩ ⟨c.val % 128, by omega⟩
  refine (congrArg (FloatOps.sitofp (F := Ideal) .f32) (h.trans (plane_apply a2 _ n _))).trans ?_
  exact byte_number _ ⟨c.val / 128, by omega⟩ _ rfl

theorem states_apply : states a0 a5 (ix1 n) = (rowOf a0 a1 a2 a3 a4 a5 n).state := by
  pointwise [states, sums_apply a0 a1 a2 a3 a4 a5 n, grads_apply a0 a1 a2 a3 a4 a5 n]
  rfl

theorem mults_apply : mults a0 a5 (ix1 n) = (rowOf a0 a1 a2 a3 a4 a5 n).mult := by
  pointwise [mults, states_apply a0 a1 a2 a3 a4 a5 n]
  rfl

theorem news_apply : news a0 a2 a3 a4 a5 (ix2 n c) = (rowOf a0 a1 a2 a3 a4 a5 n).new c := by
  pointwise [news, mults_apply a0 a1 a2 a3 a4 a5 n, scales_apply a0 a1 a2 a3 a4 a5 n, biases_apply a0 a1 a2 a3 a4 a5 n, grads_apply a0 a1 a2 a3 a4 a5 n]
  rw [words_apply a0 a1 a2 a3 a4 a5 n c]
  rfl

theorem lows_apply : lows a0 a2 a3 a4 a5 (ix1 n) = (rowOf a0 a1 a2 a3 a4 a5 n).low := by
  pointwise [lows, news_apply a0 a1 a2 a3 a4 a5 n]
  exact fold_min _

theorem highs_apply : highs a0 a2 a3 a4 a5 (ix1 n) = (rowOf a0 a1 a2 a3 a4 a5 n).high := by
  pointwise [highs, news_apply a0 a1 a2 a3 a4 a5 n]
  exact fold_max _

theorem sub_at (x y : FVec Ideal S40960 .f32) (n : Fin 40960) : subf x y (ix1 n) = x (ix1 n) - y (ix1 n) := rfl

theorem spans_apply : spans a0 a2 a3 a4 a5 (ix1 n) = (rowOf a0 a1 a2 a3 a4 a5 n).span := by
  unfold spans
  rw [sub_at, highs_apply a0 a1 a2 a3 a4 a5 n, lows_apply a0 a1 a2 a3 a4 a5 n]
  exact (Row.span.eq_1 _).symm

theorem inv_at (x : FVec Ideal S40960 .f32) (n : Fin 40960) :
    Host.divf (broadcastInDim S40960 ![] bcast_S_S40960 (constant (F := Ideal) S_ .f32 0x437F0000#32)) (addf x (broadcastInDim S40960 ![] bcast_S_S40960 (constant (F := Ideal) S_ .f32 0x322BCC77#32))) (ix1 n)
      = Ideal.div (Ideal.ofBits .f32 0x437F0000#32) (x (ix1 n) + Ideal.ofBits .f32 0x322BCC77#32) := by
  pointwise

theorem scale_at (x : FVec Ideal S40960 .f32) (n : Fin 40960) :
    Host.divf x (broadcastInDim S40960 ![] bcast_S_S40960 (constant (F := Ideal) S_ .f32 0x437F0000#32)) (ix1 n)
      = Ideal.div (x (ix1 n)) (Ideal.ofBits .f32 0x437F0000#32) := by
  pointwise

theorem invs_apply : invs a0 a2 a3 a4 a5 (ix1 n) = (rowOf a0 a1 a2 a3 a4 a5 n).inv := by
  unfold invs
  rw [inv_at, spans_apply a0 a1 a2 a3 a4 a5 n]
  exact (Row.inv.eq_1 _).symm

theorem noises_apply : noises a1 (ix2 n c) = (rowOf a0 a1 a2 a3 a4 a5 n).u c := by
  pointwise [noises]
  show _ = noise _
  unfold noise IntOp.shrui
  rw [if_pos (by decide)]
  rfl

theorem codes_apply : codes a0 a1 a2 a3 a4 a5 (ix2 n c) = (rowOf a0 a1 a2 a3 a4 a5 n).code c := by
  pointwise [codes, news_apply a0 a1 a2 a3 a4 a5 n, invs_apply a0 a1 a2 a3 a4 a5 n, noises_apply a0 a1 a2 a3 a4 a5 n, lows_apply a0 a1 a2 a3 a4 a5 n]
  rfl

/-- An array of one value per slot read back in rows of 128 lanes, a padded one at a slot of the launch, and the padded array of codes. -/
theorem cast_at (y : FVec Ideal S153600 .f32) (r : Fin 1200) (l : Fin 128) :
    shapeCast S1200x128 y shapeCasts_S153600_S1200x128 (ix2 r l) = y (ix1 ⟨128 * r.val + l.val, by omega⟩) := by
  pointwise
  exact congrArg (fun z => y (ix1 z)) (Fin.ext (by dsimp only; omega))

theorem pad_at (x : FVec Ideal S40960 .f32) (z : FVec Ideal S_ .f32) (j : Fin 153600) (hj : 40960 ≤ j.val ∧ j.val < 81920) :
    pad S153600 ![40960] ![71680] ![0] x z pads_S40960_S153600_40960716800 h_S_ (ix1 j) = x (ix1 ⟨j.val - 40960, by omega⟩) := by
  refine pad_apply_of_inside _ _ _ x z _ _ _ (ix1 ⟨j.val - 40960, by omega⟩) fun a => ?_
  match a with
  | ⟨0, _⟩ => show j.val = 40960 + (j.val - 40960) * (0 + 1); omega

theorem lane_at (x : FVec Ideal S40960 .f32) (z : FVec Ideal S_ .f32) (r : Fin 1200) (hr : 320 ≤ r.val ∧ r.val < 640) (l : Fin 128) :
    shapeCast S1200x128 (pad S153600 ![40960] ![71680] ![0] x z pads_S40960_S153600_40960716800 h_S_) shapeCasts_S153600_S1200x128 (ix2 r l)
      = x (ix1 ⟨128 * r.val + l.val - 40960, by omega⟩) :=
  (cast_at _ r l).trans (pad_at x z _ (by dsimp only; omega))

theorem byte_at (x : IVec S40960x512 8) (z : IVec S_ 8) (r : Fin 520) (hr : r.val < 512) (n : Fin 153600) (hn : 40960 ≤ n.val ∧ n.val < 81920) :
    pad S520x153600 ![0, 40960] ![8, 71680] ![0, 0] (transpose S512x40960 [1, 0] x transposes_S40960x512_S512x40960_1_0) z pads_S512x40960_S520x153600_080_40960716800 h_S_ (ix2 r n)
      = x (ix2 ⟨n.val - 40960, by omega⟩ ⟨r.val, hr⟩) := by
  refine (pad_apply_of_inside _ _ _ _ z _ _ _ (ix2 (⟨r.val, hr⟩ : Fin 512) ⟨n.val - 40960, by omega⟩) fun a => ?_).trans ?_
  · match a with
    | ⟨0, _⟩ => show r.val = 0 + r.val * (0 + 1); omega
    | ⟨1, _⟩ => show n.val = 40960 + (n.val - 40960) * (0 + 1); omega
  · pointwise

end Cert.Reference1Ideal.Rows

namespace Cert.Reference1Ideal.Rows

open Cert.Reference1Ideal Cert.Reference1Ideal.Gen Idealize.ShloMosaic Idealize.ShloMosaic.TcCoe
open Cert.Proof.Update

variable (m : (ℓ : Loc nD τ sig) → Buf (Elt Ideal) ℓ) (c : Dev nD)
/-- Slot `n`'s row of the arguments in memory. -/
def rowIn (n : Fin 40960) : Row := rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n

theorem res90 : Value.res_main_v90 m c = shapeCast S1200x128 (pad S153600 ![40960] ![71680] ![0] (Host.divf (spans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (broadcastInDim S40960 ![] bcast_S_S40960 (constant (F := Ideal) S_ .f32 0x437F0000#32))) (sitofp .f32 (constantI S_ 32 0#32)) pads_S40960_S153600_40960716800 h_S_) shapeCasts_S153600_S1200x128 := by
  unfold Value.res_main_v90
  rfl
theorem res92 : Value.res_main_v92 m c = shapeCast S1200x128 (pad S153600 ![40960] ![71680] ![0] (lows (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (sitofp .f32 (constantI S_ 32 0#32)) pads_S40960_S153600_40960716800 h_S_) shapeCasts_S153600_S1200x128 := by
  unfold Value.res_main_v92
  rfl
theorem res88 : Value.res_main_v88 m c = pad S520x153600 ![0, 40960] ![8, 71680] ![0, 0] (transpose S512x40960 [1, 0] (trunci 8 (fptosi 32 (codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) natLt_8_32) transposes_S40960x512_S512x40960_1_0) (trunci 8 (constantI S_ 32 0#32) natLt_8_32) pads_S512x40960_S520x153600_080_40960716800 h_S_ := by
  unfold Value.res_main_v88
  rfl
theorem bytes_value (r : Fin 520) (hr : r.val < 512) (n : Fin 153600) (hn : 40960 ≤ n.val ∧ n.val < 81920) :
    Value.res_main_v88 m c (ix2 r n) = (rowIn m c ⟨n.val - 40960, by omega⟩).byte ⟨r.val, hr⟩ := by
  rw [res88, byte_at _ _ r hr n hn]
  show (Ideal.fptosi 32 (codes _ _ _ _ _ _ (ix2 ⟨n.val - 40960, by omega⟩ ⟨r.val, hr⟩))).setWidth 8 = _
  rw [codes_apply]
  rfl

theorem scale_value (r : Fin 1200) (hr : 320 ≤ r.val ∧ r.val < 640) (l : Fin 128) :
    Value.res_main_v90 m c (ix2 r l) = (rowIn m c ⟨128 * r.val + l.val - 40960, by omega⟩).scale := by
  rw [res90, lane_at _ _ r hr l, scale_at, spans_apply (a1 := m ((c.tc : Thread nD τ).loc main_arg1))]
  exact (Row.scale.eq_1 _).symm

theorem bias_value (r : Fin 1200) (hr : 320 ≤ r.val ∧ r.val < 640) (l : Fin 128) :
    Value.res_main_v92 m c (ix2 r l) = (rowIn m c ⟨128 * r.val + l.val - 40960, by omega⟩).low := by
  rw [res92, lane_at _ _ r hr l, lows_apply (a1 := m ((c.tc : Thread nD τ).loc main_arg1))]
  rfl

/-- The accumulators as the reference leaves them. -/
def res94 : FVec Ideal S1200x128 .f32 :=
  shapeCast S1200x128 (pad S153600 ![40960] ![71680] ![0] (states (m ((c.tc : Thread nD τ).loc main_arg0)) (m ((c.tc : Thread nD τ).loc main_arg5))) (sitofp .f32 (constantI S_ 32 0#32)) pads_S40960_S153600_40960716800 h_S_) shapeCasts_S153600_S1200x128

theorem state_value (r : Fin 1200) (hr : 320 ≤ r.val ∧ r.val < 640) (l : Fin 128) :
    res94 m c (ix2 r l) = (rowIn m c ⟨128 * r.val + l.val - 40960, by omega⟩).state := by
  unfold res94
  rw [lane_at _ _ r hr l, states_apply (a1 := m ((c.tc : Thread nD τ).loc main_arg1)) (a2 := m ((c.tc : Thread nD τ).loc main_arg2)) (a3 := m ((c.tc : Thread nD τ).loc main_arg3)) (a4 := m ((c.tc : Thread nD τ).loc main_arg4))]
  rfl

end Cert.Reference1Ideal.Rows
-- ==== Proof.Arrays1.lean ====
/- The second launch: the kernel's windows and results at an index: what each block holds of the arguments, and each result array
   at a slot as the row of the arguments that slot stands for (hand part). -/
module

public import proofs.«01_k».proof.Proof.Block1
public import proofs.«01_k».proof.Proof.Arrays
public import proofs.«01_k».proof.Proof.Reference1
public import proofs.«01_k».proof.Proof.Gen.Kernel1Ideal.Value
public import Idealize.ShloMosaic.Lib.Pipeline.ValueKit.Point

@[expose] public section

set_option maxRecDepth 16384

noncomputable section

namespace Cert.Kernel1Ideal.Arrays

open Cert.Kernel1Ideal Cert.Kernel1Ideal.Gen Idealize.ShloMosaic Idealize.ShloMosaic.TcCoe
open Cert.Proof.Update
open Cert.KernelIdeal.Arrays (first_word pairMat pair_at)

variable (m : (ℓ : Loc nD τ sig) → Buf (Elt Ideal) ℓ) (c : Dev nD)

/-! The host-made operands -/

theorem v0_at (k : Fin 151) (s : Fin 8) (l : Fin 128) : V m c main_v0 (ix3 k s l) = m ((c : Thread nD τ).loc main_arg3) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg3) (ix1 z)) (Fin.ext (by dsimp only; omega))

theorem v1_at (k : Fin 151) (s : Fin 8) (l : Fin 128) : V m c main_v1 (ix3 k s l) = m ((c : Thread nD τ).loc main_arg4) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg4) (ix1 z)) (Fin.ext (by dsimp only; omega))

theorem v2_at (k : Fin 150) (s : Fin 8) (l : Fin 128) : V m c main_v2 (ix3 k s l) = m ((c : Thread nD τ).loc main_arg5) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg5) (ix1 z)) (Fin.ext (by dsimp only; omega))

theorem v13_at (a : Fin 256) : V m c main_v13 (ix2 a 0) = BitVec.ofNat 32 (firstOf a) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  exact first_word a

theorem v27_eq : V m c main_v27 = pairMat (V m c main_v13) := by
  unfold V pairMat
  simp only [hostOps0, hostOps0_1, hostOps0_2, hostOps0_3, hostOps0_4, List.flatten_cons, List.flatten_nil, List.append_nil, List.cons_append, List.nil_append]
  entry_read
  rfl

/-! The blocks -/

theorem idx0 : ∀ t : Fin cfg0.N, win0_0.index t = ![t.val, 0, 0, 0] := (by decide +kernel : ∀ t : Fin grid0.N, win0_0.index t = ![t.val, 0, 0, 0])
theorem idx1 : ∀ t : Fin cfg0.N, win0_1.index t = ![40 + t.val, 0] := (by decide +kernel : ∀ t : Fin grid0.N, win0_1.index t = ![40 + t.val, 0])
theorem idx2 : ∀ t : Fin cfg0.N, win0_2.index t = ![40 + t.val, 0] := (by decide +kernel : ∀ t : Fin grid0.N, win0_2.index t = ![40 + t.val, 0])
theorem idx3 : ∀ t : Fin cfg0.N, win0_3.index t = ![40 + t.val, 0, 0] := (by decide +kernel : ∀ t : Fin grid0.N, win0_3.index t = ![40 + t.val, 0, 0])
theorem idx4 : ∀ t : Fin cfg0.N, win0_4.index t = ![40 + t.val, 0, 0] := (by decide +kernel : ∀ t : Fin grid0.N, win0_4.index t = ![40 + t.val, 0, 0])
theorem idx5 : ∀ t : Fin cfg0.N, win0_5.index t = ![40 + t.val, 0, 0] := (by decide +kernel : ∀ t : Fin grid0.N, win0_5.index t = ![40 + t.val, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 40 + t.val] := (by decide +kernel : ∀ t : Fin grid0.N, win0_7.index t = ![0, 40 + t.val])
theorem idx8 : ∀ t : Fin cfg0.N, win0_8.index t = ![40 + t.val, 0] := (by decide +kernel : ∀ t : Fin grid0.N, win0_8.index t = ![40 + t.val, 0])
theorem idx9 : ∀ t : Fin cfg0.N, win0_9.index t = ![40 + t.val, 0] := (by decide +kernel : ∀ t : Fin grid0.N, win0_9.index t = ![40 + t.val, 0])
theorem idx10 : ∀ t : Fin cfg0.N, win0_10.index t = ![40 + t.val, 0] := (by decide +kernel : ∀ t : Fin grid0.N, win0_10.index t = ![40 + t.val, 0])

theorem blk0 (t : Fin cfg0.N) (a : Fin 128) (b : Fin 4) (d : Fin 8) (l : Fin 128) :
    iblk m c 0 t (ix4 a b d l) = (m ((c : Thread nD τ).loc main_arg0)) (ix4 ⟨128 * t.val + a.val, by have : t.val < 40 := t.isLt; omega⟩ b d l) := by
  blk_ext! [iblk, V, idx0 t]

theorem blk1 (t : Fin cfg0.N) (a : Fin 1024) (b : Fin 512) :
    iblk m c 1 t (ix2 a b) = (m ((c : Thread nD τ).loc main_arg1)) (ix2 ⟨1024 * (40 + t.val) + a.val, by have : t.val < 40 := t.isLt; omega⟩ b) := by
  blk_ext! [iblk, V, idx1 t]

theorem blk2 (t : Fin cfg0.N) (a : Fin 1024) (b : Fin 128) :
    X0_2 m c t (ix2 a b) = (m ((c : Thread nD τ).loc main_arg2)) (ix2 ⟨1024 * (40 + t.val) + a.val, by have : t.val < 40 := t.isLt; omega⟩ b) := by
  unfold X0_2 Pipeline.Window.fill; rw [dif_pos (moved0_2 t _)]
  blk_ext! [iblk, V, idx2 t]

theorem blk3 (t : Fin cfg0.N) (a : Fin 8) (b : Fin 128) :
    iblk m c 3 t (ix3 0 a b) = (m ((c : Thread nD τ).loc main_arg3)) (ix1 ⟨1024 * (40 + t.val) + 128 * a.val + b.val, by have : t.val < 40 := t.isLt; omega⟩) := by
  refine Eq.trans ?_ (v0_at m c ⟨40 + t.val, by have : t.val < 40 := t.isLt; omega⟩ a b)
  blk_ext! [iblk, idx3 t]

theorem blk4 (t : Fin cfg0.N) (a : Fin 8) (b : Fin 128) :
    iblk m c 4 t (ix3 0 a b) = (m ((c : Thread nD τ).loc main_arg4)) (ix1 ⟨1024 * (40 + t.val) + 128 * a.val + b.val, by have : t.val < 40 := t.isLt; omega⟩) := by
  refine Eq.trans ?_ (v1_at m c ⟨40 + t.val, by have : t.val < 40 := t.isLt; omega⟩ a b)
  blk_ext! [iblk, idx4 t]

theorem blk5 (t : Fin cfg0.N) (a : Fin 8) (b : Fin 128) :
    iblk m c 5 t (ix3 0 a b) = (m ((c : Thread nD τ).loc main_arg5)) (ix1 ⟨1024 * (40 + t.val) + 128 * a.val + b.val, by have : t.val < 40 := t.isLt; omega⟩) := by
  refine Eq.trans ?_ (v2_at m c ⟨40 + t.val, by have : t.val < 40 := t.isLt; omega⟩ a b)
  blk_ext! [iblk, idx5 t]

theorem blk6 (t : Fin cfg0.N) (a : Fin 256) (b : Fin 512) :
    iblk m c 6 t (ix2 a b) = V m c main_v27 (ix2 a b) := by
  blk_ext! [iblk, idx6 t]

theorem isPairs (t : Fin cfg0.N) : IsPairs (iblk m c 6 t) := fun a b =>
  (blk6 m c t a b).trans ((congrFun (v27_eq m c) (ix2 a b)).trans (pair_at _ a b (v13_at m c a)))

/-- Slot `n` of the launch, as a row of the arguments. -/
def rowOf (n : Fin 40960) : Row :=
  Cert.Reference1Ideal.Rows.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n

theorem row_eq (t : Fin cfg0.N) (j : Fin 1024) :
    Cert.KernelIdeal.Block.rowAt (iblk m c 0 t) (iblk m c 1 t) (X0_2 m c t) (iblk m c 3 t) (iblk m c 4 t) (iblk m c 5 t) j
      = rowOf m c ⟨1024 * t.val + j.val, by have : t.val < 40 := t.isLt; omega⟩ := by
  have ht : t.val < 40 := t.isLt
  unfold Cert.KernelIdeal.Block.rowAt rowOf Cert.Reference1Ideal.Rows.rowOf
  rw [Row.mk.injEq]
  refine ⟨funext fun x => ?_, funext fun x => ?_, funext fun x => ?_, ?_, ?_, ?_⟩
  · refine (blk0 m c t _ _ _ _).trans ?_
    exact congrArg₂ (fun y z => (m ((c : Thread nD τ).loc main_arg0)) (ix4 y ⟨x.val / 128, by omega⟩ z ⟨x.val % 128, by omega⟩)) (Fin.ext (by dsimp only; omega)) (Fin.ext (by dsimp only; omega))
  · refine (congrArg (fun w => oldCode w ⟨x.val / 128, by omega⟩) (blk2 m c t _ _)).trans ?_
    exact congrArg (fun z => oldCode ((m ((c : Thread nD τ).loc main_arg2)) (ix2 z ⟨x.val % 128, by omega⟩)) ⟨x.val / 128, by omega⟩) (Fin.ext (by dsimp only; omega))
  · refine (congrArg noise (blk1 m c t _ _)).trans ?_
    exact congrArg (fun z => noise ((m ((c : Thread nD τ).loc main_arg1)) (ix2 z x))) (Fin.ext (by dsimp only; omega))
  · refine (blk3 m c t _ _).trans ?_
    exact congrArg (fun z => (m ((c : Thread nD τ).loc main_arg3)) (ix1 z)) (Fin.ext (by dsimp only; omega))
  · refine (blk4 m c t _ _).trans ?_
    exact congrArg (fun z => (m ((c : Thread nD τ).loc main_arg4)) (ix1 z)) (Fin.ext (by dsimp only; omega))
  · refine (blk5 m c t _ _).trans ?_
    exact congrArg (fun z => (m ((c : Thread nD τ).loc main_arg5)) (ix1 z)) (Fin.ext (by dsimp only; omega))

/-! The result arrays -/

theorem flush8 : ∀ t : Fin cfg0.N, (cfg0.win 8).flush t = true := (by decide +kernel : ∀ t : Fin grid0.N, (cfg0.win 8).flush t = true)

theorem scale_final (r : Fin 1200) (hr : 320 ≤ r.val ∧ r.val < 640) (l : Fin 128) :
    (dats m 0 c).arrAt 8 cfg0.N (ix2 r l) = (rowOf m c ⟨128 * r.val + l.val - 40960, by omega⟩).scale := by
  obtain ⟨t, et⟩ : ∃ t : Fin cfg0.N, t.val = r.val / 8 - 40 := ⟨⟨r.val / 8 - 40, by show r.val / 8 - 40 < 40; omega⟩, rfl⟩
  have h := congrFun (Value.blocks8 m c t (flush8 t)) (ix2 (⟨r.val % 8, by omega⟩ : Fin 8) l)
  rw [Value.flushed8_A] at h
  have e : (ix2 r l : S1200x128.Idx) = ((cfg0.win 8).blk t).view.emb (ix2 (⟨r.val % 8, by omega⟩ : Fin 8) l) := by
    blk_ext [idx8 t]
  rw [e]
  refine (Eq.trans ?_ h).trans ?_
  · rfl
  refine (Eq.trans ?_ (Block.out_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).scale) (Fin.ext (by show 1024 * t.val + (128 * (r.val % 8) + l.val) = 128 * r.val + l.val - 40960; omega))

theorem flush9 : ∀ t : Fin cfg0.N, (cfg0.win 9).flush t = true := (by decide +kernel : ∀ t : Fin grid0.N, (cfg0.win 9).flush t = true)

theorem bias_final (r : Fin 1200) (hr : 320 ≤ r.val ∧ r.val < 640) (l : Fin 128) :
    (dats m 0 c).arrAt 9 cfg0.N (ix2 r l) = (rowOf m c ⟨128 * r.val + l.val - 40960, by omega⟩).low := by
  obtain ⟨t, et⟩ : ∃ t : Fin cfg0.N, t.val = r.val / 8 - 40 := ⟨⟨r.val / 8 - 40, by show r.val / 8 - 40 < 40; omega⟩, rfl⟩
  have h := congrFun (Value.blocks9 m c t (flush9 t)) (ix2 (⟨r.val % 8, by omega⟩ : Fin 8) l)
  rw [Value.flushed9_A] at h
  have e : (ix2 r l : S1200x128.Idx) = ((cfg0.win 9).blk t).view.emb (ix2 (⟨r.val % 8, by omega⟩ : Fin 8) l) := by
    blk_ext [idx9 t]
  rw [e]
  refine (Eq.trans ?_ h).trans ?_
  · rfl
  refine (Eq.trans ?_ (Block.out_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).low) (Fin.ext (by show 1024 * t.val + (128 * (r.val % 8) + l.val) = 128 * r.val + l.val - 40960; omega))

theorem flush10 : ∀ t : Fin cfg0.N, (cfg0.win 10).flush t = true := (by decide +kernel : ∀ t : Fin grid0.N, (cfg0.win 10).flush t = true)

theorem state_final (r : Fin 1200) (hr : 320 ≤ r.val ∧ r.val < 640) (l : Fin 128) :
    (dats m 0 c).arrAt 10 cfg0.N (ix2 r l) = (rowOf m c ⟨128 * r.val + l.val - 40960, by omega⟩).state := by
  obtain ⟨t, et⟩ : ∃ t : Fin cfg0.N, t.val = r.val / 8 - 40 := ⟨⟨r.val / 8 - 40, by show r.val / 8 - 40 < 40; omega⟩, rfl⟩
  have h := congrFun (Value.blocks10 m c t (flush10 t)) (ix2 (⟨r.val % 8, by omega⟩ : Fin 8) l)
  rw [Value.flushed10_A] at h
  have e : (ix2 r l : S1200x128.Idx) = ((cfg0.win 10).blk t).view.emb (ix2 (⟨r.val % 8, by omega⟩ : Fin 8) l) := by
    blk_ext [idx10 t]
  rw [e]
  refine (Eq.trans ?_ h).trans ?_
  · rfl
  refine (Eq.trans ?_ (Block.out_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).state) (Fin.ext (by show 1024 * t.val + (128 * (r.val % 8) + l.val) = 128 * r.val + l.val - 40960; omega))

theorem flush7 : ∀ t : Fin cfg0.N, (cfg0.win 7).flush t = true := (by decide +kernel : ∀ t : Fin grid0.N, (cfg0.win 7).flush t = true)

theorem bytes_final (r : Fin 520) (hr : r.val < 512) (n : Fin 153600) (hn : 40960 ≤ n.val ∧ n.val < 81920) :
    (dats m 0 c).arrAt 7 cfg0.N (ix2 r n) = (rowOf m c ⟨n.val - 40960, by omega⟩).byte ⟨r.val, hr⟩ := by
  obtain ⟨t, et⟩ : ∃ t : Fin cfg0.N, t.val = n.val / 1024 - 40 := ⟨⟨n.val / 1024 - 40, by show n.val / 1024 - 40 < 40; omega⟩, rfl⟩
  have h := congrFun (Value.blocks7 m c t (flush7 t)) (ix2 r (⟨n.val % 1024, by omega⟩ : Fin 1024))
  rw [Value.flushed7_A] at h
  have e : (ix2 r n : S520x153600.Idx) = ((cfg0.win 7).blk t).view.emb (ix2 r (⟨n.val % 1024, by omega⟩ : Fin 1024)) := by
    blk_ext [idx7 t]
  rw [e]
  refine (Eq.trans ?_ h).trans ?_
  · rfl
  refine (Eq.trans ?_ (Block.out_bytes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) (isPairs m c t) r hr ⟨n.val % 1024, by omega⟩)).trans ?_
  · rfl
  rw [row_eq]
  exact congrArg (fun z => (rowOf m c z).byte ⟨r.val, hr⟩) (Fin.ext (by show 1024 * t.val + n.val % 1024 = n.val - 40960; omega))

end Cert.Kernel1Ideal.Arrays
-- ==== Proof.Mask1.lean ====
/- The second launch: what the mask of the written elements says at an index (hand part). -/
module

public import proofs.«01_k».proof.Proof.Gen.On_written1
public import Idealize.ShloMosaic.Lib.Pointwise
public import proofs.«01_k».proof.Proof.Mask

@[expose] public section

noncomputable section

namespace Cert.On_written1.Mask

open Cert.On_written.Mask (slt_small sge_small and_both)
open Cert.On_written1 Cert.On_written1.Gen Idealize.ShloMosaic

variable (a0 : FVec Ideal S5120x4x8x128 .f32) (a1 : IVec S153600x512 32) (a2 : IVec S153728x128 32) (a3 a4 : FVec Ideal S154624 .f32) (a5 : FVec Ideal S153600 .f32)
  (a6 : IVec S520x153600 8) (a7 a8 a9 : FVec Ideal S1200x128 .f32)

theorem bytes (r : Fin 520) (n : Fin 153600) (h : (fn (F := Ideal) a0 a1 a2 a3 a4 a5 a6 a7 a8 a9).1 (ix2 r n) = 1#1) : r.val < 512 ∧ 40960 ≤ n.val ∧ n.val < 81920 := by
  have h' : IntOp.andi (IntOp.cmpi .slt (BitVec.ofNat 32 r.val) (BitVec.ofNat 32 512)) (IntOp.andi (IntOp.cmpi .sge (BitVec.ofNat 32 n.val) (BitVec.ofNat 32 40960)) (IntOp.cmpi .slt (BitVec.ofNat 32 n.val) (BitVec.ofNat 32 81920))) = 1#1 := by
    refine Eq.trans ?_ h
    show _ = (andi (cmpi .slt (iotaInDim S520x153600 32 0) (broadcastInDim S520x153600 ![] Facts.bcast_S_S520x153600 (constantI S_ 32 512#32))) (andi (cmpi .sge (iotaInDim S520x153600 32 1) (broadcastInDim S520x153600 ![] Facts.bcast_S_S520x153600 (constantI S_ 32 40960#32))) (cmpi .slt (iotaInDim S520x153600 32 1) (broadcastInDim S520x153600 ![] Facts.bcast_S_S520x153600 (constantI S_ 32 81920#32))))) (ix2 r n)
    pointwise
  have hk := and_both _ _ h'
  have hn := and_both _ _ hk.2
  exact ⟨slt_small _ _ (by omega) (by omega) hk.1, sge_small _ _ (by omega) (by omega) hn.1, slt_small _ _ (by omega) (by omega) hn.2⟩

theorem rows (r : Fin 1200) (l : Fin 128) (h : (fn (F := Ideal) a0 a1 a2 a3 a4 a5 a6 a7 a8 a9).2.1 (ix2 r l) = 1#1) : 320 ≤ r.val ∧ r.val < 640 := by
  have h' : IntOp.andi (IntOp.cmpi .sge (BitVec.ofNat 32 r.val) (BitVec.ofNat 32 320)) (IntOp.cmpi .slt (BitVec.ofNat 32 r.val) (BitVec.ofNat 32 640)) = 1#1 := by
    refine Eq.trans ?_ h
    show _ = (andi (cmpi .sge (iotaInDim S1200x128 32 0) (broadcastInDim S1200x128 ![] Facts.bcast_S_S1200x128 (constantI S_ 32 320#32))) (cmpi .slt (iotaInDim S1200x128 32 0) (broadcastInDim S1200x128 ![] Facts.bcast_S_S1200x128 (constantI S_ 32 640#32)))) (ix2 r l)
    pointwise
  have hk := and_both _ _ h'
  exact ⟨sge_small _ _ (by omega) (by omega) hk.1, slt_small _ _ (by omega) (by omega) hk.2⟩

theorem rows_bias (r : Fin 1200) (l : Fin 128) (h : (fn (F := Ideal) a0 a1 a2 a3 a4 a5 a6 a7 a8 a9).2.2.1 (ix2 r l) = 1#1) : 320 ≤ r.val ∧ r.val < 640 :=
  rows a0 a1 a2 a3 a4 a5 a6 a7 a8 a9 r l h

theorem rows_state (r : Fin 1200) (l : Fin 128) (h : (fn (F := Ideal) a0 a1 a2 a3 a4 a5 a6 a7 a8 a9).2.2.2 (ix2 r l) = 1#1) : 320 ≤ r.val ∧ r.val < 640 :=
  rows a0 a1 a2 a3 a4 a5 a6 a7 a8 a9 r l h

end Cert.On_written1.Mask
-- ==== Proof.Launch1.lean ====
/- The second launch: its reference's frame, and the two programs' equal results where its mask is set (hand part). -/
module

public import proofs.«01_k».proof.Defs
public import proofs.«01_k».proof.Proof.Arrays1
public import proofs.«01_k».proof.Proof.Mask1
public import Idealize.ShloMosaic.Adequacy
public import Idealize.ShloMosaic.Init

@[expose] public section

noncomputable section

namespace Cert.Proof.Launch1

open Idealize.ShloMosaic Idealize.ShloMosaic.TcCoe Idealize.SL.Sem

/-- The reference runs, keeps its arguments, and has no semaphore to leave nonzero. -/
theorem frame_reference : Cert.quiescent_Reference1Ideal := fun m g _ =>
  (θ_run Cert.Reference1Ideal.defs _ _).mono (fun r h => ⟨fun c => (h c).2.2.2.2, sem_eq_zero_of_no_sems (by decide) r.2⟩)
    (Cert.Reference1Ideal.Value.run (F := Ideal) m g)

section
variable (m : (ℓ : Loc Cert.Kernel1Ideal.nD Cert.Kernel1Ideal.τ Cert.Kernel1Ideal.sig) → Buf (Elt Ideal) ℓ)
  (m' : (ℓ : Loc Cert.Reference1Ideal.nD Cert.Reference1Ideal.τ Cert.Reference1Ideal.sig) → Buf (Elt Ideal) ℓ) (c : Dev Cert.Kernel1Ideal.nD)
  (h : m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9))
include h

/-- The two programs' rows are the same: their arguments agree. -/
theorem row_agree (n : Fin 40960) : Cert.Reference1Ideal.Rows.rowIn m' c n = Cert.Kernel1Ideal.Arrays.rowOf m c n := by
  unfold Cert.Reference1Ideal.Rows.rowIn Cert.Kernel1Ideal.Arrays.rowOf
  rw [h.1, h.2.1, h.2.2.1, h.2.2.2.1, h.2.2.2.2.1, h.2.2.2.2.2.1]

theorem bytes_agree (r : Fin 520) (hr : r.val < 512) (n : Fin 153600) (hn : 40960 ≤ n.val ∧ n.val < 81920) :
    Cert.Reference1Ideal.Value.res_main_v88 m' c (ix2 r n) = (Cert.Kernel1Ideal.Gen.dats m 0 c).arrAt 7 Cert.Kernel1Ideal.cfg0.N (ix2 r n) :=
  (Cert.Reference1Ideal.Rows.bytes_value m' c r hr n hn).trans
    ((congrArg (fun z => z.byte ⟨r.val, hr⟩) (row_agree m m' c h _)).trans (Cert.Kernel1Ideal.Arrays.bytes_final m c r hr n hn).symm)

theorem scale_agree (r : Fin 1200) (hr : 320 ≤ r.val ∧ r.val < 640) (l : Fin 128) :
    Cert.Reference1Ideal.Value.res_main_v90 m' c (ix2 r l) = (Cert.Kernel1Ideal.Gen.dats m 0 c).arrAt 8 Cert.Kernel1Ideal.cfg0.N (ix2 r l) :=
  (Cert.Reference1Ideal.Rows.scale_value m' c r hr l).trans
    ((congrArg (fun z => z.scale) (row_agree m m' c h _)).trans (Cert.Kernel1Ideal.Arrays.scale_final m c r hr l).symm)

theorem bias_agree (r : Fin 1200) (hr : 320 ≤ r.val ∧ r.val < 640) (l : Fin 128) :
    Cert.Reference1Ideal.Value.res_main_v92 m' c (ix2 r l) = (Cert.Kernel1Ideal.Gen.dats m 0 c).arrAt 9 Cert.Kernel1Ideal.cfg0.N (ix2 r l) :=
  (Cert.Reference1Ideal.Rows.bias_value m' c r hr l).trans
    ((congrArg (fun z => z.low) (row_agree m m' c h _)).trans (Cert.Kernel1Ideal.Arrays.bias_final m c r hr l).symm)

theorem state_agree (r : Fin 1200) (hr : 320 ≤ r.val ∧ r.val < 640) (l : Fin 128) :
    Cert.Reference1Ideal.Rows.res94 m' c (ix2 r l) = (Cert.Kernel1Ideal.Gen.dats m 0 c).arrAt 10 Cert.Kernel1Ideal.cfg0.N (ix2 r l) :=
  (Cert.Reference1Ideal.Rows.state_value m' c r hr l).trans
    ((congrArg (fun z => z.state) (row_agree m m' c h _)).trans (Cert.Kernel1Ideal.Arrays.state_final m c r hr l).symm)

end

/-- Where the mask is set the two programs' results are equal: both are the slot's row, updated. -/
theorem algebraic : Cert.algebraic_Kernel1Ideal_Reference1Ideal_on_written1 := by
  intro m g m' g' _ hagree
  refine ⟨fun c => (Cert.Kernel1Ideal.Gen.dats m 0 c).arrAt 7 Cert.Kernel1Ideal.cfg0.N, fun c => (Cert.Kernel1Ideal.Gen.dats m 0 c).arrAt 8 Cert.Kernel1Ideal.cfg0.N,
    fun c => (Cert.Kernel1Ideal.Gen.dats m 0 c).arrAt 9 Cert.Kernel1Ideal.cfg0.N, fun c => (Cert.Kernel1Ideal.Gen.dats m 0 c).arrAt 10 Cert.Kernel1Ideal.cfg0.N, ?_, ?_⟩
  · refine (θ_run Cert.Kernel1Ideal.defs _ _).mono (fun r h c => ?_) (Cert.Kernel1Ideal.Value.run_blocks (F := Ideal) m g)
    obtain ⟨h0, h1, h2, h3, hk⟩ := h c
    exact ⟨fun i _ => congrFun h0 i, fun i _ => congrFun h1 i, fun i _ => congrFun h2 i, fun i _ => congrFun h3 i, hk⟩
  · refine (θ_run Cert.Reference1Ideal.defs _ _).mono (fun r h c => ?_) (Cert.Reference1Ideal.Value.run (F := Ideal) m' g')
    obtain ⟨h0, h1, h2, h3, hk⟩ := h c
    refine ⟨fun i hi => (congrFun h0 i).trans ?_, fun i hi => (congrFun h1 i).trans ?_, fun i hi => (congrFun h2 i).trans ?_, fun i hi => (congrFun h3 i).trans ?_, hk⟩
    · rw [eq_ix2 i] at hi ⊢
      have hb := Cert.On_written1.Mask.bytes (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (i 0) (i 1) hi
      exact bytes_agree m m' c (hagree c) (i 0) hb.1 (i 1) hb.2
    · rw [eq_ix2 i] at hi ⊢
      exact scale_agree m m' c (hagree c) (i 0) (Cert.On_written1.Mask.rows (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (i 0) (i 1) hi) (i 1)
    · rw [eq_ix2 i] at hi ⊢
      exact bias_agree m m' c (hagree c) (i 0) (Cert.On_written1.Mask.rows_bias (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (i 0) (i 1) hi) (i 1)
    · rw [eq_ix2 i] at hi ⊢
      exact state_agree m m' c (hagree c) (i 0) (Cert.On_written1.Mask.rows_state (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5)) (m ((c.tc : Thread Cert.Kernel1Ideal.nD Cert.Kernel1Ideal.τ).loc Cert.Kernel1Ideal.main_arg6)) (m ((c.tc : Thread Cert.Kernel1Ideal.nD Cert.Kernel1Ideal.τ).loc Cert.Kernel1Ideal.main_arg7)) (m ((c.tc : Thread Cert.Kernel1Ideal.nD Cert.Kernel1Ideal.τ).loc Cert.Kernel1Ideal.main_arg8)) (m ((c.tc : Thread Cert.Kernel1Ideal.nD Cert.Kernel1Ideal.τ).loc Cert.Kernel1Ideal.main_arg9)) (i 0) (i 1) hi) (i 1)

end Cert.Proof.Launch1
-- ==== Proof.Trip2.lean ====
/- The third launch: what one trip of the kernel's loop stores, as the terms of `Spec.lean` (hand part). The run names each value a trip
   computes: both sides are unfolded to the operations, which agree. -/
module

public import proofs.«01_k».proof.Proof.Gen.Kernel2Ideal.Loops
public import proofs.«01_k».proof.Proof.Trip
public import Idealize.ShloMosaic.Lib.Pipeline.ReadBack
public import Idealize.ShloMosaic.Lib.Pipeline.Value

@[expose] public section

set_option maxRecDepth 16384

noncomputable section

namespace Cert.Kernel2Ideal.Trip

open Cert.Kernel2Ideal Cert.Kernel2Ideal.Gen Idealize.ShloMosaic Idealize.ShloMosaic.TcCoe Idealize.ShloMosaic.Tactic
open Cert.Proof.Update Cert.Kernel2Ideal.Gen.trip_k0_t1.sl

variable {F : FTy → Type} [FloatOps F]

/-- What trip `k` reads, of the blocks the launch staged. -/
def ins (x0 : Vec F S128x4x8x128 .f32) (x1 : Vec F S1024x512 .i32) (x2 : Vec F S1024x128 .i32) (x3 x4 x5 : Vec F S1x8x128 .f32)
    (k : Fin k0_t1_loop.trips) : Ins F where
  g := fun
    | 0 => fun p => View.ld x0 (Rect.unit (s := S128x4x8x128) (k0_off1 k (BitVec.ofNat 32 p.val)) S1x1x8x128.size (k0_off1_inb k p))
    | 1 => fun p => View.ld x0 (Rect.unit (s := S128x4x8x128) (k0_off2 k (BitVec.ofNat 32 p.val)) S1x1x8x128.size (k0_off2_inb k p))
    | 2 => fun p => View.ld x0 (Rect.unit (s := S128x4x8x128) (k0_off3 k (BitVec.ofNat 32 p.val)) S1x1x8x128.size (k0_off3_inb k p))
    | 3 => fun p => View.ld x0 (Rect.unit (s := S128x4x8x128) (k0_off4 k (BitVec.ofNat 32 p.val)) S1x1x8x128.size (k0_off4_inb k p))
  w := fun p => View.ld x2 (Rect.unit (s := S1024x128) (k0_off5 k (BitVec.ofNat 32 (8 * p.val))) S8x128.size (k0_off5_inb k p))
  r := fun
    | 0 => fun p => View.ld x1 (Rect.unit (s := S1024x512) (k0_off6 k (BitVec.ofNat 32 (8 * p.val))) S8x128.size (k0_off6_inb k p))
    | 1 => fun p => View.ld x1 (Rect.unit (s := S1024x512) (k0_off7 k (BitVec.ofNat 32 (8 * p.val))) S8x128.size (k0_off7_inb k p))
    | 2 => fun p => View.ld x1 (Rect.unit (s := S1024x512) (k0_off8 k (BitVec.ofNat 32 (8 * p.val))) S8x128.size (k0_off8_inb k p))
    | 3 => fun p => View.ld x1 (Rect.unit (s := S1024x512) (k0_off9 k (BitVec.ofNat 32 (8 * p.val))) S8x128.size (k0_off9_inb k p))
  sc := k0_pay4 0#32 1#32 k (View.ld x3 (Rect.unit (s := S1x8x128) ![0, 0, 0] S1x8x128.size inb_S1x8x128_S1x8x128_0_0_0))
  bi := k0_pay5 0#32 1#32 k (View.ld x4 (Rect.unit (s := S1x8x128) ![0, 0, 0] S1x8x128.size inb_S1x8x128_S1x8x128_0_0_0))
  mo := k0_pay6 0#32 1#32 k (View.ld x5 (Rect.unit (s := S1x8x128) ![0, 0, 0] S1x8x128.size inb_S1x8x128_S1x8x128_0_0_0))

/-- The staged blocks a trip reads: memrefs and what they hold. -/
structure Data (F : FTy → Type) [FloatOps F] where
  a1 : Memref sig .tc .vmem S128x4x8x128 .f32
  a2 : Memref sig .tc .vmem S1024x512 .i32
  a3 : Memref sig .tc .vmem S1024x128 .i32
  a4 : Memref sig .tc .vmem S1x8x128 .f32
  a5 : Memref sig .tc .vmem S1x8x128 .f32
  a6 : Memref sig .tc .vmem S1x8x128 .f32
  a7 : Memref sig .tc .vmem S256x512 .bf16
  x1 : BufTy.Contents (Elt F) a1.view.ty
  x2 : BufTy.Contents (Elt F) a2.view.ty
  x3 : BufTy.Contents (Elt F) a3.view.ty
  x4 : BufTy.Contents (Elt F) a4.view.ty
  x5 : BufTy.Contents (Elt F) a5.view.ty
  x6 : BufTy.Contents (Elt F) a6.view.ty
  x7 : BufTy.Contents (Elt F) a7.view.ty

def Data.J (D : Data F) (k : Fin k0_t1_loop.trips) : Ins F :=
  ins (D.a1.view.read (Elt F) D.x1) (D.a2.view.read (Elt F) D.x2) (D.a3.view.read (Elt F) D.x3) (D.a4.view.read (Elt F) D.x4)
    (D.a5.view.read (Elt F) D.x5) (D.a6.view.read (Elt F) D.x6) k

/-- The pair matrix. -/
def Data.pm (D : Data F) : FVec F S256x512 .bf16 :=
  View.ld (D.a7.view.read (Elt F) D.x7) (Rect.unit (s := S256x512) ![0, 0] S256x512.size inb_S256x512_S256x512_0_0)

/-- It reads as in the first launch. -/
theorem ins_eq (x0 : Vec F S128x4x8x128 .f32) (x1 : Vec F S1024x512 .i32) (x2 : Vec F S1024x128 .i32) (x3 x4 x5 : Vec F S1x8x128 .f32)
    (k : Fin k0_t1_loop.trips) : ins x0 x1 x2 x3 x4 x5 k = Cert.KernelIdeal.Trip.ins x0 x1 x2 x3 x4 x5 k := rfl

variable (D : Data F) (k : Fin k0_t1_loop.trips)

set_option maxHeartbeats 0 in
/-- The values the stores read. -/
theorem values :
    r_359 D.a1 D.a3 D.a4 D.a5 D.a6 D.x1 D.x3 D.x4 D.x5 D.x6 k = (upTo (D.J k).scale 16)
    ∧ r_360 D.a1 D.a3 D.a4 D.a5 D.a6 D.x1 D.x3 D.x4 D.x5 D.x6 k = (upTo (D.J k).bias 16)
    ∧ r_337 D.a1 D.a6 D.x1 D.x6 k = (upTo (D.J k).state 15)
    ∧ r_344 D.a1 D.a6 D.x1 D.x6 k = ((D.J k).state 15)
    ∧ r_361 D.a1 D.a2 D.a3 D.a4 D.a5 D.a6 D.a7 D.x1 D.x2 D.x3 D.x4 D.x5 D.x6 D.x7 k = (extractStridedSlice Sq ![0, 0] (pairs dot_S256x512_S128x512_S256x128_1_1_0_0_n_n D.pm (D.J k).codes) slices_lo)
    ∧ r_362 D.a1 D.a2 D.a3 D.a4 D.a5 D.a6 D.a7 D.x1 D.x2 D.x3 D.x4 D.x5 D.x6 D.x7 k = (extractStridedSlice Sq ![128, 0] (pairs dot_S256x512_S128x512_S256x128_1_1_0_0_n_n D.pm (D.J k).codes) slices_hi) := by
  dsimp only [
    r, r_1, r_2, r_3, r_4, r_5, r_6, r_7, r_8, r_9, r_10, r_11, r_12, r_13, r_14, r_15, r_16, r_17, r_18, r_19, r_20, r_21, r_22, r_23, r_24, r_25, r_26, r_27, r_28, r_29,
    r_30, r_31, r_32, r_33, r_34, r_35, r_36, r_37, r_38, r_39, r_40, r_41, r_42, r_43, r_44, r_45, r_46, r_47, r_48, r_49, r_50, r_51, r_52, r_53, r_54, r_55, r_56, r_57,
    r_58, r_59, r_60, r_61, r_62, r_63, r_64, r_65, r_66, r_67, r_68, r_69, r_70, r_71, r_72, r_73, r_74, r_75, r_76, r_77, r_78, r_79, r_80, r_81, r_82, r_83, r_84, r_85,
    r_86, r_87, r_88, r_89, r_90, r_91, r_92, r_93, r_94, r_95, r_96, r_97, r_98, r_99, r_100, r_101, r_102, r_103, r_104, r_105, r_106, r_107, r_108, r_109, r_110, r_111,
    r_112, r_113, r_114, r_115, r_116, r_117, r_118, r_119, r_120, r_121, r_122, r_123, r_124, r_125, r_126, r_127, r_128, r_129, r_130, r_131, r_132, r_133, r_134, r_135,
    r_136, r_137, r_138, r_139, r_140, r_141, r_142, r_143, r_144, r_145, r_146, r_147, r_148, r_149, r_150, r_151, r_152, r_153, r_154, r_155, r_156, r_157, r_158, r_159,
    r_160, r_161, r_162, r_163, r_164, r_165, r_166, r_167, r_168, r_169, r_170, r_171, r_172, r_173, r_174, r_175, r_176, r_177, r_178, r_179, r_180, r_181, r_182, r_183,
    r_184, r_185, r_186, r_187, r_188, r_189, r_190, r_191, r_192, r_193, r_194, r_195, r_196, r_197, r_198, r_199, r_200, r_201, r_202, r_203, r_204, r_205, r_206, r_207,
    r_208, r_209, r_210, r_211, r_212, r_213, r_214, r_215, r_216, r_217, r_218, r_219, r_220, r_221, r_222, r_223, r_224, r_225, r_226, r_227, r_228, r_229, r_230, r_231,
    r_232, r_233, r_234, r_235, r_236, r_237, r_238, r_239, r_240, r_241, r_242, r_243, r_244, r_245, r_246, r_247, r_248, r_249, r_250, r_251, r_252, r_253, r_254, r_255,
    r_256, r_257, r_258, r_259, r_260, r_261, r_262, r_263, r_264, r_265, r_266, r_267, r_268, r_269, r_270, r_271, r_272, r_273, r_274, r_275, r_276, r_277, r_278, r_279,
    r_280, r_281, r_282, r_283, r_284, r_285, r_286, r_287, r_288, r_289, r_290, r_291, r_292, r_293, r_294, r_295, r_296, r_297, r_298, r_299, r_300, r_301, r_302, r_303,
    r_304, r_305, r_306, r_307, r_308, r_309, r_310, r_311, r_312, r_313, r_314, r_315, r_316, r_317, r_318, r_319, r_320, r_321, r_322, r_323, r_324, r_325, r_326, r_327,
    r_328, r_329, r_330, r_331, r_332, r_333, r_334, r_335, r_336, r_337, r_338, r_339, r_340, r_341, r_342, r_343, r_344, r_345, r_346, r_347, r_348, r_349, r_350, r_351,
    r_352, r_353, r_354, r_355, r_356, r_357, r_358, r_359, r_360, r_361, r_362]
  dsimp only [
    k0_pay1, k0_pay2, k0_pay3, k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322,
    k0_pay323, k0_pay324, k0_pay325, k0_pay326, k0_pay327, k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347, k0_pay348, k0_pay349, k0_pay350, k0_pay351, k0_pay352,
    k0_pay353, k0_pay354, k0_pay355, k0_pay356, k0_pay357, k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377, k0_pay378, k0_pay379, k0_pay380, k0_pay381, k0_pay382,
    k0_pay383, k0_pay384, k0_pay385, k0_pay386, k0_pay387, k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425, col, wide, Ins.grad,
    Ins.state, Ins.mult, Ins.new, Ins.new0, Ins.new1, Ins.new2, Ins.new3, Ins.low, Ins.span, Ins.inv, Ins.code, Ins.code0, Ins.code1, Ins.code2, Ins.code3, Ins.codes,
    Ins.scale, Ins.bias, diag, own, upTo, fold8, stack, pairs, bytes, Data.J, ins]
  exact ⟨rfl, rfl, rfl, rfl, rfl, rfl⟩

/-- The three rows a trip stores: each a tile merged over the sixteen groups and its sublanes added. -/
theorem pay_scale : k0_pay419 (upTo (D.J k).scale 16) = fold8 (upTo (D.J k).scale 16) := rfl
theorem pay_bias : k0_pay420 (upTo (D.J k).bias 16) = fold8 (upTo (D.J k).bias 16) := rfl
theorem pay_state : k0_pay421 (upTo (D.J k).state 15) ((D.J k).state 15) (k0_pay416 k0_pay1) = fold8 (upTo (D.J k).state 16) := rfl
theorem pay_bytes : k0_pay2 (extractStridedSlice Sq ![0, 0] (pairs dot_S256x512_S128x512_S256x128_1_1_0_0_n_n D.pm (D.J k).codes) slices_lo)
    (extractStridedSlice Sq ![128, 0] (pairs dot_S256x512_S128x512_S256x128_1_1_0_0_n_n D.pm (D.J k).codes) slices_hi) k0_pay425 = bytes (pairs dot_S256x512_S128x512_S256x128_1_1_0_0_n_n D.pm (D.J k).codes) := rfl

theorem trip_scale (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.1 = [⟨Rect.unit (s := S8x128) (k0_off10 k) S1x128.size (k0_off10_inb k), fold8 (upTo (D.J k).scale 16)⟩] := by
  unfold trip_k0_t1; dsimp only
  rw [(values D k).1, pay_scale D k]

theorem trip_bias (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.1 = [⟨Rect.unit (s := S8x128) (k0_off10 k) S1x128.size (k0_off10_inb k), fold8 (upTo (D.J k).bias 16)⟩] := by
  unfold trip_k0_t1; dsimp only
  rw [(values D k).2.1, pay_bias D k]

theorem trip_state (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.2.1 = [⟨Rect.unit (s := S8x128) (k0_off10 k) S1x128.size (k0_off10_inb k), fold8 (upTo (D.J k).state 16)⟩] := by
  unfold trip_k0_t1; dsimp only
  rw [(values D k).2.2.1, (values D k).2.2.2.1, pay_state D k]

theorem trip_bytes (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).1 = [⟨Rect.unit (s := S520x1024) (k0_off12 k) S8x128.size (k0_off12_inb k), k0_pay3⟩,
      ⟨Rect.unit (s := S520x1024) (k0_off11 k) S512x128.size (k0_off11_inb k), bytes (pairs dot_S256x512_S128x512_S256x128_1_1_0_0_n_n D.pm (D.J k).codes)⟩] := by
  unfold trip_k0_t1; dsimp only
  rw [(values D k).2.2.2.2.1, (values D k).2.2.2.2.2, pay_bytes D k]

end Cert.Kernel2Ideal.Trip
-- ==== Proof.Block2.lean ====
/- The third launch: what it leaves in a block of each result, row by row of the blocks it reads (hand part). -/
module

public import proofs.«01_k».proof.Proof.Gen.Kernel2Ideal.Frame
public import proofs.«01_k».proof.Proof.Trip2
public import proofs.«01_k».proof.Proof.Block
public import Idealize.ShloMosaic.Lib.Pipeline.CanonAppend

@[expose] public section

set_option maxRecDepth 16384

noncomputable section

namespace Cert.Kernel2Ideal.Block

open Cert.Kernel2Ideal Cert.Kernel2Ideal.Gen Idealize.ShloMosaic Idealize.ShloMosaic.TcCoe
open Cert.Proof.Update Cert.Kernel2Ideal.Trip
open Cert.KernelIdeal.Block (rowAt emb_unit ld_at idx_row fold_scale fold_bias fold_state byteOf bytes_pairs)

theorem off10 : ∀ k : Fin k0_t1_loop.trips, k0_off10 k = ![k.val, 0] := by decide +kernel
theorem off11 : ∀ k : Fin k0_t1_loop.trips, k0_off11 k = ![0, 128 * k.val] := by decide +kernel
theorem off12 : ∀ k : Fin k0_t1_loop.trips, k0_off12 k = ![512, 128 * k.val] := by decide +kernel
theorem trips8 (k : Fin k0_t1_loop.trips) : k.val < 8 := k.isLt

section
variable (c : Dev nD) (i : grid0.Coords) (arg1 : Memref sig .tc .vmem S128x4x8x128 .f32) (harg1 : arg1.IsWhole) (arg2 : Memref sig .tc .vmem S1024x512 .i32) (harg2 : arg2.IsWhole) (arg3 : Memref sig .tc .vmem S1024x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S256x512 .bf16) (harg7 : arg7.IsWhole) (arg12 : Memref sig .tc .vmem S520x1024 .i8) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole)
  (x0 : Vec Ideal S128x4x8x128 .f32) (x1 : Vec Ideal S1024x512 .i32) (x2 : Vec Ideal S1024x128 .i32) (x3 x4 x5 : Vec Ideal S1x8x128 .f32) (x6 : Vec Ideal S256x512 .bf16)

/-- The blocks staged, as a trip reads them. -/
def data : Data Ideal := ⟨arg1, arg2, arg3, arg4, arg5, arg6, arg7, harg1.unread x0, harg2.unread x1, harg3.unread x2, harg4.unread x3, harg5.unread x4, harg6.unread x5, harg7.unread x6⟩

theorem data_J (k : Fin k0_t1_loop.trips) : (data arg1 harg1 arg2 harg2 arg3 harg3 arg4 harg4 arg5 harg5 arg6 harg6 arg7 harg7 x0 x1 x2 x3 x4 x5 x6).J k = Cert.KernelIdeal.Trip.ins x0 x1 x2 x3 x4 x5 k := by
  unfold Data.J data
  dsimp only
  rw [harg1.read_unread, harg2.read_unread, harg3.read_unread, harg4.read_unread, harg5.read_unread, harg6.read_unread, ins_eq]

theorem data_pm : (data arg1 harg1 arg2 harg2 arg3 harg3 arg4 harg4 arg5 harg5 arg6 harg6 arg7 harg7 x0 x1 x2 x3 x4 x5 x6).pm = x6 := by
  unfold Data.pm data
  dsimp only
  rw [harg7.read_unread]
  funext j
  refine ld_at (s := S256x512) x6 _ _ _ _ _ ![0, 0] rfl fun a => ?_
  match a with
  | ⟨0, _⟩ => show (j 0).val = 0 + (j 0).val; omega
  | ⟨1, _⟩ => show (j 1).val = 0 + (j 1).val; omega

theorem mem_bytes (q : View.Piece (Elt Ideal) S520x1024 .i8) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bytes (hpm : IsPairs x6) (r : Fin 520) (hr : r.val < 512) (n : Fin 1024) :
    out0_A_7 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 r n) = (rowAt x0 x1 x2 x3 x4 x5 n).byte ⟨r.val, hr⟩ := by
  have hc := cover0_A_7 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_7
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).1)]
  refine (View.canon_append_of_pieces (fun y : S520x1024.Idx => byteOf x0 x1 x2 x3 x4 x5 (y 0) (y 1)) [] _ ?_ _ (hc _)).trans (dif_pos hr)
  intro q hq
  obtain ⟨t, ht⟩ := mem_bytes c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bytes (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J, data_pm] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).1 = _ from T] at ht'
  have ht8 := trips8 t
  rcases List.mem_cons.mp ht' with rfl | ht'
  · intro x
    refine Eq.trans ?_ (dif_neg ?_).symm
    · rfl
    · rw [emb_unit, congrFun (off12 t) 0]; show ¬ (512 + (x 0).val < 512); omega
  · obtain rfl := List.mem_singleton.mp ht'
    intro x
    have e0 : (((Rect.unit (s := S520x1024) (k0_off11 t) S512x128.size (k0_off11_inb t)).emb x 0 : Fin 520)).val = (x 0).val := by
      rw [emb_unit, congrFun (off11 t) 0]; show 0 + (x 0).val = (x 0).val; omega
    have e1 : (((Rect.unit (s := S520x1024) (k0_off11 t) S512x128.size (k0_off11_inb t)).emb x 1 : Fin 1024)).val = 128 * t.val + (x 1).val := by
      rw [emb_unit, congrFun (off11 t) 1]; rfl
    have hx0 : (x 0).val < 512 := (x 0).isLt
    refine Eq.trans ?_ (dif_pos (by rw [e0]; exact hx0)).symm
    refine (congrArg _ (eq_ix2 x)).trans ((bytes_pairs x0 x1 x2 x3 x4 x5 t x6 hpm (x 0) (x 1)).trans ?_)
    exact congrArg₂ (fun z b => (rowAt x0 x1 x2 x3 x4 x5 z).byte b) (Fin.ext e1.symm) (Fin.ext e0.symm)

theorem mem_scale (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_scale (k : Fin 8) (l : Fin 128) :
    out0_A_8 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).scale := by
  have hc := cover0_A_8 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_8
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).scale) [] _ ?_ _ (hc _)
  intro q hq
  obtain ⟨t, ht⟩ := mem_scale c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_scale (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_scale x0 x1 x2 x3 x4 x5 t (x 1)).trans ?_)
  exact congrArg (fun z => (rowAt x0 x1 x2 x3 x4 x5 z).scale) (Fin.ext (by dsimp only; rw [e0, e1]))

theorem mem_bias (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bias (k : Fin 8) (l : Fin 128) :
    out0_A_9 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).low := by
  have hc := cover0_A_9 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_9
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).low) [] _ ?_ _ (hc _)
  intro q hq
  obtain ⟨t, ht⟩ := mem_bias c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bias (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_bias x0 x1 x2 x3 x4 x5 t (x 1)).trans ?_)
  exact congrArg (fun z => (rowAt x0 x1 x2 x3 x4 x5 z).low) (Fin.ext (by dsimp only; rw [e0, e1]))

theorem mem_state (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.2) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_state (k : Fin 8) (l : Fin 128) :
    out0_A_10 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).state := by
  have hc := cover0_A_10 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_10
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).state) [] _ ?_ _ (hc _)
  intro q hq
  obtain ⟨t, ht⟩ := mem_state c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_state (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_state x0 x1 x2 x3 x4 x5 t (x 1)).trans ?_)
  exact congrArg (fun z => (rowAt x0 x1 x2 x3 x4 x5 z).state) (Fin.ext (by dsimp only; rw [e0, e1]))

end

end Cert.Kernel2Ideal.Block
-- ==== Proof.Reference2.lean ====
/- The third launch: the reference's results, read at an index: each slot's row of the arguments, updated as `Row.lean` says (hand part). -/
module

public import proofs.«01_k».proof.Proof.Gen.Reference2Ideal.Run
public import proofs.«01_k».proof.Proof.Reference
public import Idealize.ShloMosaic.Lib.KernelVsHost
public import Idealize.ShloMosaic.Lib.Pointwise
public import Idealize.ShloMosaic.Lib.Pipeline.Value

@[expose] public section

set_option maxRecDepth 16384

noncomputable section

namespace Cert.Reference2Ideal.Rows

open Cert.Reference2Ideal Cert.Reference2Ideal.Gen Idealize.ShloMosaic Idealize.ShloMosaic.TcCoe
open Cert.Proof.Update
open Cert.ReferenceIdeal.Rows (byte_number)

def grads (a0 : FVec Ideal S4480x4x8x128 .f32) : FVec Ideal S35840x512 .f32 :=
  shapeCast _ (transpose S4480x8x4x128 [0, 2, 1, 3] a0 transposes_S4480x4x8x128_S4480x8x4x128_0_2_1_3) shapeCasts_S4480x8x4x128_S35840x512

def plane (a2 : Vec Ideal S153728x128 .i32) (sh : BitVec 32) : Vec Ideal S35840x1x128 .i32 :=
  broadcastInDim S35840x1x128 ![0, 2] bcast_S35840x128_S35840x1x128_0_2 (andi (Host.shrui (extractStridedSlice S35840x128 ![81920, 0] a2 slices_S153728x128_S35840x128_81920_0) (broadcastInDim S35840x128 ![] bcast_S_S35840x128 (constantI S_ 32 sh))) (broadcastInDim S35840x128 ![] bcast_S_S35840x128 (constantI S_ 32 255#32)))

def planes (x0 x1 x2 x3 : Vec Ideal S35840x1x128 .i32) : Vec Ideal S35840x4x128 .i32 :=
  concatenate S35840x4x128 1 [⟨S35840x1x128, x0⟩, ⟨S35840x1x128, x1⟩, ⟨S35840x1x128, x2⟩, ⟨S35840x1x128, x3⟩] concatenates_S35840x1x128_S35840x1x128_S35840x1x128_S35840x1x128_S35840x4x128_d1

def words (a2 : Vec Ideal S153728x128 .i32) : Vec Ideal S35840x512 .i32 :=
  shapeCast _ (planes (plane a2 0#32) (plane a2 8#32) (plane a2 16#32) (plane a2 24#32)) shapeCasts_S35840x4x128_S35840x512

def scales (a3 : FVec Ideal S154624 .f32) : FVec Ideal S35840 .f32 :=
  extractStridedSlice S35840 ![81920] (shapeCast _ (transpose S151x128x8 [0, 2, 1] (shapeCast _ a3 shapeCasts_S154624_S151x8x128) transposes_S151x8x128_S151x128x8_0_2_1) shapeCasts_S151x128x8_S154624) slices_S154624_S35840_81920

def sums (a5 : FVec Ideal S153600 .f32) : FVec Ideal S35840 .f32 :=
  extractStridedSlice S35840 ![81920] (shapeCast _ (transpose S150x128x8 [0, 2, 1] (shapeCast _ a5 shapeCasts_S153600_S150x8x128) transposes_S150x8x128_S150x128x8_0_2_1) shapeCasts_S150x128x8_S153600) slices_S153600_S35840_81920

def states (a0 : FVec Ideal S4480x4x8x128 .f32) (a5 : FVec Ideal S153600 .f32) : FVec Ideal S35840 .f32 :=
  addf (sums a5) (Host.divf (Host.reduceAdd (mulf (grads a0) (grads a0)) (constant (F := Ideal) S_ .f32 0x00000000#32) reducesTo_S35840x512_S35840_d1 h_S_) (broadcastInDim S35840 ![] bcast_S_S35840 (constant (F := Ideal) S_ .f32 0x44000000#32)))

def mults (a0 : FVec Ideal S4480x4x8x128 .f32) (a5 : FVec Ideal S153600 .f32) : FVec Ideal S35840 .f32 :=
  Host.divf (broadcastInDim S35840 ![] bcast_S_S35840 (constant (F := Ideal) S_ .f32 0x3CA3D70A#32)) (addf (Host.sqrt (states a0 a5)) (broadcastInDim S35840 ![] bcast_S_S35840 (constant (F := Ideal) S_ .f32 0x322BCC77#32)))

def news (a0 : FVec Ideal S4480x4x8x128 .f32) (a2 : IVec S153728x128 32) (a3 : FVec Ideal S154624 .f32) (a4 : FVec Ideal S154624 .f32) (a5 : FVec Ideal S153600 .f32) : FVec Ideal S35840x512 .f32 :=
  subf (addf (mulf (sitofp .f32 (words a2)) (broadcastInDim S35840x512 ![0, 1] bcast_S35840x1_S35840x512_0_1 (broadcastInDim S35840x1 ![0] bcast_S35840_S35840x1_0 (scales a3)))) (broadcastInDim S35840x512 ![0, 1] bcast_S35840x1_S35840x512_0_1 (broadcastInDim S35840x1 ![0] bcast_S35840_S35840x1_0 (scales a4)))) (mulf (broadcastInDim S35840x512 ![0, 1] bcast_S35840x1_S35840x512_0_1 (broadcastInDim S35840x1 ![0] bcast_S35840_S35840x1_0 (mults a0 a5))) (grads a0))

def lows (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.reduce FloatOps.minimumf (news a0 a2 a3 a4 a5) (constant (F := Ideal) S_ .f32 0x7F800000#32) reducesTo_S35840x512_S35840_d1 h_S_

def highs (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.reduce FloatOps.maximumf (news a0 a2 a3 a4 a5) (constant (F := Ideal) S_ .f32 0xFF800000#32) reducesTo_S35840x512_S35840_d1 h_S_

def spans (a0 : FVec Ideal S4480x4x8x128 .f32) (a2 : IVec S153728x128 32) (a3 : FVec Ideal S154624 .f32) (a4 : FVec Ideal S154624 .f32) (a5 : FVec Ideal S153600 .f32) : FVec Ideal S35840 .f32 :=
  subf (highs a0 a2 a3 a4 a5) (lows a0 a2 a3 a4 a5)

def invs (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.divf (broadcastInDim S35840 ![] bcast_S_S35840 (constant (F := Ideal) S_ .f32 0x437F0000#32)) (addf (spans a0 a2 a3 a4 a5) (broadcastInDim S35840 ![] bcast_S_S35840 (constant (F := Ideal) S_ .f32 0x322BCC77#32)))

def noises (a1 : IVec S153600x512 32) : FVec Ideal S35840x512 .f32 :=
  mulf (uitofp .f32 (Host.shrui (extractStridedSlice S35840x512 ![81920, 0] a1 slices_S153600x512_S35840x512_81920_0) (broadcastInDim S35840x512 ![] bcast_S_S35840x512 (constantI S_ 32 8#32)))) (broadcastInDim S35840x512 ![] bcast_S_S35840x512 (constant (F := Ideal) S_ .f32 0x33800000#32))

def codes (a0 : FVec Ideal S4480x4x8x128 .f32) (a1 : IVec S153600x512 32) (a2 : IVec S153728x128 32) (a3 : FVec Ideal S154624 .f32) (a4 : FVec Ideal S154624 .f32) (a5 : FVec Ideal S153600 .f32) : FVec Ideal S35840x512 .f32 :=
  minimumf (broadcastInDim S35840x512 ![] bcast_S_S35840x512 (id (constant (F := Ideal) S_ .f32 0x437F0000#32))) (maximumf (broadcastInDim S35840x512 ![] bcast_S_S35840x512 (id (constant (F := Ideal) S_ .f32 0x00000000#32))) (Host.floor (addf (mulf (subf (news a0 a2 a3 a4 a5) (broadcastInDim S35840x512 ![0, 1] bcast_S35840x1_S35840x512_0_1 (broadcastInDim S35840x1 ![0] bcast_S35840_S35840x1_0 (lows a0 a2 a3 a4 a5)))) (broadcastInDim S35840x512 ![0, 1] bcast_S35840x1_S35840x512_0_1 (broadcastInDim S35840x1 ![0] bcast_S35840_S35840x1_0 (invs a0 a2 a3 a4 a5)))) (noises a1))))

variable (a0 : FVec Ideal S4480x4x8x128 .f32) (a1 : IVec S153600x512 32) (a2 : IVec S153728x128 32) (a3 a4 : FVec Ideal S154624 .f32) (a5 : FVec Ideal S153600 .f32)

/-- Slot `n` of the launch, as a row of the arguments. -/
def rowOf (n : Fin 35840) : Row where
  g := fun c => a0 (ix4 ⟨n.val / 8, by omega⟩ ⟨c.val / 128, by omega⟩ ⟨n.val % 8, by omega⟩ ⟨c.val % 128, by omega⟩)
  q := fun c => oldCode (a2 (ix2 ⟨81920 + n.val, by omega⟩ ⟨c.val % 128, by omega⟩)) ⟨c.val / 128, by omega⟩
  u := fun c => noise (a1 (ix2 ⟨81920 + n.val, by omega⟩ c))
  s := a3 (ix1 ⟨1024 * ((81920 + n.val) / 1024) + 128 * ((81920 + n.val) % 8) + (81920 + n.val) % 1024 / 8, by omega⟩)
  b := a4 (ix1 ⟨1024 * ((81920 + n.val) / 1024) + 128 * ((81920 + n.val) % 8) + (81920 + n.val) % 1024 / 8, by omega⟩)
  m := a5 (ix1 ⟨1024 * ((81920 + n.val) / 1024) + 128 * ((81920 + n.val) % 8) + (81920 + n.val) % 1024 / 8, by omega⟩)

variable (n : Fin 35840) (c : Fin 512)
theorem grads_apply : grads a0 (ix2 n c) = (rowOf a0 a1 a2 a3 a4 a5 n).g c := by
  pointwise [grads]
  (try rfl)

theorem scales_apply : scales a3 (ix1 n) = (rowOf a0 a1 a2 a3 a4 a5 n).s := by
  pointwise [scales]
  exact congrArg (fun z => a3 (ix1 z)) (Fin.ext (by dsimp only; omega))

theorem biases_apply : scales a4 (ix1 n) = (rowOf a0 a1 a2 a3 a4 a5 n).b := by
  pointwise [scales]
  exact congrArg (fun z => a4 (ix1 z)) (Fin.ext (by dsimp only; omega))

theorem sums_apply : sums a5 (ix1 n) = (rowOf a0 a1 a2 a3 a4 a5 n).m := by
  pointwise [sums]
  exact congrArg (fun z => a5 (ix1 z)) (Fin.ext (by dsimp only; omega))

theorem plane_apply (sh : BitVec 32) (n : Fin 35840) (l : Fin 128) :
    plane a2 sh (ix3 n 0 l) = IntOp.andi (IntOp.shrui ArithUnit.host (a2 (ix2 ⟨81920 + n.val, by omega⟩ l)) sh) 255#32 := by
  pointwise [plane]

theorem planes_apply (x : Fin 4 → Vec Ideal S35840x1x128 .i32) (n : Fin 35840) (m : Fin 4) (l : Fin 128) :
    planes (x 0) (x 1) (x 2) (x 3) (ix3 n m l) = x m (ix3 n 0 l) := by
  refine concatenate_ofFn_apply (t := S35840x4x128) (s₁ := S35840x1x128) 1 (N := 4) x _ rfl 1 rfl (ix3 n m l) m (by show m.val / 1 = m.val; omega)
    (ix3 n 0 l) (by show 0 = m.val % 1; omega) fun b hb => ?_
  match b with
  | ⟨0, _⟩ => rfl
  | ⟨1, _⟩ => exact absurd rfl hb
  | ⟨2, _⟩ => rfl

theorem words_apply : FloatOps.sitofp (F := Ideal) .f32 (words a2 (ix2 n c)) = (rowOf a0 a1 a2 a3 a4 a5 n).q c := by
  pointwise [words]
  have h := planes_apply (fun m => plane a2 (BitVec.ofNat 32 (8 * m.val))) n ⟨c.val / 128, by omega⟩ ⟨c.val % 128, by omega⟩
  refine (congrArg (FloatOps.sitofp (F := Ideal) .f32) (h.trans (plane_apply a2 _ n _))).trans ?_
  exact byte_number _ ⟨c.val / 128, by omega⟩ _ rfl

theorem states_apply : states a0 a5 (ix1 n) = (rowOf a0 a1 a2 a3 a4 a5 n).state := by
  pointwise [states, sums_apply a0 a1 a2 a3 a4 a5 n, grads_apply a0 a1 a2 a3 a4 a5 n]
  rfl

theorem mults_apply : mults a0 a5 (ix1 n) = (rowOf a0 a1 a2 a3 a4 a5 n).mult := by
  pointwise [mults, states_apply a0 a1 a2 a3 a4 a5 n]
  rfl

theorem news_apply : news a0 a2 a3 a4 a5 (ix2 n c) = (rowOf a0 a1 a2 a3 a4 a5 n).new c := by
  pointwise [news, mults_apply a0 a1 a2 a3 a4 a5 n, scales_apply a0 a1 a2 a3 a4 a5 n, biases_apply a0 a1 a2 a3 a4 a5 n, grads_apply a0 a1 a2 a3 a4 a5 n]
  rw [words_apply a0 a1 a2 a3 a4 a5 n c]
  rfl

theorem lows_apply : lows a0 a2 a3 a4 a5 (ix1 n) = (rowOf a0 a1 a2 a3 a4 a5 n).low := by
  pointwise [lows, news_apply a0 a1 a2 a3 a4 a5 n]
  exact fold_min _

theorem highs_apply : highs a0 a2 a3 a4 a5 (ix1 n) = (rowOf a0 a1 a2 a3 a4 a5 n).high := by
  pointwise [highs, news_apply a0 a1 a2 a3 a4 a5 n]
  exact fold_max _

theorem sub_at (x y : FVec Ideal S35840 .f32) (n : Fin 35840) : subf x y (ix1 n) = x (ix1 n) - y (ix1 n) := rfl

theorem spans_apply : spans a0 a2 a3 a4 a5 (ix1 n) = (rowOf a0 a1 a2 a3 a4 a5 n).span := by
  unfold spans
  rw [sub_at, highs_apply a0 a1 a2 a3 a4 a5 n, lows_apply a0 a1 a2 a3 a4 a5 n]
  exact (Row.span.eq_1 _).symm

theorem inv_at (x : FVec Ideal S35840 .f32) (n : Fin 35840) :
    Host.divf (broadcastInDim S35840 ![] bcast_S_S35840 (constant (F := Ideal) S_ .f32 0x437F0000#32)) (addf x (broadcastInDim S35840 ![] bcast_S_S35840 (constant (F := Ideal) S_ .f32 0x322BCC77#32))) (ix1 n)
      = Ideal.div (Ideal.ofBits .f32 0x437F0000#32) (x (ix1 n) + Ideal.ofBits .f32 0x322BCC77#32) := by
  pointwise

theorem scale_at (x : FVec Ideal S35840 .f32) (n : Fin 35840) :
    Host.divf x (broadcastInDim S35840 ![] bcast_S_S35840 (constant (F := Ideal) S_ .f32 0x437F0000#32)) (ix1 n)
      = Ideal.div (x (ix1 n)) (Ideal.ofBits .f32 0x437F0000#32) := by
  pointwise

theorem invs_apply : invs a0 a2 a3 a4 a5 (ix1 n) = (rowOf a0 a1 a2 a3 a4 a5 n).inv := by
  unfold invs
  rw [inv_at, spans_apply a0 a1 a2 a3 a4 a5 n]
  exact (Row.inv.eq_1 _).symm

theorem noises_apply : noises a1 (ix2 n c) = (rowOf a0 a1 a2 a3 a4 a5 n).u c := by
  pointwise [noises]
  show _ = noise _
  unfold noise IntOp.shrui
  rw [if_pos (by decide)]
  rfl

theorem codes_apply : codes a0 a1 a2 a3 a4 a5 (ix2 n c) = (rowOf a0 a1 a2 a3 a4 a5 n).code c := by
  pointwise [codes, news_apply a0 a1 a2 a3 a4 a5 n, invs_apply a0 a1 a2 a3 a4 a5 n, noises_apply a0 a1 a2 a3 a4 a5 n, lows_apply a0 a1 a2 a3 a4 a5 n]
  rfl

/-- An array of one value per slot read back in rows of 128 lanes, a padded one at a slot of the launch, and the padded array of codes. -/
theorem cast_at (y : FVec Ideal S153600 .f32) (r : Fin 1200) (l : Fin 128) :
    shapeCast S1200x128 y shapeCasts_S153600_S1200x128 (ix2 r l) = y (ix1 ⟨128 * r.val + l.val, by omega⟩) := by
  pointwise
  exact congrArg (fun z => y (ix1 z)) (Fin.ext (by dsimp only; omega))

theorem pad_at (x : FVec Ideal S35840 .f32) (z : FVec Ideal S_ .f32) (j : Fin 153600) (hj : 81920 ≤ j.val ∧ j.val < 117760) :
    pad S153600 ![81920] ![35840] ![0] x z pads_S35840_S153600_81920358400 h_S_ (ix1 j) = x (ix1 ⟨j.val - 81920, by omega⟩) := by
  refine pad_apply_of_inside _ _ _ x z _ _ _ (ix1 ⟨j.val - 81920, by omega⟩) fun a => ?_
  match a with
  | ⟨0, _⟩ => show j.val = 81920 + (j.val - 81920) * (0 + 1); omega

theorem lane_at (x : FVec Ideal S35840 .f32) (z : FVec Ideal S_ .f32) (r : Fin 1200) (hr : 640 ≤ r.val ∧ r.val < 920) (l : Fin 128) :
    shapeCast S1200x128 (pad S153600 ![81920] ![35840] ![0] x z pads_S35840_S153600_81920358400 h_S_) shapeCasts_S153600_S1200x128 (ix2 r l)
      = x (ix1 ⟨128 * r.val + l.val - 81920, by omega⟩) :=
  (cast_at _ r l).trans (pad_at x z _ (by dsimp only; omega))

theorem byte_at (x : IVec S35840x512 8) (z : IVec S_ 8) (r : Fin 520) (hr : r.val < 512) (n : Fin 153600) (hn : 81920 ≤ n.val ∧ n.val < 117760) :
    pad S520x153600 ![0, 81920] ![8, 35840] ![0, 0] (transpose S512x35840 [1, 0] x transposes_S35840x512_S512x35840_1_0) z pads_S512x35840_S520x153600_080_81920358400 h_S_ (ix2 r n)
      = x (ix2 ⟨n.val - 81920, by omega⟩ ⟨r.val, hr⟩) := by
  refine (pad_apply_of_inside _ _ _ _ z _ _ _ (ix2 (⟨r.val, hr⟩ : Fin 512) ⟨n.val - 81920, by omega⟩) fun a => ?_).trans ?_
  · match a with
    | ⟨0, _⟩ => show r.val = 0 + r.val * (0 + 1); omega
    | ⟨1, _⟩ => show n.val = 81920 + (n.val - 81920) * (0 + 1); omega
  · pointwise

end Cert.Reference2Ideal.Rows

namespace Cert.Reference2Ideal.Rows

open Cert.Reference2Ideal Cert.Reference2Ideal.Gen Idealize.ShloMosaic Idealize.ShloMosaic.TcCoe
open Cert.Proof.Update

variable (m : (ℓ : Loc nD τ sig) → Buf (Elt Ideal) ℓ) (c : Dev nD)
/-- Slot `n`'s row of the arguments in memory. -/
def rowIn (n : Fin 35840) : Row := rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n

theorem res90 : Value.res_main_v90 m c = shapeCast S1200x128 (pad S153600 ![81920] ![35840] ![0] (Host.divf (spans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (broadcastInDim S35840 ![] bcast_S_S35840 (constant (F := Ideal) S_ .f32 0x437F0000#32))) (sitofp .f32 (constantI S_ 32 0#32)) pads_S35840_S153600_81920358400 h_S_) shapeCasts_S153600_S1200x128 := by
  unfold Value.res_main_v90
  rfl
theorem res92 : Value.res_main_v92 m c = shapeCast S1200x128 (pad S153600 ![81920] ![35840] ![0] (lows (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (sitofp .f32 (constantI S_ 32 0#32)) pads_S35840_S153600_81920358400 h_S_) shapeCasts_S153600_S1200x128 := by
  unfold Value.res_main_v92
  rfl
theorem res88 : Value.res_main_v88 m c = pad S520x153600 ![0, 81920] ![8, 35840] ![0, 0] (transpose S512x35840 [1, 0] (trunci 8 (fptosi 32 (codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) natLt_8_32) transposes_S35840x512_S512x35840_1_0) (trunci 8 (constantI S_ 32 0#32) natLt_8_32) pads_S512x35840_S520x153600_080_81920358400 h_S_ := by
  unfold Value.res_main_v88
  rfl
theorem bytes_value (r : Fin 520) (hr : r.val < 512) (n : Fin 153600) (hn : 81920 ≤ n.val ∧ n.val < 117760) :
    Value.res_main_v88 m c (ix2 r n) = (rowIn m c ⟨n.val - 81920, by omega⟩).byte ⟨r.val, hr⟩ := by
  rw [res88, byte_at _ _ r hr n hn]
  show (Ideal.fptosi 32 (codes _ _ _ _ _ _ (ix2 ⟨n.val - 81920, by omega⟩ ⟨r.val, hr⟩))).setWidth 8 = _
  rw [codes_apply]
  rfl

theorem scale_value (r : Fin 1200) (hr : 640 ≤ r.val ∧ r.val < 920) (l : Fin 128) :
    Value.res_main_v90 m c (ix2 r l) = (rowIn m c ⟨128 * r.val + l.val - 81920, by omega⟩).scale := by
  rw [res90, lane_at _ _ r hr l, scale_at, spans_apply (a1 := m ((c.tc : Thread nD τ).loc main_arg1))]
  exact (Row.scale.eq_1 _).symm

theorem bias_value (r : Fin 1200) (hr : 640 ≤ r.val ∧ r.val < 920) (l : Fin 128) :
    Value.res_main_v92 m c (ix2 r l) = (rowIn m c ⟨128 * r.val + l.val - 81920, by omega⟩).low := by
  rw [res92, lane_at _ _ r hr l, lows_apply (a1 := m ((c.tc : Thread nD τ).loc main_arg1))]
  rfl

/-- The accumulators as the reference leaves them. -/
def res94 : FVec Ideal S1200x128 .f32 :=
  shapeCast S1200x128 (pad S153600 ![81920] ![35840] ![0] (states (m ((c.tc : Thread nD τ).loc main_arg0)) (m ((c.tc : Thread nD τ).loc main_arg5))) (sitofp .f32 (constantI S_ 32 0#32)) pads_S35840_S153600_81920358400 h_S_) shapeCasts_S153600_S1200x128

theorem state_value (r : Fin 1200) (hr : 640 ≤ r.val ∧ r.val < 920) (l : Fin 128) :
    res94 m c (ix2 r l) = (rowIn m c ⟨128 * r.val + l.val - 81920, by omega⟩).state := by
  unfold res94
  rw [lane_at _ _ r hr l, states_apply (a1 := m ((c.tc : Thread nD τ).loc main_arg1)) (a2 := m ((c.tc : Thread nD τ).loc main_arg2)) (a3 := m ((c.tc : Thread nD τ).loc main_arg3)) (a4 := m ((c.tc : Thread nD τ).loc main_arg4))]
  rfl

end Cert.Reference2Ideal.Rows
-- ==== Proof.Arrays2.lean ====
/- The third launch: the kernel's windows and results at an index: what each block holds of the arguments, and each result array
   at a slot as the row of the arguments that slot stands for (hand part). -/
module

public import proofs.«01_k».proof.Proof.Block2
public import proofs.«01_k».proof.Proof.Arrays
public import proofs.«01_k».proof.Proof.Reference2
public import proofs.«01_k».proof.Proof.Gen.Kernel2Ideal.Value
public import Idealize.ShloMosaic.Lib.Pipeline.ValueKit.Point

@[expose] public section

set_option maxRecDepth 16384

noncomputable section

namespace Cert.Kernel2Ideal.Arrays

open Cert.Kernel2Ideal Cert.Kernel2Ideal.Gen Idealize.ShloMosaic Idealize.ShloMosaic.TcCoe
open Cert.Proof.Update
open Cert.KernelIdeal.Arrays (first_word pairMat pair_at)

variable (m : (ℓ : Loc nD τ sig) → Buf (Elt Ideal) ℓ) (c : Dev nD)

/-! The host-made operands -/

theorem v0_at (k : Fin 151) (s : Fin 8) (l : Fin 128) : V m c main_v0 (ix3 k s l) = m ((c : Thread nD τ).loc main_arg3) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg3) (ix1 z)) (Fin.ext (by dsimp only; omega))

theorem v1_at (k : Fin 151) (s : Fin 8) (l : Fin 128) : V m c main_v1 (ix3 k s l) = m ((c : Thread nD τ).loc main_arg4) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg4) (ix1 z)) (Fin.ext (by dsimp only; omega))

theorem v2_at (k : Fin 150) (s : Fin 8) (l : Fin 128) : V m c main_v2 (ix3 k s l) = m ((c : Thread nD τ).loc main_arg5) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg5) (ix1 z)) (Fin.ext (by dsimp only; omega))

theorem v13_at (a : Fin 256) : V m c main_v13 (ix2 a 0) = BitVec.ofNat 32 (firstOf a) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  exact first_word a

theorem v27_eq : V m c main_v27 = pairMat (V m c main_v13) := by
  unfold V pairMat
  simp only [hostOps0, hostOps0_1, hostOps0_2, hostOps0_3, hostOps0_4, List.flatten_cons, List.flatten_nil, List.append_nil, List.cons_append, List.nil_append]
  entry_read
  rfl

/-! The blocks -/

theorem idx0 : ∀ t : Fin cfg0.N, win0_0.index t = ![t.val, 0, 0, 0] := (by decide +kernel : ∀ t : Fin grid0.N, win0_0.index t = ![t.val, 0, 0, 0])
theorem idx1 : ∀ t : Fin cfg0.N, win0_1.index t = ![80 + t.val, 0] := (by decide +kernel : ∀ t : Fin grid0.N, win0_1.index t = ![80 + t.val, 0])
theorem idx2 : ∀ t : Fin cfg0.N, win0_2.index t = ![80 + t.val, 0] := (by decide +kernel : ∀ t : Fin grid0.N, win0_2.index t = ![80 + t.val, 0])
theorem idx3 : ∀ t : Fin cfg0.N, win0_3.index t = ![80 + t.val, 0, 0] := (by decide +kernel : ∀ t : Fin grid0.N, win0_3.index t = ![80 + t.val, 0, 0])
theorem idx4 : ∀ t : Fin cfg0.N, win0_4.index t = ![80 + t.val, 0, 0] := (by decide +kernel : ∀ t : Fin grid0.N, win0_4.index t = ![80 + t.val, 0, 0])
theorem idx5 : ∀ t : Fin cfg0.N, win0_5.index t = ![80 + t.val, 0, 0] := (by decide +kernel : ∀ t : Fin grid0.N, win0_5.index t = ![80 + t.val, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 80 + t.val] := (by decide +kernel : ∀ t : Fin grid0.N, win0_7.index t = ![0, 80 + t.val])
theorem idx8 : ∀ t : Fin cfg0.N, win0_8.index t = ![80 + t.val, 0] := (by decide +kernel : ∀ t : Fin grid0.N, win0_8.index t = ![80 + t.val, 0])
theorem idx9 : ∀ t : Fin cfg0.N, win0_9.index t = ![80 + t.val, 0] := (by decide +kernel : ∀ t : Fin grid0.N, win0_9.index t = ![80 + t.val, 0])
theorem idx10 : ∀ t : Fin cfg0.N, win0_10.index t = ![80 + t.val, 0] := (by decide +kernel : ∀ t : Fin grid0.N, win0_10.index t = ![80 + t.val, 0])

theorem blk0 (t : Fin cfg0.N) (a : Fin 128) (b : Fin 4) (d : Fin 8) (l : Fin 128) :
    iblk m c 0 t (ix4 a b d l) = (m ((c : Thread nD τ).loc main_arg0)) (ix4 ⟨128 * t.val + a.val, by have : t.val < 35 := t.isLt; omega⟩ b d l) := by
  blk_ext! [iblk, V, idx0 t]

theorem blk1 (t : Fin cfg0.N) (a : Fin 1024) (b : Fin 512) :
    iblk m c 1 t (ix2 a b) = (m ((c : Thread nD τ).loc main_arg1)) (ix2 ⟨1024 * (80 + t.val) + a.val, by have : t.val < 35 := t.isLt; omega⟩ b) := by
  blk_ext! [iblk, V, idx1 t]

theorem blk2 (t : Fin cfg0.N) (a : Fin 1024) (b : Fin 128) :
    X0_2 m c t (ix2 a b) = (m ((c : Thread nD τ).loc main_arg2)) (ix2 ⟨1024 * (80 + t.val) + a.val, by have : t.val < 35 := t.isLt; omega⟩ b) := by
  unfold X0_2 Pipeline.Window.fill; rw [dif_pos (moved0_2 t _)]
  blk_ext! [iblk, V, idx2 t]

theorem blk3 (t : Fin cfg0.N) (a : Fin 8) (b : Fin 128) :
    iblk m c 3 t (ix3 0 a b) = (m ((c : Thread nD τ).loc main_arg3)) (ix1 ⟨1024 * (80 + t.val) + 128 * a.val + b.val, by have : t.val < 35 := t.isLt; omega⟩) := by
  refine Eq.trans ?_ (v0_at m c ⟨80 + t.val, by have : t.val < 35 := t.isLt; omega⟩ a b)
  blk_ext! [iblk, idx3 t]

theorem blk4 (t : Fin cfg0.N) (a : Fin 8) (b : Fin 128) :
    iblk m c 4 t (ix3 0 a b) = (m ((c : Thread nD τ).loc main_arg4)) (ix1 ⟨1024 * (80 + t.val) + 128 * a.val + b.val, by have : t.val < 35 := t.isLt; omega⟩) := by
  refine Eq.trans ?_ (v1_at m c ⟨80 + t.val, by have : t.val < 35 := t.isLt; omega⟩ a b)
  blk_ext! [iblk, idx4 t]

theorem blk5 (t : Fin cfg0.N) (a : Fin 8) (b : Fin 128) :
    iblk m c 5 t (ix3 0 a b) = (m ((c : Thread nD τ).loc main_arg5)) (ix1 ⟨1024 * (80 + t.val) + 128 * a.val + b.val, by have : t.val < 35 := t.isLt; omega⟩) := by
  refine Eq.trans ?_ (v2_at m c ⟨80 + t.val, by have : t.val < 35 := t.isLt; omega⟩ a b)
  blk_ext! [iblk, idx5 t]

theorem blk6 (t : Fin cfg0.N) (a : Fin 256) (b : Fin 512) :
    iblk m c 6 t (ix2 a b) = V m c main_v27 (ix2 a b) := by
  blk_ext! [iblk, idx6 t]

theorem isPairs (t : Fin cfg0.N) : IsPairs (iblk m c 6 t) := fun a b =>
  (blk6 m c t a b).trans ((congrFun (v27_eq m c) (ix2 a b)).trans (pair_at _ a b (v13_at m c a)))

/-- Slot `n` of the launch, as a row of the arguments. -/
def rowOf (n : Fin 35840) : Row :=
  Cert.Reference2Ideal.Rows.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n

theorem row_eq (t : Fin cfg0.N) (j : Fin 1024) :
    Cert.KernelIdeal.Block.rowAt (iblk m c 0 t) (iblk m c 1 t) (X0_2 m c t) (iblk m c 3 t) (iblk m c 4 t) (iblk m c 5 t) j
      = rowOf m c ⟨1024 * t.val + j.val, by have : t.val < 35 := t.isLt; omega⟩ := by
  have ht : t.val < 35 := t.isLt
  unfold Cert.KernelIdeal.Block.rowAt rowOf Cert.Reference2Ideal.Rows.rowOf
  rw [Row.mk.injEq]
  refine ⟨funext fun x => ?_, funext fun x => ?_, funext fun x => ?_, ?_, ?_, ?_⟩
  · refine (blk0 m c t _ _ _ _).trans ?_
    exact congrArg₂ (fun y z => (m ((c : Thread nD τ).loc main_arg0)) (ix4 y ⟨x.val / 128, by omega⟩ z ⟨x.val % 128, by omega⟩)) (Fin.ext (by dsimp only; omega)) (Fin.ext (by dsimp only; omega))
  · refine (congrArg (fun w => oldCode w ⟨x.val / 128, by omega⟩) (blk2 m c t _ _)).trans ?_
    exact congrArg (fun z => oldCode ((m ((c : Thread nD τ).loc main_arg2)) (ix2 z ⟨x.val % 128, by omega⟩)) ⟨x.val / 128, by omega⟩) (Fin.ext (by dsimp only; omega))
  · refine (congrArg noise (blk1 m c t _ _)).trans ?_
    exact congrArg (fun z => noise ((m ((c : Thread nD τ).loc main_arg1)) (ix2 z x))) (Fin.ext (by dsimp only; omega))
  · refine (blk3 m c t _ _).trans ?_
    exact congrArg (fun z => (m ((c : Thread nD τ).loc main_arg3)) (ix1 z)) (Fin.ext (by dsimp only; omega))
  · refine (blk4 m c t _ _).trans ?_
    exact congrArg (fun z => (m ((c : Thread nD τ).loc main_arg4)) (ix1 z)) (Fin.ext (by dsimp only; omega))
  · refine (blk5 m c t _ _).trans ?_
    exact congrArg (fun z => (m ((c : Thread nD τ).loc main_arg5)) (ix1 z)) (Fin.ext (by dsimp only; omega))

/-! The result arrays -/

theorem flush8 : ∀ t : Fin cfg0.N, (cfg0.win 8).flush t = true := (by decide +kernel : ∀ t : Fin grid0.N, (cfg0.win 8).flush t = true)

theorem scale_final (r : Fin 1200) (hr : 640 ≤ r.val ∧ r.val < 920) (l : Fin 128) :
    (dats m 0 c).arrAt 8 cfg0.N (ix2 r l) = (rowOf m c ⟨128 * r.val + l.val - 81920, by omega⟩).scale := by
  obtain ⟨t, et⟩ : ∃ t : Fin cfg0.N, t.val = r.val / 8 - 80 := ⟨⟨r.val / 8 - 80, by show r.val / 8 - 80 < 35; omega⟩, rfl⟩
  have h := congrFun (Value.blocks8 m c t (flush8 t)) (ix2 (⟨r.val % 8, by omega⟩ : Fin 8) l)
  rw [Value.flushed8_A] at h
  have e : (ix2 r l : S1200x128.Idx) = ((cfg0.win 8).blk t).view.emb (ix2 (⟨r.val % 8, by omega⟩ : Fin 8) l) := by
    blk_ext [idx8 t]
  rw [e]
  refine (Eq.trans ?_ h).trans ?_
  · rfl
  refine (Eq.trans ?_ (Block.out_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).scale) (Fin.ext (by show 1024 * t.val + (128 * (r.val % 8) + l.val) = 128 * r.val + l.val - 81920; omega))

theorem flush9 : ∀ t : Fin cfg0.N, (cfg0.win 9).flush t = true := (by decide +kernel : ∀ t : Fin grid0.N, (cfg0.win 9).flush t = true)

theorem bias_final (r : Fin 1200) (hr : 640 ≤ r.val ∧ r.val < 920) (l : Fin 128) :
    (dats m 0 c).arrAt 9 cfg0.N (ix2 r l) = (rowOf m c ⟨128 * r.val + l.val - 81920, by omega⟩).low := by
  obtain ⟨t, et⟩ : ∃ t : Fin cfg0.N, t.val = r.val / 8 - 80 := ⟨⟨r.val / 8 - 80, by show r.val / 8 - 80 < 35; omega⟩, rfl⟩
  have h := congrFun (Value.blocks9 m c t (flush9 t)) (ix2 (⟨r.val % 8, by omega⟩ : Fin 8) l)
  rw [Value.flushed9_A] at h
  have e : (ix2 r l : S1200x128.Idx) = ((cfg0.win 9).blk t).view.emb (ix2 (⟨r.val % 8, by omega⟩ : Fin 8) l) := by
    blk_ext [idx9 t]
  rw [e]
  refine (Eq.trans ?_ h).trans ?_
  · rfl
  refine (Eq.trans ?_ (Block.out_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).low) (Fin.ext (by show 1024 * t.val + (128 * (r.val % 8) + l.val) = 128 * r.val + l.val - 81920; omega))

theorem flush10 : ∀ t : Fin cfg0.N, (cfg0.win 10).flush t = true := (by decide +kernel : ∀ t : Fin grid0.N, (cfg0.win 10).flush t = true)

theorem state_final (r : Fin 1200) (hr : 640 ≤ r.val ∧ r.val < 920) (l : Fin 128) :
    (dats m 0 c).arrAt 10 cfg0.N (ix2 r l) = (rowOf m c ⟨128 * r.val + l.val - 81920, by omega⟩).state := by
  obtain ⟨t, et⟩ : ∃ t : Fin cfg0.N, t.val = r.val / 8 - 80 := ⟨⟨r.val / 8 - 80, by show r.val / 8 - 80 < 35; omega⟩, rfl⟩
  have h := congrFun (Value.blocks10 m c t (flush10 t)) (ix2 (⟨r.val % 8, by omega⟩ : Fin 8) l)
  rw [Value.flushed10_A] at h
  have e : (ix2 r l : S1200x128.Idx) = ((cfg0.win 10).blk t).view.emb (ix2 (⟨r.val % 8, by omega⟩ : Fin 8) l) := by
    blk_ext [idx10 t]
  rw [e]
  refine (Eq.trans ?_ h).trans ?_
  · rfl
  refine (Eq.trans ?_ (Block.out_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).state) (Fin.ext (by show 1024 * t.val + (128 * (r.val % 8) + l.val) = 128 * r.val + l.val - 81920; omega))

theorem flush7 : ∀ t : Fin cfg0.N, (cfg0.win 7).flush t = true := (by decide +kernel : ∀ t : Fin grid0.N, (cfg0.win 7).flush t = true)

theorem bytes_final (r : Fin 520) (hr : r.val < 512) (n : Fin 153600) (hn : 81920 ≤ n.val ∧ n.val < 117760) :
    (dats m 0 c).arrAt 7 cfg0.N (ix2 r n) = (rowOf m c ⟨n.val - 81920, by omega⟩).byte ⟨r.val, hr⟩ := by
  obtain ⟨t, et⟩ : ∃ t : Fin cfg0.N, t.val = n.val / 1024 - 80 := ⟨⟨n.val / 1024 - 80, by show n.val / 1024 - 80 < 35; omega⟩, rfl⟩
  have h := congrFun (Value.blocks7 m c t (flush7 t)) (ix2 r (⟨n.val % 1024, by omega⟩ : Fin 1024))
  rw [Value.flushed7_A] at h
  have e : (ix2 r n : S520x153600.Idx) = ((cfg0.win 7).blk t).view.emb (ix2 r (⟨n.val % 1024, by omega⟩ : Fin 1024)) := by
    blk_ext [idx7 t]
  rw [e]
  refine (Eq.trans ?_ h).trans ?_
  · rfl
  refine (Eq.trans ?_ (Block.out_bytes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) (isPairs m c t) r hr ⟨n.val % 1024, by omega⟩)).trans ?_
  · rfl
  rw [row_eq]
  exact congrArg (fun z => (rowOf m c z).byte ⟨r.val, hr⟩) (Fin.ext (by show 1024 * t.val + n.val % 1024 = n.val - 81920; omega))

end Cert.Kernel2Ideal.Arrays
-- ==== Proof.Mask2.lean ====
/- The third launch: what the mask of the written elements says at an index (hand part). -/
module

public import proofs.«01_k».proof.Proof.Gen.On_written2
public import Idealize.ShloMosaic.Lib.Pointwise
public import proofs.«01_k».proof.Proof.Mask

@[expose] public section

noncomputable section

namespace Cert.On_written2.Mask

open Cert.On_written.Mask (slt_small sge_small and_both)
open Cert.On_written2 Cert.On_written2.Gen Idealize.ShloMosaic

variable (a0 : FVec Ideal S4480x4x8x128 .f32) (a1 : IVec S153600x512 32) (a2 : IVec S153728x128 32) (a3 a4 : FVec Ideal S154624 .f32) (a5 : FVec Ideal S153600 .f32)
  (a6 : IVec S520x153600 8) (a7 a8 a9 : FVec Ideal S1200x128 .f32)

theorem bytes (r : Fin 520) (n : Fin 153600) (h : (fn (F := Ideal) a0 a1 a2 a3 a4 a5 a6 a7 a8 a9).1 (ix2 r n) = 1#1) : r.val < 512 ∧ 81920 ≤ n.val ∧ n.val < 117760 := by
  have h' : IntOp.andi (IntOp.cmpi .slt (BitVec.ofNat 32 r.val) (BitVec.ofNat 32 512)) (IntOp.andi (IntOp.cmpi .sge (BitVec.ofNat 32 n.val) (BitVec.ofNat 32 81920)) (IntOp.cmpi .slt (BitVec.ofNat 32 n.val) (BitVec.ofNat 32 117760))) = 1#1 := by
    refine Eq.trans ?_ h
    show _ = (andi (cmpi .slt (iotaInDim S520x153600 32 0) (broadcastInDim S520x153600 ![] Facts.bcast_S_S520x153600 (constantI S_ 32 512#32))) (andi (cmpi .sge (iotaInDim S520x153600 32 1) (broadcastInDim S520x153600 ![] Facts.bcast_S_S520x153600 (constantI S_ 32 81920#32))) (cmpi .slt (iotaInDim S520x153600 32 1) (broadcastInDim S520x153600 ![] Facts.bcast_S_S520x153600 (constantI S_ 32 117760#32))))) (ix2 r n)
    pointwise
  have hk := and_both _ _ h'
  have hn := and_both _ _ hk.2
  exact ⟨slt_small _ _ (by omega) (by omega) hk.1, sge_small _ _ (by omega) (by omega) hn.1, slt_small _ _ (by omega) (by omega) hn.2⟩

theorem rows (r : Fin 1200) (l : Fin 128) (h : (fn (F := Ideal) a0 a1 a2 a3 a4 a5 a6 a7 a8 a9).2.1 (ix2 r l) = 1#1) : 640 ≤ r.val ∧ r.val < 920 := by
  have h' : IntOp.andi (IntOp.cmpi .sge (BitVec.ofNat 32 r.val) (BitVec.ofNat 32 640)) (IntOp.cmpi .slt (BitVec.ofNat 32 r.val) (BitVec.ofNat 32 920)) = 1#1 := by
    refine Eq.trans ?_ h
    show _ = (andi (cmpi .sge (iotaInDim S1200x128 32 0) (broadcastInDim S1200x128 ![] Facts.bcast_S_S1200x128 (constantI S_ 32 640#32))) (cmpi .slt (iotaInDim S1200x128 32 0) (broadcastInDim S1200x128 ![] Facts.bcast_S_S1200x128 (constantI S_ 32 920#32)))) (ix2 r l)
    pointwise
  have hk := and_both _ _ h'
  exact ⟨sge_small _ _ (by omega) (by omega) hk.1, slt_small _ _ (by omega) (by omega) hk.2⟩

theorem rows_bias (r : Fin 1200) (l : Fin 128) (h : (fn (F := Ideal) a0 a1 a2 a3 a4 a5 a6 a7 a8 a9).2.2.1 (ix2 r l) = 1#1) : 640 ≤ r.val ∧ r.val < 920 :=
  rows a0 a1 a2 a3 a4 a5 a6 a7 a8 a9 r l h

theorem rows_state (r : Fin 1200) (l : Fin 128) (h : (fn (F := Ideal) a0 a1 a2 a3 a4 a5 a6 a7 a8 a9).2.2.2 (ix2 r l) = 1#1) : 640 ≤ r.val ∧ r.val < 920 :=
  rows a0 a1 a2 a3 a4 a5 a6 a7 a8 a9 r l h

end Cert.On_written2.Mask
-- ==== Proof.Launch2.lean ====
/- The third launch: its reference's frame, and the two programs' equal results where its mask is set (hand part). -/
module

public import proofs.«01_k».proof.Defs
public import proofs.«01_k».proof.Proof.Arrays2
public import proofs.«01_k».proof.Proof.Mask2
public import Idealize.ShloMosaic.Adequacy
public import Idealize.ShloMosaic.Init

@[expose] public section

noncomputable section

namespace Cert.Proof.Launch2

open Idealize.ShloMosaic Idealize.ShloMosaic.TcCoe Idealize.SL.Sem

/-- The reference runs, keeps its arguments, and has no semaphore to leave nonzero. -/
theorem frame_reference : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run (F := Ideal) m g)

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
include h

/-- The two programs' rows are the same: their arguments agree. -/
theorem row_agree (n : Fin 35840) : Cert.Reference2Ideal.Rows.rowIn m' c n = Cert.Kernel2Ideal.Arrays.rowOf m c n := by
  unfold Cert.Reference2Ideal.Rows.rowIn Cert.Kernel2Ideal.Arrays.rowOf
  rw [h.1, h.2.1, h.2.2.1, h.2.2.2.1, h.2.2.2.2.1, h.2.2.2.2.2.1]

theorem bytes_agree (r : Fin 520) (hr : r.val < 512) (n : Fin 153600) (hn : 81920 ≤ n.val ∧ n.val < 117760) :
    Cert.Reference2Ideal.Value.res_main_v88 m' c (ix2 r n) = (Cert.Kernel2Ideal.Gen.dats m 0 c).arrAt 7 Cert.Kernel2Ideal.cfg0.N (ix2 r n) :=
  (Cert.Reference2Ideal.Rows.bytes_value m' c r hr n hn).trans
    ((congrArg (fun z => z.byte ⟨r.val, hr⟩) (row_agree m m' c h _)).trans (Cert.Kernel2Ideal.Arrays.bytes_final m c r hr n hn).symm)

theorem scale_agree (r : Fin 1200) (hr : 640 ≤ r.val ∧ r.val < 920) (l : Fin 128) :
    Cert.Reference2Ideal.Value.res_main_v90 m' c (ix2 r l) = (Cert.Kernel2Ideal.Gen.dats m 0 c).arrAt 8 Cert.Kernel2Ideal.cfg0.N (ix2 r l) :=
  (Cert.Reference2Ideal.Rows.scale_value m' c r hr l).trans
    ((congrArg (fun z => z.scale) (row_agree m m' c h _)).trans (Cert.Kernel2Ideal.Arrays.scale_final m c r hr l).symm)

theorem bias_agree (r : Fin 1200) (hr : 640 ≤ r.val ∧ r.val < 920) (l : Fin 128) :
    Cert.Reference2Ideal.Value.res_main_v92 m' c (ix2 r l) = (Cert.Kernel2Ideal.Gen.dats m 0 c).arrAt 9 Cert.Kernel2Ideal.cfg0.N (ix2 r l) :=
  (Cert.Reference2Ideal.Rows.bias_value m' c r hr l).trans
    ((congrArg (fun z => z.low) (row_agree m m' c h _)).trans (Cert.Kernel2Ideal.Arrays.bias_final m c r hr l).symm)

theorem state_agree (r : Fin 1200) (hr : 640 ≤ r.val ∧ r.val < 920) (l : Fin 128) :
    Cert.Reference2Ideal.Rows.res94 m' c (ix2 r l) = (Cert.Kernel2Ideal.Gen.dats m 0 c).arrAt 10 Cert.Kernel2Ideal.cfg0.N (ix2 r l) :=
  (Cert.Reference2Ideal.Rows.state_value m' c r hr l).trans
    ((congrArg (fun z => z.state) (row_agree m m' c h _)).trans (Cert.Kernel2Ideal.Arrays.state_final m c r hr l).symm)

end

/-- Where the mask is set the two programs' results are equal: both are the slot's row, updated. -/
theorem algebraic : Cert.algebraic_Kernel2Ideal_Reference2Ideal_on_written2 := by
  intro m g m' g' _ hagree
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N, ?_, ?_⟩
  · refine (θ_run Cert.Kernel2Ideal.defs _ _).mono (fun r h c => ?_) (Cert.Kernel2Ideal.Value.run_blocks (F := Ideal) m g)
    obtain ⟨h0, h1, h2, h3, hk⟩ := h c
    exact ⟨fun i _ => congrFun h0 i, fun i _ => congrFun h1 i, fun i _ => congrFun h2 i, fun i _ => congrFun h3 i, hk⟩
  · refine (θ_run Cert.Reference2Ideal.defs _ _).mono (fun r h c => ?_) (Cert.Reference2Ideal.Value.run (F := Ideal) m' g')
    obtain ⟨h0, h1, h2, h3, hk⟩ := h c
    refine ⟨fun i hi => (congrFun h0 i).trans ?_, fun i hi => (congrFun h1 i).trans ?_, fun i hi => (congrFun h2 i).trans ?_, fun i hi => (congrFun h3 i).trans ?_, hk⟩
    · rw [eq_ix2 i] at hi ⊢
      have hb := Cert.On_written2.Mask.bytes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (i 0) (i 1) hi
      exact bytes_agree m m' c (hagree c) (i 0) hb.1 (i 1) hb.2
    · rw [eq_ix2 i] at hi ⊢
      exact scale_agree m m' c (hagree c) (i 0) (Cert.On_written2.Mask.rows (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (i 0) (i 1) hi) (i 1)
    · rw [eq_ix2 i] at hi ⊢
      exact bias_agree m m' c (hagree c) (i 0) (Cert.On_written2.Mask.rows_bias (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (i 0) (i 1) hi) (i 1)
    · rw [eq_ix2 i] at hi ⊢
      exact state_agree m m' c (hagree c) (i 0) (Cert.On_written2.Mask.rows_state (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (i 0) (i 1) hi) (i 1)

end Cert.Proof.Launch2
-- ==== Proof.Trip3.lean ====
/- The last launch: what one trip of the kernel's loop stores, as the terms of `Spec.lean` (hand part). The run names each value a trip
   computes: both sides are unfolded to the operations, which agree. -/
module

public import proofs.«01_k».proof.Proof.Gen.Kernel3Ideal.Loops
public import proofs.«01_k».proof.Proof.Trip
public import Idealize.ShloMosaic.Lib.Pipeline.ReadBack
public import Idealize.ShloMosaic.Lib.Pipeline.Value

@[expose] public section

set_option maxRecDepth 16384

noncomputable section

namespace Cert.Kernel3Ideal.Trip

open Cert.Kernel3Ideal Cert.Kernel3Ideal.Gen Idealize.ShloMosaic Idealize.ShloMosaic.TcCoe Idealize.ShloMosaic.Tactic
open Cert.Proof.Update Cert.Kernel3Ideal.Gen.trip_k0_t1.sl

variable {F : FTy → Type} [FloatOps F]

/-- What trip `k` reads, of the blocks the launch staged. -/
def ins (x0 : Vec F S128x4x8x128 .f32) (x1 : Vec F S1024x512 .i32) (x2 : Vec F S1024x128 .i32) (x3 x4 x5 : Vec F S1x8x128 .f32)
    (k : Fin k0_t1_loop.trips) : Ins F where
  g := fun
    | 0 => fun p => View.ld x0 (Rect.unit (s := S128x4x8x128) (k0_off1 k (BitVec.ofNat 32 p.val)) S1x1x8x128.size (k0_off1_inb k p))
    | 1 => fun p => View.ld x0 (Rect.unit (s := S128x4x8x128) (k0_off2 k (BitVec.ofNat 32 p.val)) S1x1x8x128.size (k0_off2_inb k p))
    | 2 => fun p => View.ld x0 (Rect.unit (s := S128x4x8x128) (k0_off3 k (BitVec.ofNat 32 p.val)) S1x1x8x128.size (k0_off3_inb k p))
    | 3 => fun p => View.ld x0 (Rect.unit (s := S128x4x8x128) (k0_off4 k (BitVec.ofNat 32 p.val)) S1x1x8x128.size (k0_off4_inb k p))
  w := fun p => View.ld x2 (Rect.unit (s := S1024x128) (k0_off5 k (BitVec.ofNat 32 (8 * p.val))) S8x128.size (k0_off5_inb k p))
  r := fun
    | 0 => fun p => View.ld x1 (Rect.unit (s := S1024x512) (k0_off6 k (BitVec.ofNat 32 (8 * p.val))) S8x128.size (k0_off6_inb k p))
    | 1 => fun p => View.ld x1 (Rect.unit (s := S1024x512) (k0_off7 k (BitVec.ofNat 32 (8 * p.val))) S8x128.size (k0_off7_inb k p))
    | 2 => fun p => View.ld x1 (Rect.unit (s := S1024x512) (k0_off8 k (BitVec.ofNat 32 (8 * p.val))) S8x128.size (k0_off8_inb k p))
    | 3 => fun p => View.ld x1 (Rect.unit (s := S1024x512) (k0_off9 k (BitVec.ofNat 32 (8 * p.val))) S8x128.size (k0_off9_inb k p))
  sc := k0_pay4 0#32 1#32 k (View.ld x3 (Rect.unit (s := S1x8x128) ![0, 0, 0] S1x8x128.size inb_S1x8x128_S1x8x128_0_0_0))
  bi := k0_pay5 0#32 1#32 k (View.ld x4 (Rect.unit (s := S1x8x128) ![0, 0, 0] S1x8x128.size inb_S1x8x128_S1x8x128_0_0_0))
  mo := k0_pay6 0#32 1#32 k (View.ld x5 (Rect.unit (s := S1x8x128) ![0, 0, 0] S1x8x128.size inb_S1x8x128_S1x8x128_0_0_0))

/-- The staged blocks a trip reads: memrefs and what they hold. -/
structure Data (F : FTy → Type) [FloatOps F] where
  a1 : Memref sig .tc .vmem S128x4x8x128 .f32
  a2 : Memref sig .tc .vmem S1024x512 .i32
  a3 : Memref sig .tc .vmem S1024x128 .i32
  a4 : Memref sig .tc .vmem S1x8x128 .f32
  a5 : Memref sig .tc .vmem S1x8x128 .f32
  a6 : Memref sig .tc .vmem S1x8x128 .f32
  a7 : Memref sig .tc .vmem S256x512 .bf16
  x1 : BufTy.Contents (Elt F) a1.view.ty
  x2 : BufTy.Contents (Elt F) a2.view.ty
  x3 : BufTy.Contents (Elt F) a3.view.ty
  x4 : BufTy.Contents (Elt F) a4.view.ty
  x5 : BufTy.Contents (Elt F) a5.view.ty
  x6 : BufTy.Contents (Elt F) a6.view.ty
  x7 : BufTy.Contents (Elt F) a7.view.ty

def Data.J (D : Data F) (k : Fin k0_t1_loop.trips) : Ins F :=
  ins (D.a1.view.read (Elt F) D.x1) (D.a2.view.read (Elt F) D.x2) (D.a3.view.read (Elt F) D.x3) (D.a4.view.read (Elt F) D.x4)
    (D.a5.view.read (Elt F) D.x5) (D.a6.view.read (Elt F) D.x6) k

/-- The pair matrix. -/
def Data.pm (D : Data F) : FVec F S256x512 .bf16 :=
  View.ld (D.a7.view.read (Elt F) D.x7) (Rect.unit (s := S256x512) ![0, 0] S256x512.size inb_S256x512_S256x512_0_0)

/-- It reads as in the first launch. -/
theorem ins_eq (x0 : Vec F S128x4x8x128 .f32) (x1 : Vec F S1024x512 .i32) (x2 : Vec F S1024x128 .i32) (x3 x4 x5 : Vec F S1x8x128 .f32)
    (k : Fin k0_t1_loop.trips) : ins x0 x1 x2 x3 x4 x5 k = Cert.KernelIdeal.Trip.ins x0 x1 x2 x3 x4 x5 k := rfl

variable (D : Data F) (k : Fin k0_t1_loop.trips)

set_option maxHeartbeats 0 in
/-- The values the stores read. -/
theorem values :
    r_359 D.a1 D.a3 D.a4 D.a5 D.a6 D.x1 D.x3 D.x4 D.x5 D.x6 k = (upTo (D.J k).scale 16)
    ∧ r_360 D.a1 D.a3 D.a4 D.a5 D.a6 D.x1 D.x3 D.x4 D.x5 D.x6 k = (upTo (D.J k).bias 16)
    ∧ r_337 D.a1 D.a6 D.x1 D.x6 k = (upTo (D.J k).state 15)
    ∧ r_344 D.a1 D.a6 D.x1 D.x6 k = ((D.J k).state 15)
    ∧ r_361 D.a1 D.a2 D.a3 D.a4 D.a5 D.a6 D.a7 D.x1 D.x2 D.x3 D.x4 D.x5 D.x6 D.x7 k = (extractStridedSlice Sq ![0, 0] (pairs dot_S256x512_S128x512_S256x128_1_1_0_0_n_n D.pm (D.J k).codes) slices_lo)
    ∧ r_362 D.a1 D.a2 D.a3 D.a4 D.a5 D.a6 D.a7 D.x1 D.x2 D.x3 D.x4 D.x5 D.x6 D.x7 k = (extractStridedSlice Sq ![128, 0] (pairs dot_S256x512_S128x512_S256x128_1_1_0_0_n_n D.pm (D.J k).codes) slices_hi) := by
  dsimp only [
    r, r_1, r_2, r_3, r_4, r_5, r_6, r_7, r_8, r_9, r_10, r_11, r_12, r_13, r_14, r_15, r_16, r_17, r_18, r_19, r_20, r_21, r_22, r_23, r_24, r_25, r_26, r_27, r_28, r_29,
    r_30, r_31, r_32, r_33, r_34, r_35, r_36, r_37, r_38, r_39, r_40, r_41, r_42, r_43, r_44, r_45, r_46, r_47, r_48, r_49, r_50, r_51, r_52, r_53, r_54, r_55, r_56, r_57,
    r_58, r_59, r_60, r_61, r_62, r_63, r_64, r_65, r_66, r_67, r_68, r_69, r_70, r_71, r_72, r_73, r_74, r_75, r_76, r_77, r_78, r_79, r_80, r_81, r_82, r_83, r_84, r_85,
    r_86, r_87, r_88, r_89, r_90, r_91, r_92, r_93, r_94, r_95, r_96, r_97, r_98, r_99, r_100, r_101, r_102, r_103, r_104, r_105, r_106, r_107, r_108, r_109, r_110, r_111,
    r_112, r_113, r_114, r_115, r_116, r_117, r_118, r_119, r_120, r_121, r_122, r_123, r_124, r_125, r_126, r_127, r_128, r_129, r_130, r_131, r_132, r_133, r_134, r_135,
    r_136, r_137, r_138, r_139, r_140, r_141, r_142, r_143, r_144, r_145, r_146, r_147, r_148, r_149, r_150, r_151, r_152, r_153, r_154, r_155, r_156, r_157, r_158, r_159,
    r_160, r_161, r_162, r_163, r_164, r_165, r_166, r_167, r_168, r_169, r_170, r_171, r_172, r_173, r_174, r_175, r_176, r_177, r_178, r_179, r_180, r_181, r_182, r_183,
    r_184, r_185, r_186, r_187, r_188, r_189, r_190, r_191, r_192, r_193, r_194, r_195, r_196, r_197, r_198, r_199, r_200, r_201, r_202, r_203, r_204, r_205, r_206, r_207,
    r_208, r_209, r_210, r_211, r_212, r_213, r_214, r_215, r_216, r_217, r_218, r_219, r_220, r_221, r_222, r_223, r_224, r_225, r_226, r_227, r_228, r_229, r_230, r_231,
    r_232, r_233, r_234, r_235, r_236, r_237, r_238, r_239, r_240, r_241, r_242, r_243, r_244, r_245, r_246, r_247, r_248, r_249, r_250, r_251, r_252, r_253, r_254, r_255,
    r_256, r_257, r_258, r_259, r_260, r_261, r_262, r_263, r_264, r_265, r_266, r_267, r_268, r_269, r_270, r_271, r_272, r_273, r_274, r_275, r_276, r_277, r_278, r_279,
    r_280, r_281, r_282, r_283, r_284, r_285, r_286, r_287, r_288, r_289, r_290, r_291, r_292, r_293, r_294, r_295, r_296, r_297, r_298, r_299, r_300, r_301, r_302, r_303,
    r_304, r_305, r_306, r_307, r_308, r_309, r_310, r_311, r_312, r_313, r_314, r_315, r_316, r_317, r_318, r_319, r_320, r_321, r_322, r_323, r_324, r_325, r_326, r_327,
    r_328, r_329, r_330, r_331, r_332, r_333, r_334, r_335, r_336, r_337, r_338, r_339, r_340, r_341, r_342, r_343, r_344, r_345, r_346, r_347, r_348, r_349, r_350, r_351,
    r_352, r_353, r_354, r_355, r_356, r_357, r_358, r_359, r_360, r_361, r_362]
  dsimp only [
    k0_pay1, k0_pay2, k0_pay3, k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61, k0_pay62, k0_pay63, k0_pay64, k0_pay65,
    k0_pay66, k0_pay67, k0_pay68, k0_pay69, k0_pay70, k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125, k0_pay126, k0_pay127,
    k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182, k0_pay183, k0_pay184, k0_pay185, k0_pay186, k0_pay187,
    k0_pay188, k0_pay189, k0_pay190, k0_pay191, k0_pay192, k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229, k0_pay230, k0_pay231, k0_pay232,
    k0_pay233, k0_pay234, k0_pay235, k0_pay236, k0_pay237, k0_pay238, k0_pay239, k0_pay240, k0_pay241, k0_pay242, k0_pay243, k0_pay244, k0_pay245, k0_pay246, k0_pay247,
    k0_pay248, k0_pay249, k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287, k0_pay288, k0_pay289, k0_pay290, k0_pay291, k0_pay292,
    k0_pay293, k0_pay294, k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320, k0_pay321, k0_pay322,
    k0_pay323, k0_pay324, k0_pay325, k0_pay326, k0_pay327, k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347, k0_pay348, k0_pay349, k0_pay350, k0_pay351, k0_pay352,
    k0_pay353, k0_pay354, k0_pay355, k0_pay356, k0_pay357, k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377, k0_pay378, k0_pay379, k0_pay380, k0_pay381, k0_pay382,
    k0_pay383, k0_pay384, k0_pay385, k0_pay386, k0_pay387, k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407, k0_pay408, k0_pay409, k0_pay410, k0_pay411, k0_pay412,
    k0_pay413, k0_pay414, k0_pay415, k0_pay416, k0_pay417, k0_pay418, k0_pay419, k0_pay420, k0_pay421, k0_pay422, k0_pay423, k0_pay424, k0_pay425, col, wide, Ins.grad,
    Ins.state, Ins.mult, Ins.new, Ins.new0, Ins.new1, Ins.new2, Ins.new3, Ins.low, Ins.span, Ins.inv, Ins.code, Ins.code0, Ins.code1, Ins.code2, Ins.code3, Ins.codes,
    Ins.scale, Ins.bias, diag, own, upTo, fold8, stack, pairs, bytes, Data.J, ins]
  exact ⟨rfl, rfl, rfl, rfl, rfl, rfl⟩

/-- The three rows a trip stores: each a tile merged over the sixteen groups and its sublanes added. -/
theorem pay_scale : k0_pay419 (upTo (D.J k).scale 16) = fold8 (upTo (D.J k).scale 16) := rfl
theorem pay_bias : k0_pay420 (upTo (D.J k).bias 16) = fold8 (upTo (D.J k).bias 16) := rfl
theorem pay_state : k0_pay421 (upTo (D.J k).state 15) ((D.J k).state 15) (k0_pay416 k0_pay1) = fold8 (upTo (D.J k).state 16) := rfl
theorem pay_bytes : k0_pay2 (extractStridedSlice Sq ![0, 0] (pairs dot_S256x512_S128x512_S256x128_1_1_0_0_n_n D.pm (D.J k).codes) slices_lo)
    (extractStridedSlice Sq ![128, 0] (pairs dot_S256x512_S128x512_S256x128_1_1_0_0_n_n D.pm (D.J k).codes) slices_hi) k0_pay425 = bytes (pairs dot_S256x512_S128x512_S256x128_1_1_0_0_n_n D.pm (D.J k).codes) := rfl

theorem trip_scale (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.1 = [⟨Rect.unit (s := S8x128) (k0_off10 k) S1x128.size (k0_off10_inb k), fold8 (upTo (D.J k).scale 16)⟩] := by
  unfold trip_k0_t1; dsimp only
  rw [(values D k).1, pay_scale D k]

theorem trip_bias (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.1 = [⟨Rect.unit (s := S8x128) (k0_off10 k) S1x128.size (k0_off10_inb k), fold8 (upTo (D.J k).bias 16)⟩] := by
  unfold trip_k0_t1; dsimp only
  rw [(values D k).2.1, pay_bias D k]

theorem trip_state (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).2.2.2.1 = [⟨Rect.unit (s := S8x128) (k0_off10 k) S1x128.size (k0_off10_inb k), fold8 (upTo (D.J k).state 16)⟩] := by
  unfold trip_k0_t1; dsimp only
  rw [(values D k).2.2.1, (values D k).2.2.2.1, pay_state D k]

theorem trip_bytes (𝒱 : Variants) (c : Dev nD) (bd : Option 𝒱.V) (i : grid0.Coords) (h1 : D.a1.IsWhole) (h2 : D.a2.IsWhole) (h3 : D.a3.IsWhole) (h4 : D.a4.IsWhole) (h5 : D.a5.IsWhole) (h6 : D.a6.IsWhole) (h7 : D.a7.IsWhole) (arg12 : Memref sig .tc .vmem S520x1024 .i8) (h12 : arg12.IsWhole) (arg13 : Memref sig .tc .vmem S8x128 .f32) (h13 : arg13.IsWhole) (arg14 : Memref sig .tc .vmem S8x128 .f32) (h14 : arg14.IsWhole) (arg15 : Memref sig .tc .vmem S8x128 .f32) (h15 : arg15.IsWhole) :
    (trip_k0_t1 (F := F) 𝒱 c bd i D.a1 h1 D.a2 h2 D.a3 h3 D.a4 h4 D.a5 h5 D.a6 h6 D.a7 h7 (Memref.whole main_arg6) (Memref.isWhole_whole _) (Memref.whole main_arg7) (Memref.isWhole_whole _) (Memref.whole main_arg8) (Memref.isWhole_whole _) (Memref.whole main_arg9) (Memref.isWhole_whole _) arg12 h12 arg13 h13 arg14 h14 arg15 h15 D.x1 D.x2 D.x3 D.x4 D.x5 D.x6 D.x7 k).1 = [⟨Rect.unit (s := S520x1024) (k0_off12 k) S8x128.size (k0_off12_inb k), k0_pay3⟩,
      ⟨Rect.unit (s := S520x1024) (k0_off11 k) S512x128.size (k0_off11_inb k), bytes (pairs dot_S256x512_S128x512_S256x128_1_1_0_0_n_n D.pm (D.J k).codes)⟩] := by
  unfold trip_k0_t1; dsimp only
  rw [(values D k).2.2.2.2.1, (values D k).2.2.2.2.2, pay_bytes D k]

end Cert.Kernel3Ideal.Trip
-- ==== Proof.Block3.lean ====
/- The last launch: what it leaves in a block of each result, row by row of the blocks it reads (hand part). -/
module

public import proofs.«01_k».proof.Proof.Gen.Kernel3Ideal.Frame
public import proofs.«01_k».proof.Proof.Trip3
public import proofs.«01_k».proof.Proof.Block
public import Idealize.ShloMosaic.Lib.Pipeline.CanonAppend

@[expose] public section

set_option maxRecDepth 16384

noncomputable section

namespace Cert.Kernel3Ideal.Block

open Cert.Kernel3Ideal Cert.Kernel3Ideal.Gen Idealize.ShloMosaic Idealize.ShloMosaic.TcCoe
open Cert.Proof.Update Cert.Kernel3Ideal.Trip
open Cert.KernelIdeal.Block (rowAt emb_unit ld_at idx_row fold_scale fold_bias fold_state byteOf bytes_pairs)

theorem off10 : ∀ k : Fin k0_t1_loop.trips, k0_off10 k = ![k.val, 0] := by decide +kernel
theorem off11 : ∀ k : Fin k0_t1_loop.trips, k0_off11 k = ![0, 128 * k.val] := by decide +kernel
theorem off12 : ∀ k : Fin k0_t1_loop.trips, k0_off12 k = ![512, 128 * k.val] := by decide +kernel
theorem trips8 (k : Fin k0_t1_loop.trips) : k.val < 8 := k.isLt

section
variable (c : Dev nD) (i : grid0.Coords) (arg1 : Memref sig .tc .vmem S128x4x8x128 .f32) (harg1 : arg1.IsWhole) (arg2 : Memref sig .tc .vmem S1024x512 .i32) (harg2 : arg2.IsWhole) (arg3 : Memref sig .tc .vmem S1024x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S256x512 .bf16) (harg7 : arg7.IsWhole) (arg12 : Memref sig .tc .vmem S520x1024 .i8) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole)
  (x0 : Vec Ideal S128x4x8x128 .f32) (x1 : Vec Ideal S1024x512 .i32) (x2 : Vec Ideal S1024x128 .i32) (x3 x4 x5 : Vec Ideal S1x8x128 .f32) (x6 : Vec Ideal S256x512 .bf16)

/-- The blocks staged, as a trip reads them. -/
def data : Data Ideal := ⟨arg1, arg2, arg3, arg4, arg5, arg6, arg7, harg1.unread x0, harg2.unread x1, harg3.unread x2, harg4.unread x3, harg5.unread x4, harg6.unread x5, harg7.unread x6⟩

theorem data_J (k : Fin k0_t1_loop.trips) : (data arg1 harg1 arg2 harg2 arg3 harg3 arg4 harg4 arg5 harg5 arg6 harg6 arg7 harg7 x0 x1 x2 x3 x4 x5 x6).J k = Cert.KernelIdeal.Trip.ins x0 x1 x2 x3 x4 x5 k := by
  unfold Data.J data
  dsimp only
  rw [harg1.read_unread, harg2.read_unread, harg3.read_unread, harg4.read_unread, harg5.read_unread, harg6.read_unread, ins_eq]

theorem data_pm : (data arg1 harg1 arg2 harg2 arg3 harg3 arg4 harg4 arg5 harg5 arg6 harg6 arg7 harg7 x0 x1 x2 x3 x4 x5 x6).pm = x6 := by
  unfold Data.pm data
  dsimp only
  rw [harg7.read_unread]
  funext j
  refine ld_at (s := S256x512) x6 _ _ _ _ _ ![0, 0] rfl fun a => ?_
  match a with
  | ⟨0, _⟩ => show (j 0).val = 0 + (j 0).val; omega
  | ⟨1, _⟩ => show (j 1).val = 0 + (j 1).val; omega

theorem mem_bytes (q : View.Piece (Elt Ideal) S520x1024 .i8) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bytes (hpm : IsPairs x6) (r : Fin 520) (hr : r.val < 512) (n : Fin 1024) :
    out0_A_7 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 r n) = (rowAt x0 x1 x2 x3 x4 x5 n).byte ⟨r.val, hr⟩ := by
  have hc := cover0_A_7 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_7
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).1)]
  refine (View.canon_append_of_pieces (fun y : S520x1024.Idx => byteOf x0 x1 x2 x3 x4 x5 (y 0) (y 1)) [] _ ?_ _ (hc _)).trans (dif_pos hr)
  intro q hq
  obtain ⟨t, ht⟩ := mem_bytes c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bytes (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J, data_pm] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).1 = _ from T] at ht'
  have ht8 := trips8 t
  rcases List.mem_cons.mp ht' with rfl | ht'
  · intro x
    refine Eq.trans ?_ (dif_neg ?_).symm
    · rfl
    · rw [emb_unit, congrFun (off12 t) 0]; show ¬ (512 + (x 0).val < 512); omega
  · obtain rfl := List.mem_singleton.mp ht'
    intro x
    have e0 : (((Rect.unit (s := S520x1024) (k0_off11 t) S512x128.size (k0_off11_inb t)).emb x 0 : Fin 520)).val = (x 0).val := by
      rw [emb_unit, congrFun (off11 t) 0]; show 0 + (x 0).val = (x 0).val; omega
    have e1 : (((Rect.unit (s := S520x1024) (k0_off11 t) S512x128.size (k0_off11_inb t)).emb x 1 : Fin 1024)).val = 128 * t.val + (x 1).val := by
      rw [emb_unit, congrFun (off11 t) 1]; rfl
    have hx0 : (x 0).val < 512 := (x 0).isLt
    refine Eq.trans ?_ (dif_pos (by rw [e0]; exact hx0)).symm
    refine (congrArg _ (eq_ix2 x)).trans ((bytes_pairs x0 x1 x2 x3 x4 x5 t x6 hpm (x 0) (x 1)).trans ?_)
    exact congrArg₂ (fun z b => (rowAt x0 x1 x2 x3 x4 x5 z).byte b) (Fin.ext e1.symm) (Fin.ext e0.symm)

theorem mem_scale (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_scale (k : Fin 8) (l : Fin 128) :
    out0_A_8 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).scale := by
  have hc := cover0_A_8 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_8
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).scale) [] _ ?_ _ (hc _)
  intro q hq
  obtain ⟨t, ht⟩ := mem_scale c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_scale (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_scale x0 x1 x2 x3 x4 x5 t (x 1)).trans ?_)
  exact congrArg (fun z => (rowAt x0 x1 x2 x3 x4 x5 z).scale) (Fin.ext (by dsimp only; rw [e0, e1]))

theorem mem_bias (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.1) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_bias (k : Fin 8) (l : Fin 128) :
    out0_A_9 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).low := by
  have hc := cover0_A_9 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_9
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).low) [] _ ?_ _ (hc _)
  intro q hq
  obtain ⟨t, ht⟩ := mem_bias c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_bias (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_bias x0 x1 x2 x3 x4 x5 t (x 1)).trans ?_)
  exact congrArg (fun z => (rowAt x0 x1 x2 x3 x4 x5 z).low) (Fin.ext (by dsimp only; rw [e0, e1]))

theorem mem_state (q : View.Piece (Elt Ideal) S8x128 .f32) (n : ℕ) (hn : n ≤ k0_t1_loop.trips)
    (hq : q ∈ (pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) n).2.2.2) :
    ∃ k, q ∈ (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) k).2.2.2.1 := by
  induction n with
  | zero => exact absurd hq List.not_mem_nil
  | succ n ih =>
    have e := pb_k0_t1_succ (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) ⟨n, hn⟩
    rw [show pb_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) (n + 1) = _ from e] at hq
    rcases List.mem_append.mp hq with h | h
    · exact ⟨_, h⟩
    · exact ih (Nat.le_of_succ_le hn) h

theorem out_state (k : Fin 8) (l : Fin 128) :
    out0_A_10 (F := Ideal) c i arg1 harg1 arg2 harg2 arg3 harg3 arg4 harg4 arg5 harg5 arg6 harg6 arg7 harg7 arg12 harg12 arg13 harg13 arg14 harg14 arg15 harg15 x0 x1 x2 x3 x4 x5 x6 (ix2 k l) = (rowAt x0 x1 x2 x3 x4 x5 ⟨128 * k.val + l.val, by omega⟩).state := by
  have hc := cover0_A_10 (F := Ideal) c i arg1 harg1 arg2 harg2 arg3 harg3 arg4 harg4 arg5 harg5 arg6 harg6 arg7 harg7 arg12 harg12 arg13 harg13 arg14 harg14 arg15 harg15 x0 x1 x2 x3 x4 x5 x6
  unfold out0_A_10
  rw [View.read_writes_eq_canon _ _ _ hc, ← List.append_nil ((kernelRun0_A (F := Ideal) c i arg1 harg1 arg2 harg2 arg3 harg3 arg4 harg4 arg5 harg5 arg6 harg6 arg7 harg7 arg12 harg12 arg13 harg13 arg14 harg14 arg15 harg15 x0 x1 x2 x3 x4 x5 x6).2.2.2.1)]
  refine View.canon_append_of_pieces (fun y : S8x128.Idx => (rowAt x0 x1 x2 x3 x4 x5 ⟨128 * (y 0).val + (y 1).val, by have h0 : (y 0).val < 8 := (y 0).isLt; have h1 : (y 1).val < 128 := (y 1).isLt; omega⟩).state) [] _ ?_ _ (hc _)
  intro q hq
  obtain ⟨t, ht⟩ := mem_state c i arg1 harg1 arg2 harg2 arg3 harg3 arg4 harg4 arg5 harg5 arg6 harg6 arg7 harg7 arg12 harg12 arg13 harg13 arg14 harg14 arg15 harg15 x0 x1 x2 x3 x4 x5 x6 q 8 le_rfl hq
  have T := trip_state (data arg1 harg1 arg2 harg2 arg3 harg3 arg4 harg4 arg5 harg5 arg6 harg6 arg7 harg7 x0 x1 x2 x3 x4 x5 x6) t Variants.none c none i harg1 harg2 harg3 harg4 harg5 harg6 harg7 arg12 harg12 arg13 harg13 arg14 harg14 arg15 harg15
  rw [data_J] at T
  have ht' := ht
  rw [show (trip_k0_t1 (F := Ideal) Variants.none c none i arg1 harg1 arg2 harg2 arg3 harg3 arg4 harg4 arg5 harg5 arg6 harg6 arg7 harg7 (Memref.whole main_arg6) (Memref.isWhole_whole _) (Memref.whole main_arg7) (Memref.isWhole_whole _) (Memref.whole main_arg8) (Memref.isWhole_whole _) (Memref.whole main_arg9) (Memref.isWhole_whole _) arg12 harg12 arg13 harg13 arg14 harg14 arg15 harg15 (harg1.unread x0) (harg2.unread x1) (harg3.unread x2) (harg4.unread x3) (harg5.unread x4) (harg6.unread x5) (harg7.unread x6) t).2.2.2.1 = _ from T] at ht'
  obtain rfl := List.mem_singleton.mp ht'
  intro x
  have e0 : (((Rect.unit (s := S8x128) (k0_off10 t) S1x128.size (k0_off10_inb t)).emb x 0 : Fin 8)).val = t.val := by
    rw [emb_unit, congrFun (off10 t) 0]; have h : (x 0).val < 1 := (x 0).isLt; show t.val + (x 0).val = t.val; omega
  have e1 : (((Rect.unit (s := S8x128) (k0_off10 t) S1x128.size (k0_off10_inb t)).emb x 1 : Fin 128)).val = (x 1).val := by
    rw [emb_unit, congrFun (off10 t) 1]; show 0 + (x 1).val = (x 1).val; omega
  refine (congrArg _ (idx_row x)).trans ((fold_state x0 x1 x2 x3 x4 x5 t (x 1)).trans ?_)
  exact congrArg (fun z => (rowAt x0 x1 x2 x3 x4 x5 z).state) (Fin.ext (by dsimp only; rw [e0, e1]))

end

end Cert.Kernel3Ideal.Block
-- ==== Proof.Reference3.lean ====
/- The last launch: the reference's results, read at an index: each slot's row of the arguments, updated as `Row.lean` says (hand part). -/
module

public import proofs.«01_k».proof.Proof.Gen.Reference3Ideal.Run
public import proofs.«01_k».proof.Proof.Reference
public import Idealize.ShloMosaic.Lib.KernelVsHost
public import Idealize.ShloMosaic.Lib.Pointwise
public import Idealize.ShloMosaic.Lib.Pipeline.Value

@[expose] public section

set_option maxRecDepth 16384

noncomputable section

namespace Cert.Reference3Ideal.Rows

open Cert.Reference3Ideal Cert.Reference3Ideal.Gen Idealize.ShloMosaic Idealize.ShloMosaic.TcCoe
open Cert.Proof.Update
open Cert.ReferenceIdeal.Rows (byte_number)

def grads (a0 : FVec Ideal S4480x4x8x128 .f32) : FVec Ideal S35840x512 .f32 :=
  shapeCast _ (transpose S4480x8x4x128 [0, 2, 1, 3] a0 transposes_S4480x4x8x128_S4480x8x4x128_0_2_1_3) shapeCasts_S4480x8x4x128_S35840x512

def plane (a2 : Vec Ideal S153728x128 .i32) (sh : BitVec 32) : Vec Ideal S35840x1x128 .i32 :=
  broadcastInDim S35840x1x128 ![0, 2] bcast_S35840x128_S35840x1x128_0_2 (andi (Host.shrui (extractStridedSlice S35840x128 ![117760, 0] a2 slices_S153728x128_S35840x128_117760_0) (broadcastInDim S35840x128 ![] bcast_S_S35840x128 (constantI S_ 32 sh))) (broadcastInDim S35840x128 ![] bcast_S_S35840x128 (constantI S_ 32 255#32)))

def planes (x0 x1 x2 x3 : Vec Ideal S35840x1x128 .i32) : Vec Ideal S35840x4x128 .i32 :=
  concatenate S35840x4x128 1 [⟨S35840x1x128, x0⟩, ⟨S35840x1x128, x1⟩, ⟨S35840x1x128, x2⟩, ⟨S35840x1x128, x3⟩] concatenates_S35840x1x128_S35840x1x128_S35840x1x128_S35840x1x128_S35840x4x128_d1

def words (a2 : Vec Ideal S153728x128 .i32) : Vec Ideal S35840x512 .i32 :=
  shapeCast _ (planes (plane a2 0#32) (plane a2 8#32) (plane a2 16#32) (plane a2 24#32)) shapeCasts_S35840x4x128_S35840x512

def scales (a3 : FVec Ideal S154624 .f32) : FVec Ideal S35840 .f32 :=
  extractStridedSlice S35840 ![117760] (shapeCast _ (transpose S151x128x8 [0, 2, 1] (shapeCast _ a3 shapeCasts_S154624_S151x8x128) transposes_S151x8x128_S151x128x8_0_2_1) shapeCasts_S151x128x8_S154624) slices_S154624_S35840_117760

def sums (a5 : FVec Ideal S153600 .f32) : FVec Ideal S35840 .f32 :=
  extractStridedSlice S35840 ![117760] (shapeCast _ (transpose S150x128x8 [0, 2, 1] (shapeCast _ a5 shapeCasts_S153600_S150x8x128) transposes_S150x8x128_S150x128x8_0_2_1) shapeCasts_S150x128x8_S153600) slices_S153600_S35840_117760

def states (a0 : FVec Ideal S4480x4x8x128 .f32) (a5 : FVec Ideal S153600 .f32) : FVec Ideal S35840 .f32 :=
  addf (sums a5) (Host.divf (Host.reduceAdd (mulf (grads a0) (grads a0)) (constant (F := Ideal) S_ .f32 0x00000000#32) reducesTo_S35840x512_S35840_d1 h_S_) (broadcastInDim S35840 ![] bcast_S_S35840 (constant (F := Ideal) S_ .f32 0x44000000#32)))

def mults (a0 : FVec Ideal S4480x4x8x128 .f32) (a5 : FVec Ideal S153600 .f32) : FVec Ideal S35840 .f32 :=
  Host.divf (broadcastInDim S35840 ![] bcast_S_S35840 (constant (F := Ideal) S_ .f32 0x3CA3D70A#32)) (addf (Host.sqrt (states a0 a5)) (broadcastInDim S35840 ![] bcast_S_S35840 (constant (F := Ideal) S_ .f32 0x322BCC77#32)))

def news (a0 : FVec Ideal S4480x4x8x128 .f32) (a2 : IVec S153728x128 32) (a3 : FVec Ideal S154624 .f32) (a4 : FVec Ideal S154624 .f32) (a5 : FVec Ideal S153600 .f32) : FVec Ideal S35840x512 .f32 :=
  subf (addf (mulf (sitofp .f32 (words a2)) (broadcastInDim S35840x512 ![0, 1] bcast_S35840x1_S35840x512_0_1 (broadcastInDim S35840x1 ![0] bcast_S35840_S35840x1_0 (scales a3)))) (broadcastInDim S35840x512 ![0, 1] bcast_S35840x1_S35840x512_0_1 (broadcastInDim S35840x1 ![0] bcast_S35840_S35840x1_0 (scales a4)))) (mulf (broadcastInDim S35840x512 ![0, 1] bcast_S35840x1_S35840x512_0_1 (broadcastInDim S35840x1 ![0] bcast_S35840_S35840x1_0 (mults a0 a5))) (grads a0))

def lows (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.reduce FloatOps.minimumf (news a0 a2 a3 a4 a5) (constant (F := Ideal) S_ .f32 0x7F800000#32) reducesTo_S35840x512_S35840_d1 h_S_

def highs (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.reduce FloatOps.maximumf (news a0 a2 a3 a4 a5) (constant (F := Ideal) S_ .f32 0xFF800000#32) reducesTo_S35840x512_S35840_d1 h_S_

def spans (a0 : FVec Ideal S4480x4x8x128 .f32) (a2 : IVec S153728x128 32) (a3 : FVec Ideal S154624 .f32) (a4 : FVec Ideal S154624 .f32) (a5 : FVec Ideal S153600 .f32) : FVec Ideal S35840 .f32 :=
  subf (highs a0 a2 a3 a4 a5) (lows a0 a2 a3 a4 a5)

def invs (a0 : FVec Ideal S4480x4x8x128 .f32) (a2 : IVec S153728x128 32) (a3 : FVec Ideal S154624 .f32) (a4 : FVec Ideal S154624 .f32) (a5 : FVec Ideal S153600 .f32) : FVec Ideal S35840 .f32 :=
  Host.divf (broadcastInDim S35840 ![] bcast_S_S35840 (constant (F := Ideal) S_ .f32 0x437F0000#32)) (addf (spans a0 a2 a3 a4 a5) (broadcastInDim S35840 ![] bcast_S_S35840 (constant (F := Ideal) S_ .f32 0x322BCC77#32)))

def noises (a1 : IVec S153600x512 32) : FVec Ideal S35840x512 .f32 :=
  mulf (uitofp .f32 (Host.shrui (extractStridedSlice S35840x512 ![117760, 0] a1 slices_S153600x512_S35840x512_117760_0) (broadcastInDim S35840x512 ![] bcast_S_S35840x512 (constantI S_ 32 8#32)))) (broadcastInDim S35840x512 ![] bcast_S_S35840x512 (constant (F := Ideal) S_ .f32 0x33800000#32))

def codes (a0 : FVec Ideal S4480x4x8x128 .f32) (a1 : IVec S153600x512 32) (a2 : IVec S153728x128 32) (a3 : FVec Ideal S154624 .f32) (a4 : FVec Ideal S154624 .f32) (a5 : FVec Ideal S153600 .f32) : FVec Ideal S35840x512 .f32 :=
  minimumf (broadcastInDim S35840x512 ![] bcast_S_S35840x512 (id (constant (F := Ideal) S_ .f32 0x437F0000#32))) (maximumf (broadcastInDim S35840x512 ![] bcast_S_S35840x512 (id (constant (F := Ideal) S_ .f32 0x00000000#32))) (Host.floor (addf (mulf (subf (news a0 a2 a3 a4 a5) (broadcastInDim S35840x512 ![0, 1] bcast_S35840x1_S35840x512_0_1 (broadcastInDim S35840x1 ![0] bcast_S35840_S35840x1_0 (lows a0 a2 a3 a4 a5)))) (broadcastInDim S35840x512 ![0, 1] bcast_S35840x1_S35840x512_0_1 (broadcastInDim S35840x1 ![0] bcast_S35840_S35840x1_0 (invs a0 a2 a3 a4 a5)))) (noises a1))))

variable (a0 : FVec Ideal S4480x4x8x128 .f32) (a1 : IVec S153600x512 32) (a2 : IVec S153728x128 32) (a3 a4 : FVec Ideal S154624 .f32) (a5 : FVec Ideal S153600 .f32)

/-- Slot `n` of the launch, as a row of the arguments. -/
def rowOf (n : Fin 35840) : Row where
  g := fun c => a0 (ix4 ⟨n.val / 8, by omega⟩ ⟨c.val / 128, by omega⟩ ⟨n.val % 8, by omega⟩ ⟨c.val % 128, by omega⟩)
  q := fun c => oldCode (a2 (ix2 ⟨117760 + n.val, by omega⟩ ⟨c.val % 128, by omega⟩)) ⟨c.val / 128, by omega⟩
  u := fun c => noise (a1 (ix2 ⟨117760 + n.val, by omega⟩ c))
  s := a3 (ix1 ⟨1024 * ((117760 + n.val) / 1024) + 128 * ((117760 + n.val) % 8) + (117760 + n.val) % 1024 / 8, by omega⟩)
  b := a4 (ix1 ⟨1024 * ((117760 + n.val) / 1024) + 128 * ((117760 + n.val) % 8) + (117760 + n.val) % 1024 / 8, by omega⟩)
  m := a5 (ix1 ⟨1024 * ((117760 + n.val) / 1024) + 128 * ((117760 + n.val) % 8) + (117760 + n.val) % 1024 / 8, by omega⟩)

variable (n : Fin 35840) (c : Fin 512)
theorem grads_apply : grads a0 (ix2 n c) = (rowOf a0 a1 a2 a3 a4 a5 n).g c := by
  pointwise [grads]
  (try rfl)

theorem scales_apply : scales a3 (ix1 n) = (rowOf a0 a1 a2 a3 a4 a5 n).s := by
  pointwise [scales]
  exact congrArg (fun z => a3 (ix1 z)) (Fin.ext (by dsimp only; omega))

theorem biases_apply : scales a4 (ix1 n) = (rowOf a0 a1 a2 a3 a4 a5 n).b := by
  pointwise [scales]
  exact congrArg (fun z => a4 (ix1 z)) (Fin.ext (by dsimp only; omega))

theorem sums_apply : sums a5 (ix1 n) = (rowOf a0 a1 a2 a3 a4 a5 n).m := by
  pointwise [sums]
  exact congrArg (fun z => a5 (ix1 z)) (Fin.ext (by dsimp only; omega))

theorem plane_apply (sh : BitVec 32) (n : Fin 35840) (l : Fin 128) :
    plane a2 sh (ix3 n 0 l) = IntOp.andi (IntOp.shrui ArithUnit.host (a2 (ix2 ⟨117760 + n.val, by omega⟩ l)) sh) 255#32 := by
  pointwise [plane]

theorem planes_apply (x : Fin 4 → Vec Ideal S35840x1x128 .i32) (n : Fin 35840) (m : Fin 4) (l : Fin 128) :
    planes (x 0) (x 1) (x 2) (x 3) (ix3 n m l) = x m (ix3 n 0 l) := by
  refine concatenate_ofFn_apply (t := S35840x4x128) (s₁ := S35840x1x128) 1 (N := 4) x _ rfl 1 rfl (ix3 n m l) m (by show m.val / 1 = m.val; omega)
    (ix3 n 0 l) (by show 0 = m.val % 1; omega) fun b hb => ?_
  match b with
  | ⟨0, _⟩ => rfl
  | ⟨1, _⟩ => exact absurd rfl hb
  | ⟨2, _⟩ => rfl

theorem words_apply : FloatOps.sitofp (F := Ideal) .f32 (words a2 (ix2 n c)) = (rowOf a0 a1 a2 a3 a4 a5 n).q c := by
  pointwise [words]
  have h := planes_apply (fun m => plane a2 (BitVec.ofNat 32 (8 * m.val))) n ⟨c.val / 128, by omega⟩ ⟨c.val % 128, by omega⟩
  refine (congrArg (FloatOps.sitofp (F := Ideal) .f32) (h.trans (plane_apply a2 _ n _))).trans ?_
  exact byte_number _ ⟨c.val / 128, by omega⟩ _ rfl

theorem states_apply : states a0 a5 (ix1 n) = (rowOf a0 a1 a2 a3 a4 a5 n).state := by
  pointwise [states, sums_apply a0 a1 a2 a3 a4 a5 n, grads_apply a0 a1 a2 a3 a4 a5 n]
  rfl

theorem mults_apply : mults a0 a5 (ix1 n) = (rowOf a0 a1 a2 a3 a4 a5 n).mult := by
  pointwise [mults, states_apply a0 a1 a2 a3 a4 a5 n]
  rfl

theorem news_apply : news a0 a2 a3 a4 a5 (ix2 n c) = (rowOf a0 a1 a2 a3 a4 a5 n).new c := by
  pointwise [news, mults_apply a0 a1 a2 a3 a4 a5 n, scales_apply a0 a1 a2 a3 a4 a5 n, biases_apply a0 a1 a2 a3 a4 a5 n, grads_apply a0 a1 a2 a3 a4 a5 n]
  rw [words_apply a0 a1 a2 a3 a4 a5 n c]
  rfl

theorem lows_apply : lows a0 a2 a3 a4 a5 (ix1 n) = (rowOf a0 a1 a2 a3 a4 a5 n).low := by
  pointwise [lows, news_apply a0 a1 a2 a3 a4 a5 n]
  exact fold_min _

theorem highs_apply : highs a0 a2 a3 a4 a5 (ix1 n) = (rowOf a0 a1 a2 a3 a4 a5 n).high := by
  pointwise [highs, news_apply a0 a1 a2 a3 a4 a5 n]
  exact fold_max _

theorem sub_at (x y : FVec Ideal S35840 .f32) (n : Fin 35840) : subf x y (ix1 n) = x (ix1 n) - y (ix1 n) := rfl

theorem spans_apply : spans a0 a2 a3 a4 a5 (ix1 n) = (rowOf a0 a1 a2 a3 a4 a5 n).span := by
  unfold spans
  rw [sub_at, highs_apply a0 a1 a2 a3 a4 a5 n, lows_apply a0 a1 a2 a3 a4 a5 n]
  exact (Row.span.eq_1 _).symm

theorem inv_at (x : FVec Ideal S35840 .f32) (n : Fin 35840) :
    Host.divf (broadcastInDim S35840 ![] bcast_S_S35840 (constant (F := Ideal) S_ .f32 0x437F0000#32)) (addf x (broadcastInDim S35840 ![] bcast_S_S35840 (constant (F := Ideal) S_ .f32 0x322BCC77#32))) (ix1 n)
      = Ideal.div (Ideal.ofBits .f32 0x437F0000#32) (x (ix1 n) + Ideal.ofBits .f32 0x322BCC77#32) := by
  pointwise

theorem scale_at (x : FVec Ideal S35840 .f32) (n : Fin 35840) :
    Host.divf x (broadcastInDim S35840 ![] bcast_S_S35840 (constant (F := Ideal) S_ .f32 0x437F0000#32)) (ix1 n)
      = Ideal.div (x (ix1 n)) (Ideal.ofBits .f32 0x437F0000#32) := by
  pointwise

theorem invs_apply : invs a0 a2 a3 a4 a5 (ix1 n) = (rowOf a0 a1 a2 a3 a4 a5 n).inv := by
  unfold invs
  rw [inv_at, spans_apply a0 a1 a2 a3 a4 a5 n]
  exact (Row.inv.eq_1 _).symm

theorem noises_apply : noises a1 (ix2 n c) = (rowOf a0 a1 a2 a3 a4 a5 n).u c := by
  pointwise [noises]
  show _ = noise _
  unfold noise IntOp.shrui
  rw [if_pos (by decide)]
  rfl

theorem codes_apply : codes a0 a1 a2 a3 a4 a5 (ix2 n c) = (rowOf a0 a1 a2 a3 a4 a5 n).code c := by
  pointwise [codes, news_apply a0 a1 a2 a3 a4 a5 n, invs_apply a0 a1 a2 a3 a4 a5 n, noises_apply a0 a1 a2 a3 a4 a5 n, lows_apply a0 a1 a2 a3 a4 a5 n]
  rfl

/-- An array of one value per slot read back in rows of 128 lanes, a padded one at a slot of the launch, and the padded array of codes. -/
theorem cast_at (y : FVec Ideal S153600 .f32) (r : Fin 1200) (l : Fin 128) :
    shapeCast S1200x128 y shapeCasts_S153600_S1200x128 (ix2 r l) = y (ix1 ⟨128 * r.val + l.val, by omega⟩) := by
  pointwise
  exact congrArg (fun z => y (ix1 z)) (Fin.ext (by dsimp only; omega))

theorem pad_at (x : FVec Ideal S35840 .f32) (z : FVec Ideal S_ .f32) (j : Fin 153600) (hj : 117760 ≤ j.val ∧ j.val < 153600) :
    pad S153600 ![117760] ![0] ![0] x z pads_S35840_S153600_11776000 h_S_ (ix1 j) = x (ix1 ⟨j.val - 117760, by omega⟩) := by
  refine pad_apply_of_inside _ _ _ x z _ _ _ (ix1 ⟨j.val - 117760, by omega⟩) fun a => ?_
  match a with
  | ⟨0, _⟩ => show j.val = 117760 + (j.val - 117760) * (0 + 1); omega

theorem lane_at (x : FVec Ideal S35840 .f32) (z : FVec Ideal S_ .f32) (r : Fin 1200) (hr : 920 ≤ r.val ∧ r.val < 1200) (l : Fin 128) :
    shapeCast S1200x128 (pad S153600 ![117760] ![0] ![0] x z pads_S35840_S153600_11776000 h_S_) shapeCasts_S153600_S1200x128 (ix2 r l)
      = x (ix1 ⟨128 * r.val + l.val - 117760, by omega⟩) :=
  (cast_at _ r l).trans (pad_at x z _ (by dsimp only; omega))

theorem byte_at (x : IVec S35840x512 8) (z : IVec S_ 8) (r : Fin 520) (hr : r.val < 512) (n : Fin 153600) (hn : 117760 ≤ n.val ∧ n.val < 153600) :
    pad S520x153600 ![0, 117760] ![8, 0] ![0, 0] (transpose S512x35840 [1, 0] x transposes_S35840x512_S512x35840_1_0) z pads_S512x35840_S520x153600_080_11776000 h_S_ (ix2 r n)
      = x (ix2 ⟨n.val - 117760, by omega⟩ ⟨r.val, hr⟩) := by
  refine (pad_apply_of_inside _ _ _ _ z _ _ _ (ix2 (⟨r.val, hr⟩ : Fin 512) ⟨n.val - 117760, by omega⟩) fun a => ?_).trans ?_
  · match a with
    | ⟨0, _⟩ => show r.val = 0 + r.val * (0 + 1); omega
    | ⟨1, _⟩ => show n.val = 117760 + (n.val - 117760) * (0 + 1); omega
  · pointwise

end Cert.Reference3Ideal.Rows

namespace Cert.Reference3Ideal.Rows

open Cert.Reference3Ideal Cert.Reference3Ideal.Gen Idealize.ShloMosaic Idealize.ShloMosaic.TcCoe
open Cert.Proof.Update

variable (m : (ℓ : Loc nD τ sig) → Buf (Elt Ideal) ℓ) (c : Dev nD)
/-- Slot `n`'s row of the arguments in memory. -/
def rowIn (n : Fin 35840) : Row := rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n

theorem res90 : Value.res_main_v90 m c = shapeCast S1200x128 (pad S153600 ![117760] ![0] ![0] (Host.divf (spans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (broadcastInDim S35840 ![] bcast_S_S35840 (constant (F := Ideal) S_ .f32 0x437F0000#32))) (sitofp .f32 (constantI S_ 32 0#32)) pads_S35840_S153600_11776000 h_S_) shapeCasts_S153600_S1200x128 := by
  unfold Value.res_main_v90
  rfl
theorem res92 : Value.res_main_v92 m c = shapeCast S1200x128 (pad S153600 ![117760] ![0] ![0] (lows (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (sitofp .f32 (constantI S_ 32 0#32)) pads_S35840_S153600_11776000 h_S_) shapeCasts_S153600_S1200x128 := by
  unfold Value.res_main_v92
  rfl
theorem res88 : Value.res_main_v88 m c = pad S520x153600 ![0, 117760] ![8, 0] ![0, 0] (transpose S512x35840 [1, 0] (trunci 8 (fptosi 32 (codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) natLt_8_32) transposes_S35840x512_S512x35840_1_0) (trunci 8 (constantI S_ 32 0#32) natLt_8_32) pads_S512x35840_S520x153600_080_11776000 h_S_ := by
  unfold Value.res_main_v88
  rfl
theorem bytes_value (r : Fin 520) (hr : r.val < 512) (n : Fin 153600) (hn : 117760 ≤ n.val ∧ n.val < 153600) :
    Value.res_main_v88 m c (ix2 r n) = (rowIn m c ⟨n.val - 117760, by omega⟩).byte ⟨r.val, hr⟩ := by
  rw [res88, byte_at _ _ r hr n hn]
  show (Ideal.fptosi 32 (codes _ _ _ _ _ _ (ix2 ⟨n.val - 117760, by omega⟩ ⟨r.val, hr⟩))).setWidth 8 = _
  rw [codes_apply]
  rfl

theorem scale_value (r : Fin 1200) (hr : 920 ≤ r.val ∧ r.val < 1200) (l : Fin 128) :
    Value.res_main_v90 m c (ix2 r l) = (rowIn m c ⟨128 * r.val + l.val - 117760, by omega⟩).scale := by
  rw [res90, lane_at _ _ r hr l, scale_at, spans_apply (a1 := m ((c.tc : Thread nD τ).loc main_arg1))]
  exact (Row.scale.eq_1 _).symm

theorem bias_value (r : Fin 1200) (hr : 920 ≤ r.val ∧ r.val < 1200) (l : Fin 128) :
    Value.res_main_v92 m c (ix2 r l) = (rowIn m c ⟨128 * r.val + l.val - 117760, by omega⟩).low := by
  rw [res92, lane_at _ _ r hr l, lows_apply (a1 := m ((c.tc : Thread nD τ).loc main_arg1))]
  rfl

/-- The accumulators as the reference leaves them. -/
def res94 : FVec Ideal S1200x128 .f32 :=
  shapeCast S1200x128 (pad S153600 ![117760] ![0] ![0] (states (m ((c.tc : Thread nD τ).loc main_arg0)) (m ((c.tc : Thread nD τ).loc main_arg5))) (sitofp .f32 (constantI S_ 32 0#32)) pads_S35840_S153600_11776000 h_S_) shapeCasts_S153600_S1200x128

theorem state_value (r : Fin 1200) (hr : 920 ≤ r.val ∧ r.val < 1200) (l : Fin 128) :
    res94 m c (ix2 r l) = (rowIn m c ⟨128 * r.val + l.val - 117760, by omega⟩).state := by
  unfold res94
  rw [lane_at _ _ r hr l, states_apply (a1 := m ((c.tc : Thread nD τ).loc main_arg1)) (a2 := m ((c.tc : Thread nD τ).loc main_arg2)) (a3 := m ((c.tc : Thread nD τ).loc main_arg3)) (a4 := m ((c.tc : Thread nD τ).loc main_arg4))]
  rfl

end Cert.Reference3Ideal.Rows
-- ==== Proof.Arrays3.lean ====
/- The last launch: the kernel's windows and results at an index: what each block holds of the arguments, and each result array
   at a slot as the row of the arguments that slot stands for (hand part). -/
module

public import proofs.«01_k».proof.Proof.Block3
public import proofs.«01_k».proof.Proof.Arrays
public import proofs.«01_k».proof.Proof.Reference3
public import proofs.«01_k».proof.Proof.Gen.Kernel3Ideal.Value
public import Idealize.ShloMosaic.Lib.Pipeline.ValueKit.Point

@[expose] public section

set_option maxRecDepth 16384

noncomputable section

namespace Cert.Kernel3Ideal.Arrays

open Cert.Kernel3Ideal Cert.Kernel3Ideal.Gen Idealize.ShloMosaic Idealize.ShloMosaic.TcCoe
open Cert.Proof.Update
open Cert.KernelIdeal.Arrays (first_word pairMat pair_at)

variable (m : (ℓ : Loc nD τ sig) → Buf (Elt Ideal) ℓ) (c : Dev nD)

/-! The host-made operands -/

theorem v0_at (k : Fin 151) (s : Fin 8) (l : Fin 128) : V m c main_v0 (ix3 k s l) = m ((c : Thread nD τ).loc main_arg3) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg3) (ix1 z)) (Fin.ext (by dsimp only; omega))

theorem v1_at (k : Fin 151) (s : Fin 8) (l : Fin 128) : V m c main_v1 (ix3 k s l) = m ((c : Thread nD τ).loc main_arg4) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg4) (ix1 z)) (Fin.ext (by dsimp only; omega))

theorem v2_at (k : Fin 150) (s : Fin 8) (l : Fin 128) : V m c main_v2 (ix3 k s l) = m ((c : Thread nD τ).loc main_arg5) (ix1 ⟨1024 * k.val + 128 * s.val + l.val, by omega⟩) := by
  unfold V
  simp only [hostOps0, hostOps0_1, hostOps0_2, hostOps0_3, hostOps0_4, List.flatten_cons, List.flatten_nil, List.append_nil, List.cons_append, List.nil_append]
  entry_read
  pointwise
  exact congrArg (fun z => m ((c : Thread nD τ).loc main_arg5) (ix1 z)) (Fin.ext (by dsimp only; omega))

theorem v13_at (a : Fin 256) : V m c main_v13 (ix2 a 0) = BitVec.ofNat 32 (firstOf a) := by
  unfold V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  exact first_word a

theorem v27_eq : V m c main_v27 = pairMat (V m c main_v13) := by
  unfold V pairMat
  simp only [hostOps0, hostOps0_1, hostOps0_2, hostOps0_3, hostOps0_4, List.flatten_cons, List.flatten_nil, List.append_nil, List.cons_append, List.nil_append]
  entry_read
  rfl

/-! The blocks -/

theorem idx0 : ∀ t : Fin cfg0.N, win0_0.index t = ![t.val, 0, 0, 0] := (by decide +kernel : ∀ t : Fin grid0.N, win0_0.index t = ![t.val, 0, 0, 0])
theorem idx1 : ∀ t : Fin cfg0.N, win0_1.index t = ![115 + t.val, 0] := (by decide +kernel : ∀ t : Fin grid0.N, win0_1.index t = ![115 + t.val, 0])
theorem idx2 : ∀ t : Fin cfg0.N, win0_2.index t = ![115 + t.val, 0] := (by decide +kernel : ∀ t : Fin grid0.N, win0_2.index t = ![115 + t.val, 0])
theorem idx3 : ∀ t : Fin cfg0.N, win0_3.index t = ![115 + t.val, 0, 0] := (by decide +kernel : ∀ t : Fin grid0.N, win0_3.index t = ![115 + t.val, 0, 0])
theorem idx4 : ∀ t : Fin cfg0.N, win0_4.index t = ![115 + t.val, 0, 0] := (by decide +kernel : ∀ t : Fin grid0.N, win0_4.index t = ![115 + t.val, 0, 0])
theorem idx5 : ∀ t : Fin cfg0.N, win0_5.index t = ![115 + t.val, 0, 0] := (by decide +kernel : ∀ t : Fin grid0.N, win0_5.index t = ![115 + t.val, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 115 + t.val] := (by decide +kernel : ∀ t : Fin grid0.N, win0_7.index t = ![0, 115 + t.val])
theorem idx8 : ∀ t : Fin cfg0.N, win0_8.index t = ![115 + t.val, 0] := (by decide +kernel : ∀ t : Fin grid0.N, win0_8.index t = ![115 + t.val, 0])
theorem idx9 : ∀ t : Fin cfg0.N, win0_9.index t = ![115 + t.val, 0] := (by decide +kernel : ∀ t : Fin grid0.N, win0_9.index t = ![115 + t.val, 0])
theorem idx10 : ∀ t : Fin cfg0.N, win0_10.index t = ![115 + t.val, 0] := (by decide +kernel : ∀ t : Fin grid0.N, win0_10.index t = ![115 + t.val, 0])

theorem blk0 (t : Fin cfg0.N) (a : Fin 128) (b : Fin 4) (d : Fin 8) (l : Fin 128) :
    iblk m c 0 t (ix4 a b d l) = (m ((c : Thread nD τ).loc main_arg0)) (ix4 ⟨128 * t.val + a.val, by have : t.val < 35 := t.isLt; omega⟩ b d l) := by
  blk_ext! [iblk, V, idx0 t]

theorem blk1 (t : Fin cfg0.N) (a : Fin 1024) (b : Fin 512) :
    iblk m c 1 t (ix2 a b) = (m ((c : Thread nD τ).loc main_arg1)) (ix2 ⟨1024 * (115 + t.val) + a.val, by have : t.val < 35 := t.isLt; omega⟩ b) := by
  blk_ext! [iblk, V, idx1 t]

theorem blk2 (t : Fin cfg0.N) (a : Fin 1024) (b : Fin 128) :
    X0_2 m c t (ix2 a b) = (m ((c : Thread nD τ).loc main_arg2)) (ix2 ⟨1024 * (115 + t.val) + a.val, by have : t.val < 35 := t.isLt; omega⟩ b) := by
  unfold X0_2 Pipeline.Window.fill; rw [dif_pos (moved0_2 t _)]
  blk_ext! [iblk, V, idx2 t]

theorem blk3 (t : Fin cfg0.N) (a : Fin 8) (b : Fin 128) :
    iblk m c 3 t (ix3 0 a b) = (m ((c : Thread nD τ).loc main_arg3)) (ix1 ⟨1024 * (115 + t.val) + 128 * a.val + b.val, by have : t.val < 35 := t.isLt; omega⟩) := by
  refine Eq.trans ?_ (v0_at m c ⟨115 + t.val, by have : t.val < 35 := t.isLt; omega⟩ a b)
  blk_ext! [iblk, idx3 t]

theorem blk4 (t : Fin cfg0.N) (a : Fin 8) (b : Fin 128) :
    iblk m c 4 t (ix3 0 a b) = (m ((c : Thread nD τ).loc main_arg4)) (ix1 ⟨1024 * (115 + t.val) + 128 * a.val + b.val, by have : t.val < 35 := t.isLt; omega⟩) := by
  refine Eq.trans ?_ (v1_at m c ⟨115 + t.val, by have : t.val < 35 := t.isLt; omega⟩ a b)
  blk_ext! [iblk, idx4 t]

theorem blk5 (t : Fin cfg0.N) (a : Fin 8) (b : Fin 128) :
    iblk m c 5 t (ix3 0 a b) = (m ((c : Thread nD τ).loc main_arg5)) (ix1 ⟨1024 * (115 + t.val) + 128 * a.val + b.val, by have : t.val < 35 := t.isLt; omega⟩) := by
  refine Eq.trans ?_ (v2_at m c ⟨115 + t.val, by have : t.val < 35 := t.isLt; omega⟩ a b)
  blk_ext! [iblk, idx5 t]

theorem blk6 (t : Fin cfg0.N) (a : Fin 256) (b : Fin 512) :
    iblk m c 6 t (ix2 a b) = V m c main_v27 (ix2 a b) := by
  blk_ext! [iblk, idx6 t]

theorem isPairs (t : Fin cfg0.N) : IsPairs (iblk m c 6 t) := fun a b =>
  (blk6 m c t a b).trans ((congrFun (v27_eq m c) (ix2 a b)).trans (pair_at _ a b (v13_at m c a)))

/-- Slot `n` of the launch, as a row of the arguments. -/
def rowOf (n : Fin 35840) : Row :=
  Cert.Reference3Ideal.Rows.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n

theorem row_eq (t : Fin cfg0.N) (j : Fin 1024) :
    Cert.KernelIdeal.Block.rowAt (iblk m c 0 t) (iblk m c 1 t) (X0_2 m c t) (iblk m c 3 t) (iblk m c 4 t) (iblk m c 5 t) j
      = rowOf m c ⟨1024 * t.val + j.val, by have : t.val < 35 := t.isLt; omega⟩ := by
  have ht : t.val < 35 := t.isLt
  unfold Cert.KernelIdeal.Block.rowAt rowOf Cert.Reference3Ideal.Rows.rowOf
  rw [Row.mk.injEq]
  refine ⟨funext fun x => ?_, funext fun x => ?_, funext fun x => ?_, ?_, ?_, ?_⟩
  · refine (blk0 m c t _ _ _ _).trans ?_
    exact congrArg₂ (fun y z => (m ((c : Thread nD τ).loc main_arg0)) (ix4 y ⟨x.val / 128, by omega⟩ z ⟨x.val % 128, by omega⟩)) (Fin.ext (by dsimp only; omega)) (Fin.ext (by dsimp only; omega))
  · refine (congrArg (fun w => oldCode w ⟨x.val / 128, by omega⟩) (blk2 m c t _ _)).trans ?_
    exact congrArg (fun z => oldCode ((m ((c : Thread nD τ).loc main_arg2)) (ix2 z ⟨x.val % 128, by omega⟩)) ⟨x.val / 128, by omega⟩) (Fin.ext (by dsimp only; omega))
  · refine (congrArg noise (blk1 m c t _ _)).trans ?_
    exact congrArg (fun z => noise ((m ((c : Thread nD τ).loc main_arg1)) (ix2 z x))) (Fin.ext (by dsimp only; omega))
  · refine (blk3 m c t _ _).trans ?_
    exact congrArg (fun z => (m ((c : Thread nD τ).loc main_arg3)) (ix1 z)) (Fin.ext (by dsimp only; omega))
  · refine (blk4 m c t _ _).trans ?_
    exact congrArg (fun z => (m ((c : Thread nD τ).loc main_arg4)) (ix1 z)) (Fin.ext (by dsimp only; omega))
  · refine (blk5 m c t _ _).trans ?_
    exact congrArg (fun z => (m ((c : Thread nD τ).loc main_arg5)) (ix1 z)) (Fin.ext (by dsimp only; omega))

/-! The result arrays -/

theorem flush8 : ∀ t : Fin cfg0.N, (cfg0.win 8).flush t = true := (by decide +kernel : ∀ t : Fin grid0.N, (cfg0.win 8).flush t = true)

theorem scale_final (r : Fin 1200) (hr : 920 ≤ r.val ∧ r.val < 1200) (l : Fin 128) :
    (dats m 0 c).arrAt 8 cfg0.N (ix2 r l) = (rowOf m c ⟨128 * r.val + l.val - 117760, by omega⟩).scale := by
  obtain ⟨t, et⟩ : ∃ t : Fin cfg0.N, t.val = r.val / 8 - 115 := ⟨⟨r.val / 8 - 115, by show r.val / 8 - 115 < 35; omega⟩, rfl⟩
  have h := congrFun (Value.blocks8 m c t (flush8 t)) (ix2 (⟨r.val % 8, by omega⟩ : Fin 8) l)
  rw [Value.flushed8_A] at h
  have e : (ix2 r l : S1200x128.Idx) = ((cfg0.win 8).blk t).view.emb (ix2 (⟨r.val % 8, by omega⟩ : Fin 8) l) := by
    blk_ext [idx8 t]
  rw [e]
  refine (Eq.trans ?_ h).trans ?_
  · rfl
  refine (Eq.trans ?_ (Block.out_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).scale) (Fin.ext (by show 1024 * t.val + (128 * (r.val % 8) + l.val) = 128 * r.val + l.val - 117760; omega))

theorem flush9 : ∀ t : Fin cfg0.N, (cfg0.win 9).flush t = true := (by decide +kernel : ∀ t : Fin grid0.N, (cfg0.win 9).flush t = true)

theorem bias_final (r : Fin 1200) (hr : 920 ≤ r.val ∧ r.val < 1200) (l : Fin 128) :
    (dats m 0 c).arrAt 9 cfg0.N (ix2 r l) = (rowOf m c ⟨128 * r.val + l.val - 117760, by omega⟩).low := by
  obtain ⟨t, et⟩ : ∃ t : Fin cfg0.N, t.val = r.val / 8 - 115 := ⟨⟨r.val / 8 - 115, by show r.val / 8 - 115 < 35; omega⟩, rfl⟩
  have h := congrFun (Value.blocks9 m c t (flush9 t)) (ix2 (⟨r.val % 8, by omega⟩ : Fin 8) l)
  rw [Value.flushed9_A] at h
  have e : (ix2 r l : S1200x128.Idx) = ((cfg0.win 9).blk t).view.emb (ix2 (⟨r.val % 8, by omega⟩ : Fin 8) l) := by
    blk_ext [idx9 t]
  rw [e]
  refine (Eq.trans ?_ h).trans ?_
  · rfl
  refine (Eq.trans ?_ (Block.out_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).low) (Fin.ext (by show 1024 * t.val + (128 * (r.val % 8) + l.val) = 128 * r.val + l.val - 117760; omega))

theorem flush10 : ∀ t : Fin cfg0.N, (cfg0.win 10).flush t = true := (by decide +kernel : ∀ t : Fin grid0.N, (cfg0.win 10).flush t = true)

theorem state_final (r : Fin 1200) (hr : 920 ≤ r.val ∧ r.val < 1200) (l : Fin 128) :
    (dats m 0 c).arrAt 10 cfg0.N (ix2 r l) = (rowOf m c ⟨128 * r.val + l.val - 117760, by omega⟩).state := by
  obtain ⟨t, et⟩ : ∃ t : Fin cfg0.N, t.val = r.val / 8 - 115 := ⟨⟨r.val / 8 - 115, by show r.val / 8 - 115 < 35; omega⟩, rfl⟩
  have h := congrFun (Value.blocks10 m c t (flush10 t)) (ix2 (⟨r.val % 8, by omega⟩ : Fin 8) l)
  rw [Value.flushed10_A] at h
  have e : (ix2 r l : S1200x128.Idx) = ((cfg0.win 10).blk t).view.emb (ix2 (⟨r.val % 8, by omega⟩ : Fin 8) l) := by
    blk_ext [idx10 t]
  rw [e]
  refine (Eq.trans ?_ h).trans ?_
  · rfl
  refine (Eq.trans ?_ (Block.out_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) ⟨r.val % 8, by omega⟩ l)).trans ?_
  · rfl
  rw [row_eq]
  exact congrArg (fun z => (rowOf m c z).state) (Fin.ext (by show 1024 * t.val + (128 * (r.val % 8) + l.val) = 128 * r.val + l.val - 117760; omega))

theorem flush7 : ∀ t : Fin cfg0.N, (cfg0.win 7).flush t = true := (by decide +kernel : ∀ t : Fin grid0.N, (cfg0.win 7).flush t = true)

theorem bytes_final (r : Fin 520) (hr : r.val < 512) (n : Fin 153600) (hn : 117760 ≤ n.val ∧ n.val < 153600) :
    (dats m 0 c).arrAt 7 cfg0.N (ix2 r n) = (rowOf m c ⟨n.val - 117760, by omega⟩).byte ⟨r.val, hr⟩ := by
  obtain ⟨t, et⟩ : ∃ t : Fin cfg0.N, t.val = n.val / 1024 - 115 := ⟨⟨n.val / 1024 - 115, by show n.val / 1024 - 115 < 35; omega⟩, rfl⟩
  have h := congrFun (Value.blocks7 m c t (flush7 t)) (ix2 r (⟨n.val % 1024, by omega⟩ : Fin 1024))
  rw [Value.flushed7_A] at h
  have e : (ix2 r n : S520x153600.Idx) = ((cfg0.win 7).blk t).view.emb (ix2 r (⟨n.val % 1024, by omega⟩ : Fin 1024)) := by
    blk_ext [idx7 t]
  rw [e]
  refine (Eq.trans ?_ h).trans ?_
  · rfl
  refine (Eq.trans ?_ (Block.out_bytes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (X0_2 m c t) (iblk m c 3 t) (iblk m c 4 t) (iblk m c 5 t) (iblk m c 6 t) (isPairs m c t) r hr ⟨n.val % 1024, by omega⟩)).trans ?_
  · rfl
  rw [row_eq]
  exact congrArg (fun z => (rowOf m c z).byte ⟨r.val, hr⟩) (Fin.ext (by show 1024 * t.val + n.val % 1024 = n.val - 117760; omega))

end Cert.Kernel3Ideal.Arrays
-- ==== Proof.Mask3.lean ====
/- The last launch: what the mask of the written elements says at an index (hand part). -/
module

public import proofs.«01_k».proof.Proof.Gen.On_written3
public import Idealize.ShloMosaic.Lib.Pointwise
public import proofs.«01_k».proof.Proof.Mask

@[expose] public section

noncomputable section

namespace Cert.On_written3.Mask

open Cert.On_written.Mask (slt_small sge_small and_both)
open Cert.On_written3 Cert.On_written3.Gen Idealize.ShloMosaic

variable (a0 : FVec Ideal S4480x4x8x128 .f32) (a1 : IVec S153600x512 32) (a2 : IVec S153728x128 32) (a3 a4 : FVec Ideal S154624 .f32) (a5 : FVec Ideal S153600 .f32)
  (a6 : IVec S520x153600 8) (a7 a8 a9 : FVec Ideal S1200x128 .f32)

theorem bytes (r : Fin 520) (n : Fin 153600) (h : (fn (F := Ideal) a0 a1 a2 a3 a4 a5 a6 a7 a8 a9).1 (ix2 r n) = 1#1) : r.val < 512 ∧ 117760 ≤ n.val ∧ n.val < 153600 := by
  have h' : IntOp.andi (IntOp.cmpi .slt (BitVec.ofNat 32 r.val) (BitVec.ofNat 32 512)) (IntOp.andi (IntOp.cmpi .sge (BitVec.ofNat 32 n.val) (BitVec.ofNat 32 117760)) (IntOp.cmpi .slt (BitVec.ofNat 32 n.val) (BitVec.ofNat 32 153600))) = 1#1 := by
    refine Eq.trans ?_ h
    show _ = (andi (cmpi .slt (iotaInDim S520x153600 32 0) (broadcastInDim S520x153600 ![] Facts.bcast_S_S520x153600 (constantI S_ 32 512#32))) (andi (cmpi .sge (iotaInDim S520x153600 32 1) (broadcastInDim S520x153600 ![] Facts.bcast_S_S520x153600 (constantI S_ 32 117760#32))) (cmpi .slt (iotaInDim S520x153600 32 1) (broadcastInDim S520x153600 ![] Facts.bcast_S_S520x153600 (constantI S_ 32 153600#32))))) (ix2 r n)
    pointwise
  have hk := and_both _ _ h'
  have hn := and_both _ _ hk.2
  exact ⟨slt_small _ _ (by omega) (by omega) hk.1, sge_small _ _ (by omega) (by omega) hn.1, slt_small _ _ (by omega) (by omega) hn.2⟩

theorem rows (r : Fin 1200) (l : Fin 128) (h : (fn (F := Ideal) a0 a1 a2 a3 a4 a5 a6 a7 a8 a9).2.1 (ix2 r l) = 1#1) : 920 ≤ r.val ∧ r.val < 1200 := by
  have h' : IntOp.andi (IntOp.cmpi .sge (BitVec.ofNat 32 r.val) (BitVec.ofNat 32 920)) (IntOp.cmpi .slt (BitVec.ofNat 32 r.val) (BitVec.ofNat 32 1200)) = 1#1 := by
    refine Eq.trans ?_ h
    show _ = (andi (cmpi .sge (iotaInDim S1200x128 32 0) (broadcastInDim S1200x128 ![] Facts.bcast_S_S1200x128 (constantI S_ 32 920#32))) (cmpi .slt (iotaInDim S1200x128 32 0) (broadcastInDim S1200x128 ![] Facts.bcast_S_S1200x128 (constantI S_ 32 1200#32)))) (ix2 r l)
    pointwise
  have hk := and_both _ _ h'
  exact ⟨sge_small _ _ (by omega) (by omega) hk.1, slt_small _ _ (by omega) (by omega) hk.2⟩

theorem rows_bias (r : Fin 1200) (l : Fin 128) (h : (fn (F := Ideal) a0 a1 a2 a3 a4 a5 a6 a7 a8 a9).2.2.1 (ix2 r l) = 1#1) : 920 ≤ r.val ∧ r.val < 1200 :=
  rows a0 a1 a2 a3 a4 a5 a6 a7 a8 a9 r l h

theorem rows_state (r : Fin 1200) (l : Fin 128) (h : (fn (F := Ideal) a0 a1 a2 a3 a4 a5 a6 a7 a8 a9).2.2.2 (ix2 r l) = 1#1) : 920 ≤ r.val ∧ r.val < 1200 :=
  rows a0 a1 a2 a3 a4 a5 a6 a7 a8 a9 r l h

end Cert.On_written3.Mask
-- ==== Proof.Launch3.lean ====
/- The last launch: its reference's frame, and the two programs' equal results where its mask is set (hand part). -/
module

public import proofs.«01_k».proof.Defs
public import proofs.«01_k».proof.Proof.Arrays3
public import proofs.«01_k».proof.Proof.Mask3
public import Idealize.ShloMosaic.Adequacy
public import Idealize.ShloMosaic.Init

@[expose] public section

noncomputable section

namespace Cert.Proof.Launch3

open Idealize.ShloMosaic Idealize.ShloMosaic.TcCoe Idealize.SL.Sem

/-- The reference runs, keeps its arguments, and has no semaphore to leave nonzero. -/
theorem frame_reference : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

section
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)
  (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
include h

/-- The two programs' rows are the same: their arguments agree. -/
theorem row_agree (n : Fin 35840) : Cert.Reference3Ideal.Rows.rowIn m' c n = Cert.Kernel3Ideal.Arrays.rowOf m c n := by
  unfold Cert.Reference3Ideal.Rows.rowIn Cert.Kernel3Ideal.Arrays.rowOf
  rw [h.1, h.2.1, h.2.2.1, h.2.2.2.1, h.2.2.2.2.1, h.2.2.2.2.2.1]

theorem bytes_agree (r : Fin 520) (hr : r.val < 512) (n : Fin 153600) (hn : 117760 ≤ n.val ∧ n.val < 153600) :
    Cert.Reference3Ideal.Value.res_main_v88 m' c (ix2 r n) = (Cert.Kernel3Ideal.Gen.dats m 0 c).arrAt 7 Cert.Kernel3Ideal.cfg0.N (ix2 r n) :=
  (Cert.Reference3Ideal.Rows.bytes_value m' c r hr n hn).trans
    ((congrArg (fun z => z.byte ⟨r.val, hr⟩) (row_agree m m' c h _)).trans (Cert.Kernel3Ideal.Arrays.bytes_final m c r hr n hn).symm)

theorem scale_agree (r : Fin 1200) (hr : 920 ≤ r.val ∧ r.val < 1200) (l : Fin 128) :
    Cert.Reference3Ideal.Value.res_main_v90 m' c (ix2 r l) = (Cert.Kernel3Ideal.Gen.dats m 0 c).arrAt 8 Cert.Kernel3Ideal.cfg0.N (ix2 r l) :=
  (Cert.Reference3Ideal.Rows.scale_value m' c r hr l).trans
    ((congrArg (fun z => z.scale) (row_agree m m' c h _)).trans (Cert.Kernel3Ideal.Arrays.scale_final m c r hr l).symm)

theorem bias_agree (r : Fin 1200) (hr : 920 ≤ r.val ∧ r.val < 1200) (l : Fin 128) :
    Cert.Reference3Ideal.Value.res_main_v92 m' c (ix2 r l) = (Cert.Kernel3Ideal.Gen.dats m 0 c).arrAt 9 Cert.Kernel3Ideal.cfg0.N (ix2 r l) :=
  (Cert.Reference3Ideal.Rows.bias_value m' c r hr l).trans
    ((congrArg (fun z => z.low) (row_agree m m' c h _)).trans (Cert.Kernel3Ideal.Arrays.bias_final m c r hr l).symm)

theorem state_agree (r : Fin 1200) (hr : 920 ≤ r.val ∧ r.val < 1200) (l : Fin 128) :
    Cert.Reference3Ideal.Rows.res94 m' c (ix2 r l) = (Cert.Kernel3Ideal.Gen.dats m 0 c).arrAt 10 Cert.Kernel3Ideal.cfg0.N (ix2 r l) :=
  (Cert.Reference3Ideal.Rows.state_value m' c r hr l).trans
    ((congrArg (fun z => z.state) (row_agree m m' c h _)).trans (Cert.Kernel3Ideal.Arrays.state_final m c r hr l).symm)

end

/-- Where the mask is set the two programs' results are equal: both are the slot's row, updated. -/
theorem algebraic : Cert.algebraic_Kernel3Ideal_Reference3Ideal_on_written3 := by
  intro m g m' g' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N, ?_, ?_⟩
  · refine (θ_run Cert.Kernel3Ideal.defs _ _).mono (fun r h c => ?_) (Cert.Kernel3Ideal.Value.run_blocks (F := Ideal) m g)
    obtain ⟨h0, h1, h2, h3, hk⟩ := h c
    exact ⟨fun i _ => congrFun h0 i, fun i _ => congrFun h1 i, fun i _ => congrFun h2 i, fun i _ => congrFun h3 i, hk⟩
  · refine (θ_run Cert.Reference3Ideal.defs _ _).mono (fun r h c => ?_) (Cert.Reference3Ideal.Value.run (F := Ideal) m' g')
    obtain ⟨h0, h1, h2, h3, hk⟩ := h c
    refine ⟨fun i hi => (congrFun h0 i).trans ?_, fun i hi => (congrFun h1 i).trans ?_, fun i hi => (congrFun h2 i).trans ?_, fun i hi => (congrFun h3 i).trans ?_, hk⟩
    · rw [eq_ix2 i] at hi ⊢
      have hb := Cert.On_written3.Mask.bytes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) hi
      exact bytes_agree m m' c (hagree c) (i 0) hb.1 (i 1) hb.2
    · rw [eq_ix2 i] at hi ⊢
      exact scale_agree m m' c (hagree c) (i 0) (Cert.On_written3.Mask.rows (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) hi) (i 1)
    · rw [eq_ix2 i] at hi ⊢
      exact bias_agree m m' c (hagree c) (i 0) (Cert.On_written3.Mask.rows_bias (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) hi) (i 1)
    · rw [eq_ix2 i] at hi ⊢
      exact state_agree m m' c (hagree c) (i 0) (Cert.On_written3.Mask.rows_state (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) hi) (i 1)

end Cert.Proof.Launch3
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_written
public import proofs.«01_k».proof.Proof.Gen.KernelIdeal.Value
public import proofs.«01_k».proof.Proof.Gen.ReferenceIdeal.Run
public import proofs.«01_k».proof.Proof.Gen.Kernel1
public import proofs.«01_k».proof.Proof.Gen.Kernel1.Skeleton
public import proofs.«01_k».proof.Proof.Gen.Kernel1.Loops
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Loops
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Kernel1Ideal.Value
public import proofs.«01_k».proof.Proof.Gen.Reference1Ideal
public import proofs.«01_k».proof.Proof.Gen.Reference1Ideal.Run
public import proofs.«01_k».proof.Proof.Gen.On_written1
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.On_written2
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.On_written3
public import proofs.«01_k».proof.Proof.Arrays
public import proofs.«01_k».proof.Proof.Mask
public import proofs.«01_k».proof.Proof.Launch1
public import proofs.«01_k».proof.Proof.Launch2
public import proofs.«01_k».proof.Proof.Launch3
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and has no semaphore to leave nonzero. -/
theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
include h

/-- The two programs' rows are the same: their arguments agree. -/
theorem row_agree (n : Fin 40960) : Cert.ReferenceIdeal.Rows.rowIn m' c n = Cert.KernelIdeal.Arrays.rowOf m c n := by
  unfold Cert.ReferenceIdeal.Rows.rowIn Cert.KernelIdeal.Arrays.rowOf
  rw [h.1, h.2.1, h.2.2.1, h.2.2.2.1, h.2.2.2.2.1, h.2.2.2.2.2]

theorem bytes_agree (r : Fin 520) (hr : r.val < 512) (n : Fin 153600) (hn : n.val < 40960) :
    Cert.ReferenceIdeal.Value.res_main_v88 m' c (ix2 r n) = (Cert.KernelIdeal.Gen.dats m 0 c).arrAt 7 Cert.KernelIdeal.cfg0.N (ix2 r n) :=
  (Cert.ReferenceIdeal.Rows.bytes_value m' c r hr n hn).trans
    ((congrArg (fun z => z.byte ⟨r.val, hr⟩) (row_agree m m' c h _)).trans (Cert.KernelIdeal.Arrays.bytes_final m c r hr n hn).symm)

theorem scale_agree (r : Fin 1200) (hr : r.val < 320) (l : Fin 128) :
    Cert.ReferenceIdeal.Value.res_main_v90 m' c (ix2 r l) = (Cert.KernelIdeal.Gen.dats m 0 c).arrAt 8 Cert.KernelIdeal.cfg0.N (ix2 r l) :=
  (Cert.ReferenceIdeal.Rows.scale_value m' c r hr l).trans
    ((congrArg (fun z => z.scale) (row_agree m m' c h _)).trans (Cert.KernelIdeal.Arrays.scale_final m c r hr l).symm)

theorem bias_agree (r : Fin 1200) (hr : r.val < 320) (l : Fin 128) :
    Cert.ReferenceIdeal.Value.res_main_v92 m' c (ix2 r l) = (Cert.KernelIdeal.Gen.dats m 0 c).arrAt 9 Cert.KernelIdeal.cfg0.N (ix2 r l) :=
  (Cert.ReferenceIdeal.Rows.bias_value m' c r hr l).trans
    ((congrArg (fun z => z.low) (row_agree m m' c h _)).trans (Cert.KernelIdeal.Arrays.bias_final m c r hr l).symm)

theorem state_agree (r : Fin 1200) (hr : r.val < 320) (l : Fin 128) :
    Cert.ReferenceIdeal.Rows.res94 m' c (ix2 r l) = (Cert.KernelIdeal.Gen.dats m 0 c).arrAt 10 Cert.KernelIdeal.cfg0.N (ix2 r l) :=
  (Cert.ReferenceIdeal.Rows.state_value m' c r hr l).trans
    ((congrArg (fun z => z.state) (row_agree m m' c h _)).trans (Cert.KernelIdeal.Arrays.state_final m c r hr l).symm)

end

/-- Where the mask is set the two programs' results are equal: both are the slot's row, updated. -/
theorem algebraic : Cert.algebraic_KernelIdeal_ReferenceIdeal_on_written := by
  intro m g m' g' _ hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N, ?_, ?_⟩
  · refine (θ_run Cert.KernelIdeal.defs _ _).mono (fun r h c => ?_) (Cert.KernelIdeal.Value.run_blocks (F := Ideal) m g)
    obtain ⟨h0, h1, h2, h3, hk⟩ := h c
    exact ⟨fun i _ => congrFun h0 i, fun i _ => congrFun h1 i, fun i _ => congrFun h2 i, fun i _ => congrFun h3 i, hk⟩
  · refine (θ_run Cert.ReferenceIdeal.defs _ _).mono (fun r h c => ?_) (Cert.ReferenceIdeal.Value.run (F := Ideal) m' g')
    obtain ⟨h0, h1, h2, h3, hk⟩ := h c
    refine ⟨fun i hi => (congrFun h0 i).trans ?_, fun i hi => (congrFun h1 i).trans ?_, fun i hi => (congrFun h2 i).trans ?_, fun i hi => (congrFun h3 i).trans ?_, hk⟩
    · rw [eq_ix2 i] at hi ⊢
      have hb := Cert.On_written.Mask.bytes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) hi
      exact bytes_agree m m' c (hagree c) (i 0) hb.1 (i 1) hb.2
    · rw [eq_ix2 i] at hi ⊢
      exact scale_agree m m' c (hagree c) (i 0) (Cert.On_written.Mask.rows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) hi) (i 1)
    · rw [eq_ix2 i] at hi ⊢
      exact bias_agree m m' c (hagree c) (i 0) (Cert.On_written.Mask.rows_bias (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) hi) (i 1)
    · rw [eq_ix2 i] at hi ⊢
      exact state_agree m m' c (hagree c) (i 0) (Cert.On_written.Mask.rows_state (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) hi) (i 1)

theorem claim : Cert.Claim := ⟨Cert.Kernel.Gen.facts, Cert.KernelIdeal.Gen.facts, Cert.ReferenceIdeal.Gen.facts, Cert.Kernel1.Gen.facts, Cert.Kernel1Ideal.Gen.facts, Cert.Reference1Ideal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.On_written.Gen.facts, Cert.On_written1.Gen.facts, Cert.On_written2.Gen.facts, Cert.On_written3.Gen.facts,
  fun m ρ _ => Cert.Kernel.Gen.frame m ρ, fun m ρ _ => Cert.KernelIdeal.Gen.frame m ρ, frame_reference,
  fun m ρ _ => Cert.Kernel1.Gen.frame m ρ, fun m ρ _ => Cert.Kernel1Ideal.Gen.frame m ρ, Launch1.frame_reference,
  fun m ρ _ => Cert.Kernel2.Gen.frame m ρ, fun m ρ _ => Cert.Kernel2Ideal.Gen.frame m ρ, Launch2.frame_reference,
  fun m ρ _ => Cert.Kernel3.Gen.frame m ρ, fun m ρ _ => Cert.Kernel3Ideal.Gen.frame m ρ, Launch3.frame_reference,
  trivial, algebraic, trivial, Launch1.algebraic, trivial, Launch2.algebraic, trivial, Launch3.algebraic⟩

end Cert.Proof

end
